-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale2" .f32 0x3E0293EE#32 (((11863283 / 134217728) * (Real.log 2)⁻¹ : ℝ) : EReal)
  ∧ IdealRules.named_const.Statement Cert.KernelIdeal.κ "mask" .f32 0xF149F2CA#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn_part1 {F : FTy → Type} [FloatOps F] (main_arg2 : FVec F S1x4096x8x128 .f32) (main_v12 : IVec S_ 1) (main_v14 : IVec S1x4096x8x128 1) (main_v15 : FVec F S1x4096x8x128 .f32) : IVec S_ 1 :=
  let main_v16 : IVec S1x4096x8x128 1 := cmpf .olt main_arg2 main_v15
  let main_v17 : IVec S1x4096x8x128 1 := andi main_v14 main_v16
  let main_c_6 : IVec S_ 1 := constantI S_ 1 1#1
  let main_v18 : IVec S_ 1 := (fun x v => Host.reduce IntOp.andi x v reducesTo_S1x4096x8x128_S_d0_1_2_3 h_S_) main_v17 main_c_6
  let main_v19 : IVec S_ 1 := andi main_v12 main_v18
  main_v19

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S_ 1 :=
  let main_cst : FVec F S_ .f32 := constant S_ .f32 0xFF800000#32
  let main_v0 : FVec F S1x256x1024 .f32 := broadcastInDim S1x256x1024 ![] bcast_S_S1x256x1024 main_cst
  let main_v1 : IVec S1x256x1024 1 := cmpf .ogt main_arg0 main_v0
  let main_cst_0 : FVec F S_ .f32 := constant S_ .f32 0x7F800000#32
  let main_v2 : FVec F S1x256x1024 .f32 := broadcastInDim S1x256x1024 ![] bcast_S_S1x256x1024 main_cst_0
  let main_v3 : IVec S1x256x1024 1 := cmpf .olt main_arg0 main_v2
  let main_v4 : IVec S1x256x1024 1 := andi main_v1 main_v3
  let main_c : IVec S_ 1 := constantI S_ 1 1#1
  let main_v5 : IVec S_ 1 := (fun x v => Host.reduce IntOp.andi x v reducesTo_S1x256x1024_S_d0_1_2 h_S_) main_v4 main_c
  let main_cst_1 : FVec F S_ .f32 := constant S_ .f32 0xFF800000#32
  let main_v6 : FVec F S1024x1024 .f32 := broadcastInDim S1024x1024 ![] bcast_S_S1024x1024 main_cst_1
  let main_v7 : IVec S1024x1024 1 := cmpf .ogt main_arg1 main_v6
  let main_cst_2 : FVec F S_ .f32 := constant S_ .f32 0x7F800000#32
  let main_v8 : FVec F S1024x1024 .f32 := broadcastInDim S1024x1024 ![] bcast_S_S1024x1024 main_cst_2
  let main_v9 : IVec S1024x1024 1 := cmpf .olt main_arg1 main_v8
  let main_v10 : IVec S1024x1024 1 := andi main_v7 main_v9
  let main_c_3 : IVec S_ 1 := constantI S_ 1 1#1
  let main_v11 : IVec S_ 1 := (fun x v => Host.reduce IntOp.andi x v reducesTo_S1024x1024_S_d0_1 h_S_) main_v10 main_c_3
  let main_v12 : IVec S_ 1 := andi main_v5 main_v11
  let main_cst_4 : FVec F S_ .f32 := constant S_ .f32 0xFF800000#32
  let main_v13 : FVec F S1x4096x8x128 .f32 := broadcastInDim S1x4096x8x128 ![] bcast_S_S1x4096x8x128 main_cst_4
  let main_v14 : IVec S1x4096x8x128 1 := cmpf .ogt main_arg2 main_v13
  let main_cst_5 : FVec F S_ .f32 := constant S_ .f32 0x7F800000#32
  let main_v15 : FVec F S1x4096x8x128 .f32 := broadcastInDim S1x4096x8x128 ![] bcast_S_S1x4096x8x128 main_cst_5
  fn_part1 (F := F) main_arg2 main_v12 main_v14 main_v15
-- ==== Pre_finite_scores_ReferenceIdeal.lean ====
abbrev S1x256x1024 : Shape := ⟨3, ![1, 256, 1024]⟩
abbrev S1024x1024 : Shape := ⟨2, ![1024, 1024]⟩
abbrev S1x32768x8x128 : Shape := ⟨4, ![1, 32768, 8, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x32768x8x128 : S_.BroadcastsInDim S1x32768x8x128 (![] : Fin 0 → Fin S1x32768x8x128.rank)
  reducesTo_S1x32768x8x128_S_d0_1_2_3 : S1x32768x8x128.ReducesTo [0, 1, 2, 3] S_

variable [Facts]

def fn_part1 {F : FTy → Type} [FloatOps F] (main_arg2 : FVec F S1x32768x8x128 .f32) (main_v12 : IVec S_ 1) (main_v14 : IVec S1x32768x8x128 1) (main_v15 : FVec F S1x32768x8x128 .f32) : IVec S_ 1 :=
  let main_v16 : IVec S1x32768x8x128 1 := cmpf .olt main_arg2 main_v15
  let main_v17 : IVec S1x32768x8x128 1 := andi main_v14 main_v16
  let main_c_6 : IVec S_ 1 := constantI S_ 1 1#1
  let main_v18 : IVec S_ 1 := (fun x v => Host.reduce IntOp.andi x v reducesTo_S1x32768x8x128_S_d0_1_2_3 h_S_) main_v17 main_c_6
  let main_v19 : IVec S_ 1 := andi main_v12 main_v18
  main_v19

def fn {F : FTy → Type} [FloatOps F] (main_arg0 : FVec F S1x256x1024 .f32) (main_arg1 : FVec F S1024x1024 .f32) (main_arg2 : FVec F S1x32768x8x128 .f32) (main_arg3 : FVec F S1x32768x8x128 .f32) (main_arg4 : FVec F S1024x1024 .f32) : IVec S_ 1 :=
  let main_cst : FVec F S_ .f32 := constant S_ .f32 0xFF800000#32
  let main_v0 : FVec F S1x256x1024 .f32 := broadcastInDim S1x256x1024 ![] bcast_S_S1x256x1024 main_cst
  let main_v1 : IVec S1x256x1024 1 := cmpf .ogt main_arg0 main_v0
  let main_cst_0 : FVec F S_ .f32 := constant S_ .f32 0x7F800000#32
  let main_v2 : FVec F S1x256x1024 .f32 := broadcastInDim S1x256x1024 ![] bcast_S_S1x256x1024 main_cst_0
  let main_v3 : IVec S1x256x1024 1 := cmpf .olt main_arg0 main_v2
  let main_v4 : IVec S1x256x1024 1 := andi main_v1 main_v3
  let main_c : IVec S_ 1 := constantI S_ 1 1#1
  let main_v5 : IVec S_ 1 := (fun x v => Host.reduce IntOp.andi x v reducesTo_S1x256x1024_S_d0_1_2 h_S_) main_v4 main_c
  let main_cst_1 : FVec F S_ .f32 := constant S_ .f32 0xFF800000#32
  let main_v6 : FVec F S1024x1024 .f32 := broadcastInDim S1024x1024 ![] bcast_S_S1024x1024 main_cst_1
  let main_v7 : IVec S1024x1024 1 := cmpf .ogt main_arg1 main_v6
  let main_cst_2 : FVec F S_ .f32 := constant S_ .f32 0x7F800000#32
  let main_v8 : FVec F S1024x1024 .f32 := broadcastInDim S1024x1024 ![] bcast_S_S1024x1024 main_cst_2
  let main_v9 : IVec S1024x1024 1 := cmpf .olt main_arg1 main_v8
  let main_v10 : IVec S1024x1024 1 := andi main_v7 main_v9
  let main_c_3 : IVec S_ 1 := constantI S_ 1 1#1
  let main_v11 : IVec S_ 1 := (fun x v => Host.reduce IntOp.andi x v reducesTo_S1024x1024_S_d0_1 h_S_) main_v10 main_c_3
  let main_v12 : IVec S_ 1 := andi main_v5 main_v11
  let main_cst_4 : FVec F S_ .f32 := constant S_ .f32 0xFF800000#32
  let main_v13 : FVec F S1x32768x8x128 .f32 := broadcastInDim S1x32768x8x128 ![] bcast_S_S1x32768x8x128 main_cst_4
  let main_v14 : IVec S1x32768x8x128 1 := cmpf .ogt main_arg2 main_v13
  let main_cst_5 : FVec F S_ .f32 := constant S_ .f32 0x7F800000#32
  let main_v15 : FVec F S1x32768x8x128 .f32 := broadcastInDim S1x32768x8x128 ![] bcast_S_S1x32768x8x128 main_cst_5
  fn_part1 (F := F) main_arg2 main_v12 main_v14 main_v15
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S3x1408x1024 : Shape := ⟨3, ![3, 1408, 1024]⟩
abbrev S2x128x1024 : Shape := ⟨3, ![2, 128, 1024]⟩
abbrev S3 : Shape := ⟨1, ![3]⟩
abbrev S4x3x64x1024 : Shape := ⟨4, ![4, 3, 64, 1024]⟩
abbrev S4x3x64x8 : Shape := ⟨4, ![4, 3, 64, 8]⟩
abbrev S4x3 : Shape := ⟨2, ![4, 3]⟩
abbrev S1 : Shape := ⟨1, ![1]⟩
abbrev S_ : Shape := ⟨0, ![]⟩
abbrev S1x64x128 : Shape := ⟨3, ![1, 64, 128]⟩
abbrev S64x128 : Shape := ⟨2, ![64, 128]⟩
abbrev S1x64x1x128 : Shape := ⟨4, ![1, 64, 1, 128]⟩
abbrev S256x1024 : Shape := ⟨2, ![256, 1024]⟩
abbrev S1x1408 : Shape := ⟨2, ![1, 1408]⟩
abbrev S64x1024 : Shape := ⟨2, ![64, 1024]⟩
abbrev S128x1024 : Shape := ⟨2, ![128, 1024]⟩
abbrev S128x128 : Shape := ⟨2, ![128, 128]⟩
abbrev S1x1408x128 : Shape := ⟨3, ![1, 1408, 128]⟩
abbrev S1408x128 : Shape := ⟨2, ![1408, 128]⟩
abbrev S128x1408 : Shape := ⟨2, ![128, 1408]⟩
abbrev S128 : Shape := ⟨1, ![128]⟩
abbrev S128x1 : Shape := ⟨2, ![128, 1]⟩
abbrev S64x1 : Shape := ⟨2, ![64, 1]⟩
abbrev S64x8 : Shape := ⟨2, ![64, 8]⟩
abbrev S1x1x64x1024 : Shape := ⟨4, ![1, 1, 64, 1024]⟩
abbrev S1x1x64x8 : Shape := ⟨4, ![1, 1, 64, 8]⟩
abbrev S1x1 : Shape := ⟨2, ![1, 1]⟩
abbrev S64x1408 : Shape := ⟨2, ![64, 1408]⟩
abbrev S64 : Shape := ⟨1, ![64]⟩
abbrev S1x128x128 : Shape := ⟨3, ![1, 128, 128]⟩
abbrev S1x64x1024 : Shape := ⟨3, ![1, 64, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S3x1408x1024, .f32⟩
  | .local _ .vmem, ⟨5, _⟩ => ⟨S3x1408x1024, .f32⟩
  | .local _ .vmem, ⟨6, _⟩ => ⟨S2x128x1024, .f32⟩
  | .local _ .vmem, ⟨7, _⟩ => ⟨S2x128x1024, .f32⟩
  | .local _ .vmem, ⟨8, _⟩ => ⟨S4x3x64x1024, .bf16⟩
  | .local _ .vmem, ⟨9, _⟩ => ⟨S4x3x64x1024, .bf16⟩
  | .local _ .vmem, ⟨10, _⟩ => ⟨S4x3x64x8, .f32⟩
  | .local _ .vmem, ⟨11, _⟩ => ⟨S4x3x64x8, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 1 55 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) (c0_i32_5 : BitVec 32) : Fin 4 → Nat :=
  let c0_i32_6 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi c0_i32 v2
  let c3_i32 : BitVec 32 := 3#32
  let c0_i32_0 : BitVec 32 := 0#32
  let v4 : BitVec 1 := Scalar.cmpi .eq c3_i32 c0_i32_0
  let c1_i32_1 : BitVec 32 := 1#32
  let v5 : BitVec 32 := Scalar.select v4 c1_i32_1 c3_i32
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.addi v13 c0_i32_5
  let c63_i32 : BitVec 32 := 63#32
  let v15 : BitVec 32 := Scalar.minsi v14 c63_i32
  let c64_i32 : BitVec 32 := 64#32
  let v16 : BitVec 32 := Scalar.muli v15 c64_i32
  let c0_i32_7 : BitVec 32 := 0#32
  let c0_i32_12 : BitVec 32 := 0#32
  ![0, v16.toNat, 0, 0]
def k0_off2 (d0 : Dev nD) (c0_i32 : BitVec 32) (c0_i32_5 : BitVec 32) : Fin 4 → Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi c0_i32 v2
  let c3_i32 : BitVec 32 := 3#32
  let c0_i32_0 : BitVec 32 := 0#32
  let v4 : BitVec 1 := Scalar.cmpi .eq c3_i32 c0_i32_0
  let c1_i32_1 : BitVec 32 := 1#32
  let v5 : BitVec 32 := Scalar.select v4 c1_i32_1 c3_i32
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.addi v13 c0_i32_5
  let c63_i32 : BitVec 32 := 63#32
  let v15 : BitVec 32 := Scalar.minsi v14 c63_i32
  let c64_i32_13 : BitVec 32 := 64#32
  let v23 : BitVec 32 := Scalar.muli v15 c64_i32_13
  let c1_i32_15 : BitVec 32 := 1#32
  let c0_i32_19 : BitVec 32 := 0#32
  ![0, v23.toNat, 1, 0]
def k0_off3 (d0 : Dev nD) (c0_i32 : BitVec 32) (c0_i32_5 : BitVec 32) : Fin 4 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi c0_i32 v2
  let c3_i32 : BitVec 32 := 3#32
  let c0_i32_0 : BitVec 32 := 0#32
  let v4 : BitVec 1 := Scalar.cmpi .eq c3_i32 c0_i32_0
  let c1_i32_1 : BitVec 32 := 1#32
  let v5 : BitVec 32 := Scalar.select v4 c1_i32_1 c3_i32
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.addi v13 c0_i32_5
  let c63_i32 : BitVec 32 := 63#32
  let v15 : BitVec 32 := Scalar.minsi v14 c63_i32
  let c64_i32_20 : BitVec 32 := 64#32
  let v30 : BitVec 32 := Scalar.muli v15 c64_i32_20
  let c2_i32 : BitVec 32 := 2#32
  let c0_i32_25 : BitVec 32 := 0#32
  ![0, v30.toNat, 2, 0]
def k0_off4 (d0 : Dev nD) (c0_i32 : BitVec 32) (c0_i32_5 : BitVec 32) : Fin 4 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi c0_i32 v2
  let c3_i32 : BitVec 32 := 3#32
  let c0_i32_0 : BitVec 32 := 0#32
  let v4 : BitVec 1 := Scalar.cmpi .eq c3_i32 c0_i32_0
  let c1_i32_1 : BitVec 32 := 1#32
  let v5 : BitVec 32 := Scalar.select v4 c1_i32_1 c3_i32
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.addi v13 c0_i32_5
  let c63_i32 : BitVec 32 := 63#32
  let v15 : BitVec 32 := Scalar.minsi v14 c63_i32
  let c64_i32_26 : BitVec 32 := 64#32
  let v37 : BitVec 32 := Scalar.muli v15 c64_i32_26
  let c3_i32_28 : BitVec 32 := 3#32
  let c0_i32_32 : BitVec 32 := 0#32
  ![0, v37.toNat, 3, 0]
def k0_off5 (d0 : Dev nD) (c0_i32 : BitVec 32) (c0_i32_5 : BitVec 32) : Fin 4 → Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi c0_i32 v2
  let c3_i32 : BitVec 32 := 3#32
  let c0_i32_0 : BitVec 32 := 0#32
  let v4 : BitVec 1 := Scalar.cmpi .eq c3_i32 c0_i32_0
  let c1_i32_1 : BitVec 32 := 1#32
  let v5 : BitVec 32 := Scalar.select v4 c1_i32_1 c3_i32
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.addi v13 c0_i32_5
  let c63_i32 : BitVec 32 := 63#32
  let v15 : BitVec 32 := Scalar.minsi v14 c63_i32
  let c64_i32_33 : BitVec 32 := 64#32
  let v44 : BitVec 32 := Scalar.muli v15 c64_i32_33
  let c4_i32 : BitVec 32 := 4#32
  let c0_i32_38 : BitVec 32 := 0#32
  ![0, v44.toNat, 4, 0]
def k0_off6 (d0 : Dev nD) (c0_i32 : BitVec 32) (c0_i32_5 : BitVec 32) : Fin 4 → Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi c0_i32 v2
  let c3_i32 : BitVec 32 := 3#32
  let c0_i32_0 : BitVec 32 := 0#32
  let v4 : BitVec 1 := Scalar.cmpi .eq c3_i32 c0_i32_0
  let c1_i32_1 : BitVec 32 := 1#32
  let v5 : BitVec 32 := Scalar.select v4 c1_i32_1 c3_i32
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.addi v13 c0_i32_5
  let c63_i32 : BitVec 32 := 63#32
  let v15 : BitVec 32 := Scalar.minsi v14 c63_i32
  let c64_i32_39 : BitVec 32 := 64#32
  let v51 : BitVec 32 := Scalar.muli v15 c64_i32_39
  let c5_i32 : BitVec 32 := 5#32
  let c0_i32_44 : BitVec 32 := 0#32
  ![0, v51.toNat, 5, 0]
def k0_off7 (d0 : Dev nD) (c0_i32 : BitVec 32) (c0_i32_5 : BitVec 32) : Fin 4 → Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi c0_i32 v2
  let c3_i32 : BitVec 32 := 3#32
  let c0_i32_0 : BitVec 32 := 0#32
  let v4 : BitVec 1 := Scalar.cmpi .eq c3_i32 c0_i32_0
  let c1_i32_1 : BitVec 32 := 1#32
  let v5 : BitVec 32 := Scalar.select v4 c1_i32_1 c3_i32
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.addi v13 c0_i32_5
  let c63_i32 : BitVec 32 := 63#32
  let v15 : BitVec 32 := Scalar.minsi v14 c63_i32
  let c64_i32_45 : BitVec 32 := 64#32
  let v58 : BitVec 32 := Scalar.muli v15 c64_i32_45
  let c6_i32 : BitVec 32 := 6#32
  let c0_i32_50 : BitVec 32 := 0#32
  ![0, v58.toNat, 6, 0]
def k0_off8 (d0 : Dev nD) (c0_i32 : BitVec 32) (c0_i32_5 : BitVec 32) : Fin 4 → Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi c0_i32 v2
  let c3_i32 : BitVec 32 := 3#32
  let c0_i32_0 : BitVec 32 := 0#32
  let v4 : BitVec 1 := Scalar.cmpi .eq c3_i32 c0_i32_0
  let c1_i32_1 : BitVec 32 := 1#32
  let v5 : BitVec 32 := Scalar.select v4 c1_i32_1 c3_i32
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.addi v13 c0_i32_5
  let c63_i32 : BitVec 32 := 63#32
  let v15 : BitVec 32 := Scalar.minsi v14 c63_i32
  let c64_i32_51 : BitVec 32 := 64#32
  let v65 : BitVec 32 := Scalar.muli v15 c64_i32_51
  let c7_i32 : BitVec 32 := 7#32
  let c0_i32_56 : BitVec 32 := 0#32
  ![0, v65.toNat, 7, 0]
def k0_dev1 (d0 : Dev nD) : Nat :=
  let c0_i32_9069 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9066 : BitVec 32 := 1#32
  let v7945 : BitVec 32 := Scalar.xori v2 c1_i32_9066
  let c1_i32_9068 : BitVec 32 := 1#32
  let v7946 : BitVec 32 := Scalar.muli v7945 c1_i32_9068
  let v7947 : BitVec 32 := Scalar.addi c0_i32_9069 v7946
  v7947.toNat
def k0_dev2 (d0 : Dev nD) : Nat :=
  let c0_i32_9073 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_9070 : BitVec 32 := 2#32
  let v7948 : BitVec 32 := Scalar.xori v2 c2_i32_9070
  let c1_i32_9072 : BitVec 32 := 1#32
  let v7949 : BitVec 32 := Scalar.muli v7948 c1_i32_9072
  let v7950 : BitVec 32 := Scalar.addi c0_i32_9073 v7949
  v7950.toNat
def k0_dev3 (d0 : Dev nD) : Nat :=
  let c0_i32_9077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9074 : BitVec 32 := 4#32
  let v7951 : BitVec 32 := Scalar.xori v2 c4_i32_9074
  let c1_i32_9076 : BitVec 32 := 1#32
  let v7952 : BitVec 32 := Scalar.muli v7951 c1_i32_9076
  let v7953 : BitVec 32 := Scalar.addi c0_i32_9077 v7952
  v7953.toNat
def k0_dev4 (d0 : Dev nD) : Nat :=
  let c0_i32_11666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11648 : BitVec 32 := 1#32
  let v10285 : BitVec 32 := Scalar.xori v2 c1_i32_11648
  let c1_i32_11665 : BitVec 32 := 1#32
  let v10293 : BitVec 32 := Scalar.muli v10285 c1_i32_11665
  let v10294 : BitVec 32 := Scalar.addi c0_i32_11666 v10293
  v10294.toNat
def k0_dev5 (d0 : Dev nD) : Nat :=
  let c0_i32_11680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11648 : BitVec 32 := 1#32
  let v10285 : BitVec 32 := Scalar.xori v2 c1_i32_11648
  let c1_i32_11679 : BitVec 32 := 1#32
  let v10303 : BitVec 32 := Scalar.muli v10285 c1_i32_11679
  let v10304 : BitVec 32 := Scalar.addi c0_i32_11680 v10303
  v10304.toNat
def k0_dev6 (d0 : Dev nD) : Nat :=
  let c0_i32_11702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11685 : BitVec 32 := 1#32
  let v10331 : BitVec 32 := Scalar.xori v2 c1_i32_11685
  let c1_i32_11701 : BitVec 32 := 1#32
  let v10339 : BitVec 32 := Scalar.muli v10331 c1_i32_11701
  let v10340 : BitVec 32 := Scalar.addi c0_i32_11702 v10339
  v10340.toNat
def k0_dev7 (d0 : Dev nD) : Nat :=
  let c0_i32_11716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11685 : BitVec 32 := 1#32
  let v10331 : BitVec 32 := Scalar.xori v2 c1_i32_11685
  let c1_i32_11715 : BitVec 32 := 1#32
  let v10349 : BitVec 32 := Scalar.muli v10331 c1_i32_11715
  let v10350 : BitVec 32 := Scalar.addi c0_i32_11716 v10349
  v10350.toNat
def k0_dev8 (d0 : Dev nD) : Nat :=
  let c0_i32_14601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14584 : BitVec 32 := 1#32
  let v12937 : BitVec 32 := Scalar.xori v2 c1_i32_14584
  let c1_i32_14600 : BitVec 32 := 1#32
  let v12945 : BitVec 32 := Scalar.muli v12937 c1_i32_14600
  let v12946 : BitVec 32 := Scalar.addi c0_i32_14601 v12945
  v12946.toNat
def k0_dev9 (d0 : Dev nD) : Nat :=
  let c0_i32_14615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14584 : BitVec 32 := 1#32
  let v12937 : BitVec 32 := Scalar.xori v2 c1_i32_14584
  let c1_i32_14614 : BitVec 32 := 1#32
  let v12955 : BitVec 32 := Scalar.muli v12937 c1_i32_14614
  let v12956 : BitVec 32 := Scalar.addi c0_i32_14615 v12955
  v12956.toNat
def k0_dev10 (d0 : Dev nD) : Nat :=
  let c0_i32_17502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_17484 : BitVec 32 := 1#32
  let v15543 : BitVec 32 := Scalar.xori v2 c1_i32_17484
  let c1_i32_17501 : BitVec 32 := 1#32
  let v15551 : BitVec 32 := Scalar.muli v15543 c1_i32_17501
  let v15552 : BitVec 32 := Scalar.addi c0_i32_17502 v15551
  v15552.toNat
def k0_dev11 (d0 : Dev nD) : Nat :=
  let c0_i32_17516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_17484 : BitVec 32 := 1#32
  let v15543 : BitVec 32 := Scalar.xori v2 c1_i32_17484
  let c1_i32_17515 : BitVec 32 := 1#32
  let v15561 : BitVec 32 := Scalar.muli v15543 c1_i32_17515
  let v15562 : BitVec 32 := Scalar.addi c0_i32_17516 v15561
  v15562.toNat
def k0_dev12 (d0 : Dev nD) : Nat :=
  let c0_i32_17603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_17585 : BitVec 32 := 2#32
  let v15609 : BitVec 32 := Scalar.xori v2 c2_i32_17585
  let c1_i32_17602 : BitVec 32 := 1#32
  let v15617 : BitVec 32 := Scalar.muli v15609 c1_i32_17602
  let v15618 : BitVec 32 := Scalar.addi c0_i32_17603 v15617
  v15618.toNat
def k0_dev13 (d0 : Dev nD) : Nat :=
  let c0_i32_17617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_17585 : BitVec 32 := 2#32
  let v15609 : BitVec 32 := Scalar.xori v2 c2_i32_17585
  let c1_i32_17616 : BitVec 32 := 1#32
  let v15627 : BitVec 32 := Scalar.muli v15609 c1_i32_17616
  let v15628 : BitVec 32 := Scalar.addi c0_i32_17617 v15627
  v15628.toNat
def k0_dev14 (d0 : Dev nD) : Nat :=
  let c0_i32_17702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_17684 : BitVec 32 := 2#32
  let v15672 : BitVec 32 := Scalar.xori v2 c2_i32_17684
  let c1_i32_17701 : BitVec 32 := 1#32
  let v15680 : BitVec 32 := Scalar.muli v15672 c1_i32_17701
  let v15681 : BitVec 32 := Scalar.addi c0_i32_17702 v15680
  v15681.toNat
def k0_dev15 (d0 : Dev nD) : Nat :=
  let c0_i32_17716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_17684 : BitVec 32 := 2#32
  let v15672 : BitVec 32 := Scalar.xori v2 c2_i32_17684
  let c1_i32_17715 : BitVec 32 := 1#32
  let v15690 : BitVec 32 := Scalar.muli v15672 c1_i32_17715
  let v15691 : BitVec 32 := Scalar.addi c0_i32_17716 v15690
  v15691.toNat
def k0_dev16 (d0 : Dev nD) : Nat :=
  let c0_i32_17801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_17783 : BitVec 32 := 2#32
  let v15735 : BitVec 32 := Scalar.xori v2 c2_i32_17783
  let c1_i32_17800 : BitVec 32 := 1#32
  let v15743 : BitVec 32 := Scalar.muli v15735 c1_i32_17800
  let v15744 : BitVec 32 := Scalar.addi c0_i32_17801 v15743
  v15744.toNat
def k0_dev17 (d0 : Dev nD) : Nat :=
  let c0_i32_17815 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_17783 : BitVec 32 := 2#32
  let v15735 : BitVec 32 := Scalar.xori v2 c2_i32_17783
  let c1_i32_17814 : BitVec 32 := 1#32
  let v15753 : BitVec 32 := Scalar.muli v15735 c1_i32_17814
  let v15754 : BitVec 32 := Scalar.addi c0_i32_17815 v15753
  v15754.toNat
def k0_dev18 (d0 : Dev nD) : Nat :=
  let c0_i32_17900 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_17882 : BitVec 32 := 2#32
  let v15798 : BitVec 32 := Scalar.xori v2 c2_i32_17882
  let c1_i32_17899 : BitVec 32 := 1#32
  let v15806 : BitVec 32 := Scalar.muli v15798 c1_i32_17899
  let v15807 : BitVec 32 := Scalar.addi c0_i32_17900 v15806
  v15807.toNat
def k0_dev19 (d0 : Dev nD) : Nat :=
  let c0_i32_17914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_17882 : BitVec 32 := 2#32
  let v15798 : BitVec 32 := Scalar.xori v2 c2_i32_17882
  let c1_i32_17913 : BitVec 32 := 1#32
  let v15816 : BitVec 32 := Scalar.muli v15798 c1_i32_17913
  let v15817 : BitVec 32 := Scalar.addi c0_i32_17914 v15816
  v15817.toNat
def k0_dev20 (d0 : Dev nD) : Nat :=
  let c0_i32_17999 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17981 : BitVec 32 := 4#32
  let v15861 : BitVec 32 := Scalar.xori v2 c4_i32_17981
  let c1_i32_17998 : BitVec 32 := 1#32
  let v15869 : BitVec 32 := Scalar.muli v15861 c1_i32_17998
  let v15870 : BitVec 32 := Scalar.addi c0_i32_17999 v15869
  v15870.toNat
def k0_dev21 (d0 : Dev nD) : Nat :=
  let c0_i32_18013 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17981 : BitVec 32 := 4#32
  let v15861 : BitVec 32 := Scalar.xori v2 c4_i32_17981
  let c1_i32_18012 : BitVec 32 := 1#32
  let v15879 : BitVec 32 := Scalar.muli v15861 c1_i32_18012
  let v15880 : BitVec 32 := Scalar.addi c0_i32_18013 v15879
  v15880.toNat
def k0_dev22 (d0 : Dev nD) : Nat :=
  let c0_i32_18098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18080 : BitVec 32 := 4#32
  let v15924 : BitVec 32 := Scalar.xori v2 c4_i32_18080
  let c1_i32_18097 : BitVec 32 := 1#32
  let v15932 : BitVec 32 := Scalar.muli v15924 c1_i32_18097
  let v15933 : BitVec 32 := Scalar.addi c0_i32_18098 v15932
  v15933.toNat
def k0_dev23 (d0 : Dev nD) : Nat :=
  let c0_i32_18112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18080 : BitVec 32 := 4#32
  let v15924 : BitVec 32 := Scalar.xori v2 c4_i32_18080
  let c1_i32_18111 : BitVec 32 := 1#32
  let v15942 : BitVec 32 := Scalar.muli v15924 c1_i32_18111
  let v15943 : BitVec 32 := Scalar.addi c0_i32_18112 v15942
  v15943.toNat
def k0_dev24 (d0 : Dev nD) : Nat :=
  let c0_i32_18197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18179 : BitVec 32 := 4#32
  let v15987 : BitVec 32 := Scalar.xori v2 c4_i32_18179
  let c1_i32_18196 : BitVec 32 := 1#32
  let v15995 : BitVec 32 := Scalar.muli v15987 c1_i32_18196
  let v15996 : BitVec 32 := Scalar.addi c0_i32_18197 v15995
  v15996.toNat
def k0_dev25 (d0 : Dev nD) : Nat :=
  let c0_i32_18211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18179 : BitVec 32 := 4#32
  let v15987 : BitVec 32 := Scalar.xori v2 c4_i32_18179
  let c1_i32_18210 : BitVec 32 := 1#32
  let v16005 : BitVec 32 := Scalar.muli v15987 c1_i32_18210
  let v16006 : BitVec 32 := Scalar.addi c0_i32_18211 v16005
  v16006.toNat
def k0_dev26 (d0 : Dev nD) : Nat :=
  let c0_i32_18296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18278 : BitVec 32 := 4#32
  let v16050 : BitVec 32 := Scalar.xori v2 c4_i32_18278
  let c1_i32_18295 : BitVec 32 := 1#32
  let v16058 : BitVec 32 := Scalar.muli v16050 c1_i32_18295
  let v16059 : BitVec 32 := Scalar.addi c0_i32_18296 v16058
  v16059.toNat
def k0_dev27 (d0 : Dev nD) : Nat :=
  let c0_i32_18310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18278 : BitVec 32 := 4#32
  let v16050 : BitVec 32 := Scalar.xori v2 c4_i32_18278
  let c1_i32_18309 : BitVec 32 := 1#32
  let v16068 : BitVec 32 := Scalar.muli v16050 c1_i32_18309
  let v16069 : BitVec 32 := Scalar.addi c0_i32_18310 v16068
  v16069.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale2" => some (((11863283 / 134217728) * (Real.log 2)⁻¹ : ℝ) : EReal)
  | _ => none
-- ==== ReferenceIdeal.lean ====
abbrev S1x256x1024 : Shape := ⟨3, ![1, 256, 1024]⟩
abbrev S1024x1024 : Shape := ⟨2, ![1024, 1024]⟩
abbrev S1x32768x8x128 : Shape := ⟨4, ![1, 32768, 8, 128]⟩
abbrev S1x256x8x128 : Shape := ⟨4, ![1, 256, 8, 128]⟩
abbrev S256 : Shape := ⟨1, ![256]⟩
abbrev S_ : Shape := ⟨0, ![]⟩
abbrev S256x1 : Shape := ⟨2, ![256, 1]⟩
abbrev S32768 : Shape := ⟨1, ![32768]⟩
abbrev S1x32768 : Shape := ⟨2, ![1, 32768]⟩
abbrev S256x32768 : Shape := ⟨2, ![256, 32768]⟩
abbrev S1x8x256x32768 : Shape := ⟨4, ![1, 8, 256, 32768]⟩
abbrev S1x1x256x32768 : Shape := ⟨4, ![1, 1, 256, 32768]⟩
abbrev S1x8x256 : Shape := ⟨3, ![1, 8, 256]⟩
abbrev S1x8x256x1 : Shape := ⟨4, ![1, 8, 256, 1]⟩
abbrev S1x1x256x1 : Shape := ⟨4, ![1, 1, 256, 1]⟩
abbrev S1x8x128x256 : Shape := ⟨4, ![1, 8, 128, 256]⟩

abbrev nBuf : Space → Nat
  | .hbm => 123
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x32768x8x128, .f32⟩
  | .hbm, ⟨3, _⟩ => ⟨S1x32768x8x128, .f32⟩
  | .hbm, ⟨4, _⟩ => ⟨S1024x1024, .f32⟩
  | .hbm, ⟨5, _⟩ => ⟨S1x256x1024, .f32⟩
  | .hbm, ⟨6, _⟩ => ⟨S1x256x8x128, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S32768, .i32⟩
  | .hbm, ⟨28, _⟩ => ⟨S_, .i32⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S32768, .i32⟩
  | .hbm, ⟨33, _⟩ => ⟨S_, .i32⟩
  | .hbm, ⟨34, _⟩ => ⟨S32768, .i32⟩
  | .hbm, ⟨35, _⟩ => ⟨S32768, .i1⟩
  | .hbm, ⟨36, _⟩ => ⟨S32768, .i32⟩
  | .hbm, ⟨37, _⟩ => ⟨S32768, .i32⟩
  | .hbm, ⟨38, _⟩ => ⟨S_, .i32⟩
  | .hbm, ⟨39, _⟩ => ⟨S32768, .i32⟩
  | .hbm, ⟨40, _⟩ => ⟨S32768, .i1⟩
  | .hbm, ⟨41, _⟩ => ⟨S32768, .i1⟩
  | .hbm, ⟨42, _⟩ => ⟨S_, .i32⟩
  | .hbm, ⟨43, _⟩ => ⟨S32768, .i32⟩
  | .hbm, ⟨44, _⟩ => ⟨S32768, .i32⟩
  | .hbm, ⟨45, _⟩ => ⟨S32768, .i32⟩
  | .hbm, ⟨46, _⟩ => ⟨S1x32768, .i32⟩
  | .hbm, ⟨47, _⟩ => ⟨S256x32768, .i32⟩
  | .hbm, ⟨48, _⟩ => ⟨S256x32768, .i32⟩
  | .hbm, ⟨49, _⟩ => ⟨S256x32768, .i1⟩
  | .hbm, ⟨50, _⟩ => ⟨S_, .i32⟩
  | .hbm, ⟨51, _⟩ => ⟨S1x32768, .i32⟩
  | .hbm, ⟨52, _⟩ => ⟨S1x32768, .i1⟩
  | .hbm, ⟨53, _⟩ => ⟨S256x32768, .i1⟩
  | .hbm, ⟨54, _⟩ => ⟨S256x32768, .i1⟩
  | .hbm, ⟨55, _⟩ => ⟨S256x32768, .i32⟩
  | .hbm, ⟨56, _⟩ => ⟨S256x32768, .i32⟩
  | .hbm, ⟨57, _⟩ => ⟨S256x32768, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x32768, .i32⟩
  | .hbm, ⟨65, _⟩ => ⟨S256x32768, .i32⟩
  | .hbm, ⟨66, _⟩ => ⟨S_, .i32⟩
  | .hbm, ⟨67, _⟩ => ⟨S256x32768, .i32⟩
  | .hbm, ⟨68, _⟩ => ⟨S256x32768, .i1⟩
  | .hbm, ⟨69, _⟩ => ⟨S_, .i32⟩
  | .hbm, ⟨70, _⟩ => ⟨S256x32768, .i32⟩
  | .hbm, ⟨71, _⟩ => ⟨S256x32768, .i1⟩
  | .hbm, ⟨72, _⟩ => ⟨S_, .i32⟩
  | .hbm, ⟨73, _⟩ => ⟨S_, .i1⟩
  | .hbm, ⟨74, _⟩ => ⟨S256x32768, .i1⟩
  | .hbm, ⟨75, _⟩ => ⟨S256x32768, .i1⟩
  | .hbm, ⟨76, _⟩ => ⟨S256x32768, .i1⟩
  | .hbm, ⟨77, _⟩ => ⟨S256x32768, .i32⟩
  | .hbm, ⟨78, _⟩ => ⟨S256x32768, .i32⟩
  | .hbm, ⟨79, _⟩ => ⟨S256x32768, .i32⟩
  | .hbm, ⟨80, _⟩ => ⟨S_, .i32⟩
  | .hbm, ⟨81, _⟩ => ⟨S256x32768, .i32⟩
  | .hbm, ⟨82, _⟩ => ⟨S256x32768, .i1⟩
  | .hbm, ⟨83, _⟩ => ⟨S256x32768, .i1⟩
  | .hbm, ⟨84, _⟩ => ⟨S1x8x256x32768, .f32⟩
  | .hbm, ⟨85, _⟩ => ⟨S_, .f32⟩
  | .hbm, ⟨86, _⟩ => ⟨S1x8x256x32768, .f32⟩
  | .hbm, ⟨87, _⟩ => ⟨S1x8x256x32768, .f32⟩
  | .hbm, ⟨88, _⟩ => ⟨S1x1x256x32768, .i1⟩
  | .hbm, ⟨89, _⟩ => ⟨S_, .f32⟩
  | .hbm, ⟨90, _⟩ => ⟨S_, .f32⟩
  | .hbm, ⟨91, _⟩ => ⟨S1x8x256x32768, .i1⟩
  | .hbm, ⟨92, _⟩ => ⟨S1x8x256x32768, .f32⟩
  | .hbm, ⟨93, _⟩ => ⟨S1x8x256x32768, .f32⟩
  | .hbm, ⟨94, _⟩ => ⟨S_, .f32⟩
  | .hbm, ⟨95, _⟩ => ⟨S1x8x256, .f32⟩
  | .hbm, ⟨96, _⟩ => ⟨S1x8x256x1, .f32⟩
  | .hbm, ⟨97, _⟩ => ⟨S1x8x256x32768, .f32⟩
  | .hbm, ⟨98, _⟩ => ⟨S1x8x256x32768, .f32⟩
  | .hbm, ⟨99, _⟩ => ⟨S1x8x256x32768, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S1x8x256, .f32⟩
  | .hbm, ⟨105, _⟩ => ⟨S1x8x256x1, .f32⟩
  | .hbm, ⟨106, _⟩ => ⟨S_, .f32⟩
  | .hbm, ⟨107, _⟩ => ⟨S_, .f32⟩
  | .hbm, ⟨108, _⟩ => ⟨S1x8x256x1, .i1⟩
  | .hbm, ⟨109, _⟩ => ⟨S1x8x256x1, .f32⟩
  | .hbm, ⟨110, _⟩ => ⟨S1x8x256x1, .f32⟩
  | .hbm, ⟨111, _⟩ => ⟨S1x8x256x32768, .f32⟩
  | .hbm, ⟨112, _⟩ => ⟨S1x8x256x32768, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S1x8x256x32768, .i1⟩
  | .hbm, ⟨117, _⟩ => ⟨S1x8x256x32768, .f32⟩
  | .hbm, ⟨118, _⟩ => ⟨S1x8x256x32768, .f32⟩
  | .hbm, ⟨119, _⟩ => ⟨S1x8x128x256, .f32⟩
  | .hbm, ⟨120, _⟩ => ⟨S1x256x8x128, .f32⟩
  | .hbm, ⟨121, _⟩ => ⟨S1x256x1024, .f32⟩
  | .hbm, ⟨122, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Kernel.Body.lean ====
module

public import proofs.«01_k».proof.Proof.Kernel.Model
import Idealize.ShloMosaic.Lib.Pipeline.Regions

public section

set_option maxRecDepth 100000
set_option maxHeartbeats 4000000

noncomputable section

namespace Cert.Kernel.Hand

open Idealize.ShloMosaic Idealize.SL.Sem
open Facts₀ Facts

variable {F : FTy → Type} [FloatOps F]
variable [Facts]

theorem printed_eq (A : Args) : (printed A : P F) = .op .deviceId fun d => model A d := by
  chain_rfl

end Cert.Kernel.Hand
end
-- ==== Proof.KernelIdeal.Model.lean ====
/- The kernel body as one short program: the same operations as the printed body, in the same order, with the
   copies, the waits, the heads and the exchange steps indexed by number instead of written out one by one.
   `Body.lean` states that the printed body is this program. -/
module

public import proofs.«01_k».proof.KernelIdeal

@[expose] public section

noncomputable section

namespace Cert.KernelIdeal.Hand

open Idealize.ShloMosaic Idealize.SL.Sem
open Facts₀ Facts

variable {F : FTy → Type} [FloatOps F] [Named F]
variable [Facts]

/-- The operands of the body, each with the evidence that it is a whole buffer. -/
structure Args where
  x : Memref sig .tc .vmem S1x256x1024 .f32
  hx : x.IsWhole
  wq : Memref sig .tc .vmem S1024x1024 .f32
  hwq : wq.IsWhole
  k : Memref sig .tc .hbm S1x4096x8x128 .f32
  hk : k.IsWhole
  v : Memref sig .tc .hbm S1x4096x8x128 .f32
  hv : v.IsWhole
  wo : Memref sig .tc .vmem S1024x1024 .f32
  hwo : wo.IsWhole
  out : Memref sig .tc .vmem S1x256x1024 .f32
  hout : out.IsWhole
  kg : Memref sig .tc .vmem S3x1408x1024 .f32
  hkg : kg.IsWhole
  vg : Memref sig .tc .vmem S3x1408x1024 .f32
  hvg : vg.IsWhole
  ke : Memref sig .tc .vmem S2x128x1024 .f32
  hke : ke.IsWhole
  ve : Memref sig .tc .vmem S2x128x1024 .f32
  hve : ve.IsWhole
  gs : DmaSems sig S3
  us : Memref sig .tc .vmem S4x3x64x1024 .bf16
  hus : us.IsWhole
  ur : Memref sig .tc .vmem S4x3x64x1024 .bf16
  hur : ur.IsWhole
  ls : Memref sig .tc .vmem S4x3x64x8 .f32
  hls : ls.IsWhole
  lr : Memref sig .tc .vmem S4x3x64x8 .f32
  hlr : lr.IsWhole
  uss : DmaSems sig S4x3
  urs : DmaSems sig S4x3
  lss : DmaSems sig S4x3
  lrs : DmaSems sig S4x3

/-- A program of the body. -/
abbrev P (F : FTy → Type) [FloatOps F] [Named F] := Prog (TpuEff nD τ sig (Elt F) Λ₀ .tc) PUnit

/-! ## The sides of the local copies -/

/-- Where head `h` of block `j` of class `r` starts in device `d`'s keys or values. -/
def off (d : Dev nD) (r : Fin 3) (j : Fin 22) : Fin 8 → Fin 4 → Nat
  | 0 => k0_off1 d (BitVec.ofNat 32 r.val) (BitVec.ofNat 32 (3 * j.val))
  | 1 => k0_off2 d (BitVec.ofNat 32 r.val) (BitVec.ofNat 32 (3 * j.val))
  | 2 => k0_off3 d (BitVec.ofNat 32 r.val) (BitVec.ofNat 32 (3 * j.val))
  | 3 => k0_off4 d (BitVec.ofNat 32 r.val) (BitVec.ofNat 32 (3 * j.val))
  | 4 => k0_off5 d (BitVec.ofNat 32 r.val) (BitVec.ofNat 32 (3 * j.val))
  | 5 => k0_off6 d (BitVec.ofNat 32 r.val) (BitVec.ofNat 32 (3 * j.val))
  | 6 => k0_off7 d (BitVec.ofNat 32 r.val) (BitVec.ofNat 32 (3 * j.val))
  | 7 => k0_off8 d (BitVec.ofNat 32 r.val) (BitVec.ofNat 32 (3 * j.val))

theorem off_inb (d : Dev nD) (r : Fin 3) (j : Fin 22) (h : Fin 8) (a : Fin 4) :
    off d r j h a + S1x64x1x128.size a ≤ S1x4096x8x128.size a := by
  revert h a
  intro h
  match h with
  | 0 => exact k0_off1_inb d r j
  | 1 => exact k0_off2_inb d r j
  | 2 => exact k0_off3_inb d r j
  | 3 => exact k0_off4_inb d r j
  | 4 => exact k0_off5_inb d r j
  | 5 => exact k0_off6_inb d r j
  | 6 => exact k0_off7_inb d r j
  | 7 => exact k0_off8_inb d r j

/-- Where head `h` of block `p` of the extra slot `s` starts: slot 0 holds blocks 0 and 1, slot 1 blocks 0 and 2. -/
def offE (s : Fin 2) (p : Fin 2) (h : Fin 8) : Fin 4 → Nat := ![0, 64 * ((s.val + 1) * p.val), h.val, 0]

omit [Facts] in
theorem offE_inb (s p : Fin 2) (h : Fin 8) (a : Fin 4) :
    offE s p h a + S1x64x1x128.size a ≤ S1x4096x8x128.size a := by
  have : (s.val + 1) * p.val ≤ 2 := Nat.mul_le_mul (by omega : s.val + 1 ≤ 2) (by omega : p.val ≤ 1)
  fin_cases a <;> simp [offE, S1x64x1x128, S1x4096x8x128] <;> omega

omit [Facts] in
theorem gath_inb (r : Fin 3) (j : Fin 22) (h : Fin 8) (a : Fin 3) :
    (![r.val, 64 * j.val, 128 * h.val] : Fin 3 → Nat) a + S1x64x128.size a ≤ S3x1408x1024.size a := by
  fin_cases a <;> simp [S1x64x128, S3x1408x1024] <;> omega

omit [Facts] in
theorem extra_inb (s p : Fin 2) (h : Fin 8) (a : Fin 3) :
    (![s.val, 64 * p.val, 128 * h.val] : Fin 3 → Nat) a + S1x64x128.size a ≤ S2x128x1024.size a := by
  fin_cases a <;> simp [S1x64x128, S2x128x1024] <;> omega

omit [Facts] in
theorem sem3_inb (r : Fin 3) (a : Fin 1) : (![r.val] : Fin 1 → Nat) a + S1.size a ≤ S3.size a := by
  fin_cases a; simp [S1, S3] <;> omega

omit [Facts] in
theorem sem43_inb (c : Fin 4) (r : Fin 3) (a : Fin 2) : (![c.val, r.val] : Fin 2 → Nat) a + S1x1.size a ≤ S4x3.size a := by
  fin_cases a <;> simp [S1x1, S4x3] <;> omega

omit [Facts] in
theorem slotU_inb (c : Fin 4) (r : Fin 3) (a : Fin 4) :
    (![c.val, r.val, 0, 0] : Fin 4 → Nat) a + S1x1x64x1024.size a ≤ S4x3x64x1024.size a := by
  fin_cases a <;> simp [S1x1x64x1024, S4x3x64x1024] <;> omega

omit [Facts] in
theorem slotL_inb (c : Fin 4) (r : Fin 3) (a : Fin 4) :
    (![c.val, r.val, 0, 0] : Fin 4 → Nat) a + S1x1x64x8.size a ≤ S4x3x64x8.size a := by
  fin_cases a <;> simp [S1x1x64x8, S4x3x64x8] <;> omega

omit [Facts] in
theorem packedU (c : Fin 4) (r : Fin 3) :
    (Rect.unit (s := S4x3x64x1024) ![c.val, r.val, 0, 0] S1x1x64x1024.size (slotU_inb c r)).PackedRows (EltTy.packing .bf16) := by
  revert c r; decide

omit [Facts] in
theorem wordsU (c : Fin 4) (r : Fin 3) :
    (Rect.unit (s := S4x3x64x1024) ![c.val, r.val, 0, 0] S1x1x64x1024.size (slotU_inb c r)).WholeWords (EltTy.packing .bf16) := by
  revert c r; decide

omit [Facts] in
theorem slabK_inb (r : Fin 3) (h : Fin 8) (a : Fin 3) :
    (![r.val, 0, 128 * h.val] : Fin 3 → Nat) a + S1x1408x128.size a ≤ S3x1408x1024.size a := by
  fin_cases a <;> simp [S1x1408x128, S3x1408x1024] <;> omega

omit [Facts] in
theorem slabE_inb (s : Fin 2) (h : Fin 8) (a : Fin 3) :
    (![s.val, 0, 128 * h.val] : Fin 3 → Nat) a + S1x128x128.size a ≤ S2x128x1024.size a := by
  fin_cases a <;> simp [S1x128x128, S2x128x1024] <;> omega

omit [Facts] in
theorem outRow_inb (c : Fin 4) (a : Fin 3) :
    (![0, 64 * c.val, 0] : Fin 3 → Nat) a + S1x64x1024.size a ≤ S1x256x1024.size a := by
  fin_cases a <;> simp [S1x64x1024, S1x256x1024] <;> omega

/-- Keys (0) or values (1), as the device holds them. -/
def kvM (A : Args) : Fin 2 → Memref sig .tc .hbm S1x4096x8x128 .f32
  | 0 => A.k
  | 1 => A.v

/-- The gathered keys (0) or values (1). -/
def gM (A : Args) : Fin 2 → Memref sig .tc .vmem S3x1408x1024 .f32
  | 0 => A.kg
  | 1 => A.vg

/-- The extra keys (0) or values (1). -/
def eM (A : Args) : Fin 2 → Memref sig .tc .vmem S2x128x1024 .f32
  | 0 => A.ke
  | 1 => A.ve

/-- The 64×128 window of the keys or values that a copy reads. -/
abbrev srcV (A : Args) (kv : Fin 2) (o : Fin 4 → Nat) (ho : ∀ a, o a + S1x64x1x128.size a ≤ S1x4096x8x128.size a) :
    Memref sig .tc .hbm S64x128 .f32 :=
  ((kvM A kv).slice (Rect.unit (s := S1x4096x8x128) o S1x64x1x128.size ho) (fun _ => rfl)).squeeze S64x128 squeezes_S1x64x1x128_S64x128

/-- The 64×128 window of the gathered keys or values that a copy writes. -/
abbrev dstG (A : Args) (kv : Fin 2) (r : Fin 3) (j : Fin 22) (h : Fin 8) : Memref sig .tc .vmem S64x128 .f32 :=
  ((gM A kv).slice (Rect.unit (s := S3x1408x1024) ![r.val, 64 * j.val, 128 * h.val] S1x64x128.size (gath_inb r j h)) (fun _ => rfl)).squeeze S64x128 squeezes_S1x64x128_S64x128

/-- The 64×128 window of the extra keys or values that a copy writes. -/
abbrev dstE (A : Args) (kv : Fin 2) (s p : Fin 2) (h : Fin 8) : Memref sig .tc .vmem S64x128 .f32 :=
  ((eM A kv).slice (Rect.unit (s := S2x128x1024) ![s.val, 64 * p.val, 128 * h.val] S1x64x128.size (extra_inb s p h)) (fun _ => rfl)).squeeze S64x128 squeezes_S1x64x128_S64x128

/-- The semaphore of class `r`'s copies. -/
abbrev gsem (A : Args) (r : Fin 3) : DmaSem sig :=
  ((A.gs.slice (Rect.unit (s := S3) ![r.val] S1.size (sem3_inb r))).squeeze S_ squeezes_S1_S_).sem

/-- Copy number `t` of class `r`: block `t / 16`, keys before values, head `t % 8`. -/
abbrev jOf (t : Nat) : Fin 22 := ⟨t / 16 % 22, Nat.mod_lt _ (by decide)⟩
abbrev kvOf (t : Nat) : Fin 2 := ⟨t / 8 % 2, Nat.mod_lt _ (by decide)⟩
abbrev hOf (t : Nat) : Fin 8 := ⟨t % 8, Nat.mod_lt _ (by decide)⟩
abbrev b2Of (t : Nat) : Fin 2 := ⟨t % 2, Nat.mod_lt _ (by decide)⟩

/-- The class whose rows use extra slot `s`. -/
def clsE : Fin 2 → Fin 3
  | 0 => 2
  | 1 => 1

/-- The `t`-th copy of class `r`. -/
def enqG (A : Args) (d : Dev nD) (r : Fin 3) (t : Nat) : TpuEff nD τ sig (Elt F) Λ₀ .tc PUnit :=
  .enqueueDma (srcV A (kvOf t) (off d r (jOf t) (hOf t)) (off_inb d r (jOf t) (hOf t)))
    (.here (dstG A (kvOf t) r (jOf t) (hOf t))) (.dma (gsem A r))
    ((View.wordExact_bits rfl).reshape _ _) ((View.wordExact_bits rfl).reshape _ _) ⟨Or.inl rfl, trivial⟩

/-- The wait of the `t`-th copy of class `r`. -/
def waitG (A : Args) (d : Dev nD) (r : Fin 3) (t : Nat) : TpuEff nD τ sig (Elt F) Λ₀ .tc PUnit :=
  .waitDma2 (gsem A r) (srcV A (kvOf t) (off d r (jOf t) (hOf t)) (off_inb d r (jOf t) (hOf t)))
    (dstG A (kvOf t) r (jOf t) (hOf t))
    ((View.wordExact_bits rfl).reshape _ _) ((View.wordExact_bits rfl).reshape _ _)

/-- The copy of head `h` of block `p` of the extra slot `s`. -/
def enqE (A : Args) (kv s p : Fin 2) (h : Fin 8) : TpuEff nD τ sig (Elt F) Λ₀ .tc PUnit :=
  .enqueueDma (srcV A kv (offE s p h) (offE_inb s p h))
    (.here (dstE A kv s p h)) (.dma (gsem A (clsE s)))
    ((View.wordExact_bits rfl).reshape _ _) ((View.wordExact_bits rfl).reshape _ _) ⟨Or.inl rfl, trivial⟩

/-- Its wait. -/
def waitE (A : Args) (kv s p : Fin 2) (h : Fin 8) : TpuEff nD τ sig (Elt F) Λ₀ .tc PUnit :=
  .waitDma2 (gsem A (clsE s)) (srcV A kv (offE s p h) (offE_inb s p h)) (dstE A kv s p h)
    ((View.wordExact_bits rfl).reshape _ _) ((View.wordExact_bits rfl).reshape _ _)

/-- The `t`-th extra copy in the order of issue: keys before values, then the slot, the block, the head. -/
def enqX (A : Args) (t : Nat) : TpuEff nD τ sig (Elt F) Λ₀ .tc PUnit :=
  enqE A (b2Of (t / 32)) (b2Of (t / 16)) (b2Of (t / 8)) (hOf t)

/-- The wait of slot `s`'s `t`-th extra copy: keys before values, then the block, the head. -/
def waitX (A : Args) (s : Fin 2) (t : Nat) : TpuEff nD τ sig (Elt F) Λ₀ .tc PUnit :=
  waitE A (b2Of (t / 16)) s (b2Of (t / 8)) (hOf t)

/-- The last `n` of the `N` operations `op 0, …, op (N - 1)`, then `k`. -/
def run (op : Nat → TpuEff nD τ sig (Elt F) Λ₀ .tc PUnit) (N : Nat) : Nat → P F → P F
  | 0, k => k
  | n + 1, k => .op (op (N - (n + 1))) fun _ => run op N n k

/-! ## The pure values -/

/-- The device's number, as the body computes it. -/
def my (d : Dev nD) : BitVec 32 := Scalar.remsi (Scalar.divsi (Dev.word d) 1#32) 8#32

/-- The device's number modulo 3, as the body computes it. -/
def my3 (d : Dev nD) : BitVec 32 :=
  let c : BitVec 32 := Scalar.select (Scalar.cmpi .eq 3#32 0#32) 1#32 3#32
  let m : BitVec 32 := Scalar.remsi (my d) c
  Scalar.select (Scalar.andi (Scalar.xori (Scalar.cmpi .slt m 0#32) (Scalar.cmpi .slt c 0#32)) (Scalar.cmpi .ne m 0#32))
    (Scalar.addi m c) m

/-- The scale of the queries, and the mask. -/
def scaleC : F .f32 := Named.named κ "scale2" 0x3E0293EE#32
def maskC : F .f32 := Named.named κ "mask" 0xF149F2CA#32

/-- The queries: the whole projection, scaled. -/
def qAll (xv : Vec F S1x256x1024 .f32) (wv : Vec F S1024x1024 .f32) : FVec F S256x1024 .bf16 :=
  truncf .bf16 (mulf (matmul dot_S256x1024_S1024x1024_S256x1024_1_0_0_1_n_n none
      (truncf .bf16 (shapeCast S256x1024 xv shapeCasts_S1x256x1024_S256x1024) bitsLt_bf16_f32)
      (truncf .bf16 (shapeCast S1024x1024 wv shapeCasts_S1024x1024_S1024x1024) bitsLt_bf16_f32)
      (constant S256x1024 .f32 0x00000000#32))
    (broadcast S256x1024 scaleC)) bitsLt_bf16_f32

/-- The bias of class `r`: the last block is masked unless `r` is the device's number modulo 3. -/
def biasG (d : Dev nD) (r : BitVec 32) : FVec F S1x1408 .bf16 :=
  truncf .bf16 (select (cmpi .slt (iota .tc S1x1408 32 [1] iota_S1x1408_d1_w32)
      (broadcast S1x1408 (Scalar.select (Scalar.cmpi .eq (my3 d) r) 1408#32 1344#32)))
    (broadcast S1x1408 (Scalar.ofBits .f32 0x00000000#32 : F .f32)) (broadcast S1x1408 maskC)) bitsLt_bf16_f32

/-- The bias of the extra blocks: masked on every device but device 0. -/
def biasE (d : Dev nD) : F .bf16 :=
  Scalar.truncf .bf16 bitsLt_bf16_f32
    (Scalar.select (Scalar.cmpi .eq (my d) 0#32) (Scalar.ofBits .f32 0x00000000#32) maskC)

/-- The queries of class 0: chunks 0 and 3. -/
def q0 (q : FVec F S256x1024 .bf16) : FVec F S128x1024 .bf16 :=
  concatenate S128x1024 0 [⟨S64x1024, extractStridedSlice S64x1024 ![0, 0] q slices_S256x1024_o0_0_S64x1024⟩,
    ⟨S64x1024, extractStridedSlice S64x1024 ![192, 0] q slices_S256x1024_o192_0_S64x1024⟩] concatenates_S64x1024_S64x1024_S128x1024_d0

/-- The queries of the extra slot 0's class (class 2: chunk 1) and of slot 1's (class 1: chunk 2). -/
def qX (q : FVec F S256x1024 .bf16) : Fin 2 → FVec F S64x1024 .bf16
  | 0 => extractStridedSlice S64x1024 ![64, 0] q slices_S256x1024_o64_0_S64x1024
  | 1 => extractStridedSlice S64x1024 ![128, 0] q slices_S256x1024_o128_0_S64x1024

theorem slices_q0 (h : Fin 8) : S128x1024.Slices ![0, 128 * h.val] S128x128 := by
  match h with
  | 0 => exact slices_S128x1024_o0_0_S128x128
  | 1 => exact slices_S128x1024_o0_128_S128x128
  | 2 => exact slices_S128x1024_o0_256_S128x128
  | 3 => exact slices_S128x1024_o0_384_S128x128
  | 4 => exact slices_S128x1024_o0_512_S128x128
  | 5 => exact slices_S128x1024_o0_640_S128x128
  | 6 => exact slices_S128x1024_o0_768_S128x128
  | 7 => exact slices_S128x1024_o0_896_S128x128

theorem slices_q64 (h : Fin 8) : S64x1024.Slices ![0, 128 * h.val] S64x128 := by
  match h with
  | 0 => exact slices_S64x1024_o0_0_S64x128
  | 1 => exact slices_S64x1024_o0_128_S64x128
  | 2 => exact slices_S64x1024_o0_256_S64x128
  | 3 => exact slices_S64x1024_o0_384_S64x128
  | 4 => exact slices_S64x1024_o0_512_S64x128
  | 5 => exact slices_S64x1024_o0_640_S64x128
  | 6 => exact slices_S64x1024_o0_768_S64x128
  | 7 => exact slices_S64x1024_o0_896_S64x128

theorem slices_l (h : Fin 8) : S64x8.Slices ![0, h.val] S64x1 := by
  match h with
  | 0 => exact slices_S64x8_o0_0_S64x1
  | 1 => exact slices_S64x8_o0_1_S64x1
  | 2 => exact slices_S64x8_o0_2_S64x1
  | 3 => exact slices_S64x8_o0_3_S64x1
  | 4 => exact slices_S64x8_o0_4_S64x1
  | 5 => exact slices_S64x8_o0_5_S64x1
  | 6 => exact slices_S64x8_o0_6_S64x1
  | 7 => exact slices_S64x8_o0_7_S64x1

/-- The weights of 128 rows of queries against a class's gathered keys. -/
def w128 (q : FVec F S128x1024 .bf16) (b : FVec F S1x1408 .bf16) (h : Fin 8) (kv : Vec F S1x1408x128 .f32) : FVec F S128x1408 .bf16 :=
  exp2 (addf (truncf .bf16 (matmul dot_S128x128_S1408x128_S128x1408_1_1_0_0_n_n none
      (extractStridedSlice S128x128 ![0, 128 * h.val] q (slices_q0 h))
      (truncf .bf16 (shapeCast S1408x128 kv shapeCasts_S1x1408x128_S1408x128) bitsLt_bf16_f32)
      (constant S128x1408 .f32 0x00000000#32)) bitsLt_bf16_f32)
    (broadcastTo S128x1408 b broadcasts_S1x1408_S128x1408))

/-- The weighted values of 128 rows. -/
def u128 (w : FVec F S128x1408 .bf16) (vv : Vec F S1x1408x128 .f32) : FVec F S128x128 .f32 :=
  matmul dot_S128x1408_S1408x128_S128x128_1_0_0_1_n_n none w
    (truncf .bf16 (shapeCast S1408x128 vv shapeCasts_S1x1408x128_S1408x128) bitsLt_bf16_f32) (constant S128x128 .f32 0x00000000#32)

/-- The sums of the weights of 128 rows. -/
def l128 (w : FVec F S128x1408 .bf16) : FVec F S128x1 .f32 :=
  shapeCast S128x1 (multiReduction .add [1] S128 (extf .f32 w bitsLt_bf16_f32) 0x00000000#32 reduces_S128x1408_S128 (.inl rfl) rfl) shapeCasts_S128_S128x1

/-- The weights of 64 rows of queries against a class's gathered keys. -/
def w64 (q : FVec F S64x1024 .bf16) (b : FVec F S1x1408 .bf16) (h : Fin 8) (kv : Vec F S1x1408x128 .f32) : FVec F S64x1408 .bf16 :=
  exp2 (addf (truncf .bf16 (matmul dot_S64x128_S1408x128_S64x1408_1_1_0_0_n_n none
      (extractStridedSlice S64x128 ![0, 128 * h.val] q (slices_q64 h))
      (truncf .bf16 (shapeCast S1408x128 kv shapeCasts_S1x1408x128_S1408x128) bitsLt_bf16_f32)
      (constant S64x1408 .f32 0x00000000#32)) bitsLt_bf16_f32)
    (broadcastTo S64x1408 b broadcasts_S1x1408_S64x1408))

/-- The weights of 64 rows of queries against the extra keys. -/
def wE (q : FVec F S64x1024 .bf16) (b : F .bf16) (h : Fin 8) (kv : Vec F S1x128x128 .f32) : FVec F S64x128 .bf16 :=
  exp2 (addf (truncf .bf16 (matmul dot_S64x128_S128x128_S64x128_1_1_0_0_n_n none
      (extractStridedSlice S64x128 ![0, 128 * h.val] q (slices_q64 h))
      (truncf .bf16 (shapeCast S128x128 kv shapeCasts_S1x128x128_S128x128) bitsLt_bf16_f32)
      (constant S64x128 .f32 0x00000000#32)) bitsLt_bf16_f32)
    (broadcast S64x128 b))

/-- The weighted values of 64 rows: the gathered ones and the extra ones. -/
def u64 (w : FVec F S64x1408 .bf16) (vv : Vec F S1x1408x128 .f32) (e : FVec F S64x128 .bf16) (ve : Vec F S1x128x128 .f32) : FVec F S64x128 .f32 :=
  addf (matmul dot_S64x1408_S1408x128_S64x128_1_0_0_1_n_n none w
      (truncf .bf16 (shapeCast S1408x128 vv shapeCasts_S1x1408x128_S1408x128) bitsLt_bf16_f32) (constant S64x128 .f32 0x00000000#32))
    (matmul dot_S64x128_S128x128_S64x128_1_0_0_1_n_n none e
      (truncf .bf16 (shapeCast S128x128 ve shapeCasts_S1x128x128_S128x128) bitsLt_bf16_f32) (constant S64x128 .f32 0x00000000#32))

/-- The sums of the weights of 64 rows. -/
def l64 (w : FVec F S64x1408 .bf16) (e : FVec F S64x128 .bf16) : FVec F S64x1 .f32 :=
  addf (shapeCast S64x1 (multiReduction .add [1] S64 (extf .f32 w bitsLt_bf16_f32) 0x00000000#32 reduces_S64x1408_S64 (.inl rfl) rfl) shapeCasts_S64_S64x1)
    (shapeCast S64x1 (multiReduction .add [1] S64 (extf .f32 e bitsLt_bf16_f32) 0x00000000#32 reduces_S64x128_S64 (.inl rfl) rfl) shapeCasts_S64_S64x1)

/-- Eight heads side by side. -/
def catU (u : Fin 8 → FVec F S64x128 .f32) : FVec F S64x1024 .f32 :=
  concatenate S64x1024 1 [⟨S64x128, u 0⟩, ⟨S64x128, u 1⟩, ⟨S64x128, u 2⟩, ⟨S64x128, u 3⟩, ⟨S64x128, u 4⟩, ⟨S64x128, u 5⟩, ⟨S64x128, u 6⟩, ⟨S64x128, u 7⟩]
    concatenates_S64x128_S64x128_S64x128_S64x128_S64x128_S64x128_S64x128_S64x128_S64x1024_d1

def catL (l : Fin 8 → FVec F S64x1 .f32) : FVec F S64x8 .f32 :=
  concatenate S64x8 1 [⟨S64x1, l 0⟩, ⟨S64x1, l 1⟩, ⟨S64x1, l 2⟩, ⟨S64x1, l 3⟩, ⟨S64x1, l 4⟩, ⟨S64x1, l 5⟩, ⟨S64x1, l 6⟩, ⟨S64x1, l 7⟩]
    concatenates_S64x1_S64x1_S64x1_S64x1_S64x1_S64x1_S64x1_S64x1_S64x8_d1

/-- One head of the attention's result: the weighted values over the sum of the weights. -/
def ctxH (u : FVec F S64x1024 .f32) (l : FVec F S64x8 .f32) (h : Fin 8) : FVec F S64x128 .bf16 :=
  truncf .bf16 (divf (extractStridedSlice S64x128 ![0, 128 * h.val] u (slices_q64 h))
    (broadcastTo S64x128 (extractStridedSlice S64x1 ![0, h.val] l (slices_l h)) broadcasts_S64x1_S64x128)) bitsLt_bf16_f32

/-- The rows of the result that a chunk's totals give. -/
def outV (wov : Vec F S1024x1024 .f32) (u : FVec F S64x1024 .f32) (l : FVec F S64x8 .f32) : FVec F S64x1024 .f32 :=
  matmul dot_S64x1024_S1024x1024_S64x1024_1_0_0_1_n_n none
    (concatenate S64x1024 1 [⟨S64x128, ctxH u l 0⟩, ⟨S64x128, ctxH u l 1⟩, ⟨S64x128, ctxH u l 2⟩, ⟨S64x128, ctxH u l 3⟩, ⟨S64x128, ctxH u l 4⟩, ⟨S64x128, ctxH u l 5⟩, ⟨S64x128, ctxH u l 6⟩, ⟨S64x128, ctxH u l 7⟩]
      concatenates_S64x128_S64x128_S64x128_S64x128_S64x128_S64x128_S64x128_S64x128_S64x1024_d1)
    (truncf .bf16 (shapeCast S1024x1024 wov shapeCasts_S1024x1024_S1024x1024) bitsLt_bf16_f32) (constant S64x1024 .f32 0x00000000#32)

/-! ## The heads -/

/-- Eight steps, each giving a value, then `k` on the eight. -/
def eight {α : Type} (step : Fin 8 → (α → P F) → P F) (k : (Fin 8 → α) → P F) : P F :=
  step 0 fun a0 => step 1 fun a1 => step 2 fun a2 => step 3 fun a3 => step 4 fun a4 => step 5 fun a5 => step 6 fun a6 => step 7 fun a7 =>
    k ![a0, a1, a2, a3, a4, a5, a6, a7]

/-- The load of head `h` of class `r`'s gathered keys or values. -/
def ldG (A : Args) (kv : Fin 2) (r : Fin 3) (h : Fin 8) : TpuEff nD τ sig (Elt F) Λ₀ .tc (Vec F S1x1408x128 .f32) :=
  .load (gM A kv) (Rect.unit (s := S3x1408x1024) ![r.val, 0, 128 * h.val] S1x1408x128.size (slabK_inb r h)).toLoadRect (View.loadsAt_vmem h_S1x1408x128)

/-- The load of head `h` of slot `s`'s extra keys or values. -/
def ldE (A : Args) (kv s : Fin 2) (h : Fin 8) : TpuEff nD τ sig (Elt F) Λ₀ .tc (Vec F S1x128x128 .f32) :=
  .load (eM A kv) (Rect.unit (s := S2x128x1024) ![s.val, 0, 128 * h.val] S1x128x128.size (slabE_inb s h)).toLoadRect (View.loadsAt_vmem h_S1x128x128)

/-- One head of class 0. -/
def head0 (A : Args) (q : FVec F S128x1024 .bf16) (b : FVec F S1x1408 .bf16) (h : Fin 8)
    (k : FVec F S128x128 .f32 × FVec F S128x1 .f32 → P F) : P F :=
  .op (ldG A 0 0 h) fun kv => .op (ldG A 1 0 h) fun vv => k (u128 (w128 q b h kv) vv, l128 (w128 q b h kv))

/-- One head of the extra slot `s`'s class. -/
def headX (A : Args) (s : Fin 2) (q : FVec F S64x1024 .bf16) (b : FVec F S1x1408 .bf16) (be : F .bf16) (h : Fin 8)
    (k : FVec F S64x128 .f32 × FVec F S64x1 .f32 → P F) : P F :=
  .op (ldG A 0 (clsE s) h) fun kv => .op (ldG A 1 (clsE s) h) fun vv =>
  .op (ldE A 0 s h) fun ke => .op (ldE A 1 s h) fun ve =>
    k (u64 (w64 q b h kv) vv (wE q be h ke) ve, l64 (w64 q b h kv) (wE q be h ke))

/-! ## The exchange -/

/-- The partner of device `d` in round `r`. -/
def pdev (d : Dev nD) : Fin 3 → Dev nD
  | 0 => ⟨k0_dev1 d, k0_dev1_lt d⟩
  | 1 => ⟨k0_dev2 d, k0_dev2_lt d⟩
  | 2 => ⟨k0_dev3 d, k0_dev3_lt d⟩

abbrev sem43 (s : DmaSems sig S4x3) (c : Fin 4) (r : Fin 3) : DmaSem sig :=
  ((s.slice (Rect.unit (s := S4x3) ![c.val, r.val] S1x1.size (sem43_inb c r))).squeeze S_ squeezes_S1x1_S_).sem

abbrev slotU (m : Memref sig .tc .vmem S4x3x64x1024 .bf16) (c : Fin 4) (r : Fin 3) : Memref sig .tc .vmem S64x1024 .bf16 :=
  (m.slice (Rect.unit (s := S4x3x64x1024) ![c.val, r.val, 0, 0] S1x1x64x1024.size (slotU_inb c r)) (fun _ => rfl)).squeeze S64x1024 squeezes_S1x1x64x1024_S64x1024

abbrev slotL (m : Memref sig .tc .vmem S4x3x64x8 .f32) (c : Fin 4) (r : Fin 3) : Memref sig .tc .vmem S64x8 .f32 :=
  (m.slice (Rect.unit (s := S4x3x64x8) ![c.val, r.val, 0, 0] S1x1x64x8.size (slotL_inb c r)) (fun _ => rfl)).squeeze S64x8 squeezes_S1x1x64x8_S64x8

def ldU (m : Memref sig .tc .vmem S4x3x64x1024 .bf16) (c : Fin 4) (r : Fin 3) : TpuEff nD τ sig (Elt F) Λ₀ .tc (Vec F S1x1x64x1024 .bf16) :=
  .load m (Rect.unit (s := S4x3x64x1024) ![c.val, r.val, 0, 0] S1x1x64x1024.size (slotU_inb c r)).toLoadRect (View.loadsAt_vmem h_S1x1x64x1024)

def ldL (m : Memref sig .tc .vmem S4x3x64x8 .f32) (c : Fin 4) (r : Fin 3) : TpuEff nD τ sig (Elt F) Λ₀ .tc (Vec F S1x1x64x8 .f32) :=
  .load m (Rect.unit (s := S4x3x64x8) ![c.val, r.val, 0, 0] S1x1x64x8.size (slotL_inb c r)).toLoadRect (View.loadsAt_vmem h_S1x1x64x8)

def stU (A : Args) (c : Fin 4) (r : Fin 3) (u : FVec F S64x1024 .f32) : TpuEff nD τ sig (Elt F) Λ₀ .tc PUnit :=
  .store A.us (Rect.unit (s := S4x3x64x1024) ![c.val, r.val, 0, 0] S1x1x64x1024.size (slotU_inb c r))
    (shapeCast S1x1x64x1024 (truncf .bf16 u bitsLt_bf16_f32) shapeCasts_S64x1024_S1x1x64x1024) Finset.univ
    (View.stores_vmem h_S1x1x64x1024 (A.hus.storeExact_slice rfl _ (packedU c r)) (fun _ => rfl)) (.inl rfl)

def stL (A : Args) (c : Fin 4) (r : Fin 3) (l : FVec F S64x8 .f32) : TpuEff nD τ sig (Elt F) Λ₀ .tc PUnit :=
  .store A.ls (Rect.unit (s := S4x3x64x8) ![c.val, r.val, 0, 0] S1x1x64x8.size (slotL_inb c r))
    (shapeCast S1x1x64x8 l shapeCasts_S64x8_S1x1x64x8) Finset.univ
    (View.stores_vmem_bits_univ h_S1x1x64x8 rfl) (.inl rfl)

/-- The transfer of chunk `c`'s partial values of round `r` to the partner. -/
def sendU (A : Args) (d : Dev nD) (c : Fin 4) (r : Fin 3) : TpuEff nD τ sig (Elt F) Λ₀ .tc PUnit :=
  .enqueueDma (slotU A.us c r) (.remote (Dev.tc (pdev d r)) (slotU A.ur c r) (.dma (sem43 A.uss c r))) (.dma (sem43 A.urs c r))
    ((A.hus.wordExact_slice rfl _ (wordsU c r)).reshape _ _) ((A.hur.wordExact_slice rfl _ (wordsU c r)).reshape _ _) ⟨⟨rfl, Or.inl rfl⟩, trivial⟩

/-- The transfer of chunk `c`'s partial sums of round `r` to the partner. -/
def sendL (A : Args) (d : Dev nD) (c : Fin 4) (r : Fin 3) : TpuEff nD τ sig (Elt F) Λ₀ .tc PUnit :=
  .enqueueDma (slotL A.ls c r) (.remote (Dev.tc (pdev d r)) (slotL A.lr c r) (.dma (sem43 A.lss c r))) (.dma (sem43 A.lrs c r))
    ((View.wordExact_bits rfl).reshape _ _) ((View.wordExact_bits rfl).reshape _ _) ⟨⟨rfl, Or.inl rfl⟩, trivial⟩

def waitUs (A : Args) (c : Fin 4) (r : Fin 3) : TpuEff nD τ sig (Elt F) Λ₀ .tc PUnit :=
  .waitDma2 (sem43 A.uss c r) (slotU A.ur c r) (slotU A.us c r)
    ((A.hur.wordExact_slice rfl _ (wordsU c r)).reshape _ _) ((A.hus.wordExact_slice rfl _ (wordsU c r)).reshape _ _)

def waitUr (A : Args) (c : Fin 4) (r : Fin 3) : TpuEff nD τ sig (Elt F) Λ₀ .tc PUnit :=
  .waitDma2 (sem43 A.urs c r) (slotU A.us c r) (slotU A.ur c r)
    ((A.hus.wordExact_slice rfl _ (wordsU c r)).reshape _ _) ((A.hur.wordExact_slice rfl _ (wordsU c r)).reshape _ _)

def waitLs (A : Args) (c : Fin 4) (r : Fin 3) : TpuEff nD τ sig (Elt F) Λ₀ .tc PUnit :=
  .waitDma2 (sem43 A.lss c r) (slotL A.lr c r) (slotL A.ls c r)
    ((View.wordExact_bits rfl).reshape _ _) ((View.wordExact_bits rfl).reshape _ _)

def waitLr (A : Args) (c : Fin 4) (r : Fin 3) : TpuEff nD τ sig (Elt F) Λ₀ .tc PUnit :=
  .waitDma2 (sem43 A.lrs c r) (slotL A.ls c r) (slotL A.lr c r)
    ((View.wordExact_bits rfl).reshape _ _) ((View.wordExact_bits rfl).reshape _ _)

/-- Chunk `c` enters round `r` with the partial values `u` and sums `l`. -/
def start (A : Args) (d : Dev nD) (c : Fin 4) (r : Fin 3) (u : FVec F S64x1024 .f32) (l : FVec F S64x8 .f32) (k : P F) : P F :=
  .op (ldU A.us c r) fun _ => .op (stU A c r u) fun _ => .op (ldL A.ls c r) fun _ => .op (stL A c r l) fun _ =>
  .op (sendU A d c r) fun _ => .op (sendL A d c r) fun _ => k

/-- Chunk `c` leaves round `r`: its transfers have landed, and the partner's parts are added. -/
def finish (A : Args) (c : Fin 4) (r : Fin 3) (u : FVec F S64x1024 .f32) (l : FVec F S64x8 .f32)
    (k : FVec F S64x1024 .f32 → FVec F S64x8 .f32 → P F) : P F :=
  .op (waitUs A c r) fun _ => .op (waitUr A c r) fun _ => .op (waitLs A c r) fun _ => .op (waitLr A c r) fun _ =>
  .op (ldU A.ur c r) fun ub => .op (ldL A.lr c r) fun lb =>
    k (addf u (extf .f32 (shapeCast S64x1024 ub shapeCasts_S1x1x64x1024_S64x1024) bitsLt_bf16_f32))
      (addf l (shapeCast S64x8 lb shapeCasts_S1x1x64x8_S64x8))

/-- The rows of chunk `c` of the result. -/
def writeOut (A : Args) (c : Fin 4) (o : FVec F S64x1024 .f32) (k : P F) : P F :=
  .op (.load A.out (Rect.unit (s := S1x256x1024) ![0, 64 * c.val, 0] S1x64x1024.size (outRow_inb c)).toLoadRect (View.loadsAt_vmem h_S1x64x1024)) fun _ =>
  .op (.store A.out (Rect.unit (s := S1x256x1024) ![0, 64 * c.val, 0] S1x64x1024.size (outRow_inb c))
    (shapeCast S1x64x1024 o shapeCasts_S64x1024_S1x64x1024) Finset.univ (View.stores_vmem_bits_univ h_S1x64x1024 rfl) (.inl rfl)) fun _ => k

/-- One chunk's step of rounds 0 and 1: leave the round and enter the next. -/
def mid (A : Args) (d : Dev nD) (c : Fin 4) (r r' : Fin 3) (u : FVec F S64x1024 .f32) (l : FVec F S64x8 .f32)
    (k : FVec F S64x1024 .f32 → FVec F S64x8 .f32 → P F) : P F :=
  finish A c r u l fun u' l' => start A d c r' u' l' (k u' l')

/-- One chunk's step of round 2: leave the round and write the chunk's rows. -/
def last (A : Args) (c : Fin 4) (wov : Vec F S1024x1024 .f32) (u : FVec F S64x1024 .f32) (l : FVec F S64x8 .f32) (k : P F) : P F :=
  finish A c 2 u l fun u' l' => writeOut A c (outV wov u' l') k

/-! ## The phases -/

/-- Every local copy is started. -/
def issueAll (A : Args) (d : Dev nD) (k : P F) : P F :=
  run (enqG A d 0) 352 352 <| run (enqG A d 2) 352 352 <| run (enqG A d 1) 352 352 <| run (enqX A) 64 64 k

/-- The barrier of the device's three partners. -/
def handshake (d : Dev nD) (k : P F) : P F :=
  .op (.semSignal (pdev d 0, .tc) (SemArray.scalar (sig.barrier 0 rfl) : Sems sig S_).sem (1#32 : BitVec 32).toInt) fun _ =>
  .op (.semSignal (pdev d 1, .tc) (SemArray.scalar (sig.barrier 0 rfl) : Sems sig S_).sem (1#32 : BitVec 32).toInt) fun _ =>
  .op (.semSignal (pdev d 2, .tc) (SemArray.scalar (sig.barrier 0 rfl) : Sems sig S_).sem (1#32 : BitVec 32).toInt) fun _ =>
  .op (.semWait (SemArray.scalar (sig.barrier 0 rfl) : Sems sig S_).sem (3#32 : BitVec 32).toInt) fun _ => k

/-- The projection. -/
def project (A : Args) (k : FVec F S256x1024 .bf16 → P F) : P F :=
  .op (.load A.x (Rect.unit (s := S1x256x1024) ![0, 0, 0] S1x256x1024.size inb_S1x256x1024_S1x256x1024_0_0_0).toLoadRect (View.loadsAt_vmem h_S1x256x1024)) fun xv =>
  .op (.load A.wq (Rect.unit (s := S1024x1024) ![0, 0] S1024x1024.size inb_S1024x1024_S1024x1024_0_0).toLoadRect (View.loadsAt_vmem h_S1024x1024)) fun wv =>
    k (qAll xv wv)

/-- The 64 rows from row `o` on of each head's values and sums of class 0. -/
def u0at (e : Fin 8 → FVec F S128x128 .f32 × FVec F S128x1 .f32) : FVec F S64x1024 .f32 :=
  catU fun h => extractStridedSlice S64x128 ![0, 0] (e h).1 slices_S128x128_o0_0_S64x128
def l0at (e : Fin 8 → FVec F S128x128 .f32 × FVec F S128x1 .f32) : FVec F S64x8 .f32 :=
  catL fun h => extractStridedSlice S64x1 ![0, 0] (e h).2 slices_S128x1_o0_0_S64x1
def u3at (e : Fin 8 → FVec F S128x128 .f32 × FVec F S128x1 .f32) : FVec F S64x1024 .f32 :=
  catU fun h => extractStridedSlice S64x128 ![64, 0] (e h).1 slices_S128x128_o64_0_S64x128
def l3at (e : Fin 8 → FVec F S128x128 .f32 × FVec F S128x1 .f32) : FVec F S64x8 .f32 :=
  catL fun h => extractStridedSlice S64x1 ![64, 0] (e h).2 slices_S128x1_o64_0_S64x1

/-- Class 0: its copies have landed, its heads give chunks 0 and 3, which enter round 0. -/
def class0 (A : Args) (d : Dev nD) (q : FVec F S256x1024 .bf16)
    (k : FVec F S64x1024 .f32 → FVec F S64x8 .f32 → FVec F S64x1024 .f32 → FVec F S64x8 .f32 → P F) : P F :=
  run (waitG A d 0) 352 352 <| eight (head0 A (q0 q) (biasG d 0#32)) fun e =>
    start A d 0 0 (u0at e) (l0at e) <| start A d 3 0 (u3at e) (l3at e) <| k (u0at e) (l0at e) (u3at e) (l3at e)

/-- The chunk of the extra slot `s`'s class. -/
def chunkX : Fin 2 → Fin 4
  | 0 => 1
  | 1 => 2

/-- The class of extra slot `s`: its copies have landed, its heads give its chunk, which enters round 0. -/
def classX (A : Args) (d : Dev nD) (s : Fin 2) (q : FVec F S256x1024 .bf16)
    (k : FVec F S64x1024 .f32 → FVec F S64x8 .f32 → P F) : P F :=
  run (waitG A d (clsE s)) 352 352 <| run (waitX A s) 32 32 <|
    eight (headX A s (qX q s) (biasG d (BitVec.ofNat 32 (clsE s).val)) (biasE d)) fun e =>
      start A d (chunkX s) 0 (catU fun h => (e h).1) (catL fun h => (e h).2) <| k (catU fun h => (e h).1) (catL fun h => (e h).2)

/-- The whole body on device `d`. -/
def model (A : Args) (d : Dev nD) : P F :=
  issueAll A d <| handshake d <| project A fun q =>
  class0 A d q fun u0 l0 u3 l3 => classX A d 0 q fun u1 l1 => classX A d 1 q fun u2 l2 =>
  .op (.load A.wo (Rect.unit (s := S1024x1024) ![0, 0] S1024x1024.size inb_S1024x1024_S1024x1024_0_0).toLoadRect (View.loadsAt_vmem h_S1024x1024)) fun wov =>
  mid A d 0 0 1 u0 l0 fun u0 l0 => mid A d 3 0 1 u3 l3 fun u3 l3 => mid A d 1 0 1 u1 l1 fun u1 l1 => mid A d 2 0 1 u2 l2 fun u2 l2 =>
  mid A d 0 1 2 u0 l0 fun u0 l0 => mid A d 3 1 2 u3 l3 fun u3 l3 => mid A d 1 1 2 u1 l1 fun u1 l1 => mid A d 2 1 2 u2 l2 fun u2 l2 =>
  last A 0 wov u0 l0 <| last A 3 wov u3 l3 <| last A 1 wov u1 l1 <| last A 2 wov u2 l2 (.ret ⟨⟩)

/-- The printed body, from its operands. -/
abbrev printed (A : Args) : P F :=
  cc0_body A.x A.hx A.wq A.hwq A.k A.hk A.v A.hv A.wo A.hwo A.out A.hout A.kg A.hkg A.vg A.hvg A.ke A.hke A.ve A.hve A.gs
    A.us A.hus A.ur A.hur A.ls A.hls A.lr A.hlr A.uss A.urs A.lss A.lrs

end Cert.KernelIdeal.Hand

end
-- ==== Proof.KernelIdeal.Spec.lean ====
/- What the buffers hold, from the memory at launch: the gathered keys and values, the partial values and sums of
   each chunk, and the totals after each round of the exchange. -/
module

public import proofs.«01_k».proof.Proof.KernelIdeal.Model
public import proofs.«01_k».proof.Proof.Gen.KernelIdeal.Launch
public import proofs.«01_k».proof.Proof.Gen.KernelIdeal.Points
public import Idealize.ShloMosaic.Lib.ValueIdxCore

@[expose] public section

noncomputable section

namespace Cert.KernelIdeal.Hand

open Cert.KernelIdeal.Gen
open Idealize.ShloMosaic Idealize.ShloMosaic.TcCoe Idealize.SL.Sem
open Idealize.ShloMosaic.ValueIdx

variable {F : FTy → Type} [FloatOps F] [Named F]

/-- The operands the pipeline calls the body with. -/
def A0 : Args where
  x := Memref.whole cc0_stg0_0
  hx := Memref.isWhole_whole _
  wq := Memref.whole cc0_stg1_0
  hwq := Memref.isWhole_whole _
  k := Memref.whole main_arg2
  hk := Memref.isWhole_whole _
  v := Memref.whole main_arg3
  hv := Memref.isWhole_whole _
  wo := Memref.whole cc0_stg2_0
  hwo := Memref.isWhole_whole _
  out := Memref.whole cc0_stg3_0
  hout := Memref.isWhole_whole _
  kg := Memref.whole cc0_scratch0
  hkg := Memref.isWhole_whole _
  vg := Memref.whole cc0_scratch1
  hvg := Memref.isWhole_whole _
  ke := Memref.whole cc0_scratch2
  hke := Memref.isWhole_whole _
  ve := Memref.whole cc0_scratch3
  hve := Memref.isWhole_whole _
  gs := cc0_scratch4
  us := Memref.whole cc0_scratch5
  hus := Memref.isWhole_whole _
  ur := Memref.whole cc0_scratch6
  hur := Memref.isWhole_whole _
  ls := Memref.whole cc0_scratch7
  hls := Memref.isWhole_whole _
  lr := Memref.whole cc0_scratch8
  hlr := Memref.isWhole_whole _
  uss := cc0_scratch9
  urs := cc0_scratch10
  lss := cc0_scratch11
  lrs := cc0_scratch12

/-- The body at the one point is the printed body on these operands. -/
theorem bodyAt_eq : (bodyAt0 t0_0 : P F) = printed A0 := rfl

/-! ## Where the gathered blocks come from -/

/-- The first row of block `j` of class `r` among device `c`'s keys. -/
def rowOff (c : Dev nD) (r : Fin 3) (j : Fin 22) : ℕ := off c r j 0 1

set_option maxRecDepth 100000 in
theorem off_eq (c : Dev nD) (r : Fin 3) (j : Fin 22) (h : Fin 8) : off c r j h = ![0, rowOff c r j, h.val, 0] := by
  funext a
  revert c r j h a
  decide +kernel

theorem rowOff_le (c : Dev nD) (r : Fin 3) (j : Fin 22) : rowOff c r j + 64 ≤ 4096 := off_inb c r j 0 1

variable (m : (ℓ : Loc nD τ sig) → Buf (Elt F) ℓ)

/-- The keys (0) and values (1) of device `c`, as launched. -/
def kvC (c : Dev nD) : Fin 2 → (S1x4096x8x128.Idx → Elt F .f32)
  | 0 => m ((c : Thread nD τ).loc main_arg2)
  | 1 => m ((c : Thread nD τ).loc main_arg3)

/-- What the gathered keys (0) and values (1) hold after the copies. -/
def GB (c : Dev nD) (kv : Fin 2) : S3x1408x1024.Idx → Elt F .f32 := fun i =>
  kvC m c kv (ix4 (0 : Fin 1)
    (⟨rowOff c (i 0) ⟨(i 1).val / 64, by have : (i 1).val < 1408 := (i 1).isLt; omega⟩ + (i 1).val % 64,
      by have := rowOff_le c (i 0) ⟨(i 1).val / 64, by have : (i 1).val < 1408 := (i 1).isLt; omega⟩; omega⟩ : Fin 4096)
    (⟨(i 2).val / 128, by have : (i 2).val < 1024 := (i 2).isLt; omega⟩ : Fin 8)
    (⟨(i 2).val % 128, Nat.mod_lt _ (by decide)⟩ : Fin 128))

/-- What the extra keys (0) and values (1) hold after the copies. -/
def EB (c : Dev nD) (kv : Fin 2) : S2x128x1024.Idx → Elt F .f32 := fun i =>
  kvC m c kv (ix4 (0 : Fin 1)
    (⟨64 * (((i 0).val + 1) * ((i 1).val / 64)) + (i 1).val % 64, by
      have h0 : (i 0).val < 2 := (i 0).isLt
      have h1 : (i 1).val < 128 := (i 1).isLt
      have : ((i 0).val + 1) * ((i 1).val / 64) ≤ 2 * 1 := Nat.mul_le_mul (by omega) (by omega)
      omega⟩ : Fin 4096)
    (⟨(i 2).val / 128, by have : (i 2).val < 1024 := (i 2).isLt; omega⟩ : Fin 8)
    (⟨(i 2).val % 128, Nat.mod_lt _ (by decide)⟩ : Fin 128))

/-! ## The staged operands -/

def xst (c : Dev nD) : Vec F S1x256x1024 .f32 := (win0_0.blk (0 : Fin 1)).view.read (Elt F) (m ((c : Thread nD τ).loc main_arg0))
def wqst (c : Dev nD) : Vec F S1024x1024 .f32 := (win0_1.blk (0 : Fin 1)).view.read (Elt F) (m ((c : Thread nD τ).loc main_arg1))
def wost (c : Dev nD) : Vec F S1024x1024 .f32 := (win0_2.blk (0 : Fin 1)).view.read (Elt F) (m ((c : Thread nD τ).loc main_arg4))

/-- Device `c`'s queries. -/
def qs (c : Dev nD) : FVec F S256x1024 .bf16 := qAll (xst m c) (wqst m c)

/-! ## The partial values and sums -/

/-- Head `h` of class `r`'s gathered keys (0) or values (1). -/
def slab (c : Dev nD) (kv : Fin 2) (r : Fin 3) (h : Fin 8) : Vec F S1x1408x128 .f32 := fun y =>
  GB m c kv ((Rect.unit (s := S3x1408x1024) ![r.val, 0, 128 * h.val] S1x1408x128.size (slabK_inb r h)).emb y)

/-- Head `h` of slot `s`'s extra keys (0) or values (1). -/
def slabE (c : Dev nD) (kv s : Fin 2) (h : Fin 8) : Vec F S1x128x128 .f32 := fun y =>
  EB m c kv ((Rect.unit (s := S2x128x1024) ![s.val, 0, 128 * h.val] S1x128x128.size (slabE_inb s h)).emb y)

/-- One head's values and sums of class 0. -/
def e0 (c : Dev nD) (h : Fin 8) : FVec F S128x128 .f32 × FVec F S128x1 .f32 :=
  (u128 (w128 (q0 (qs m c)) (biasG c 0#32) h (slab m c 0 0 h)) (slab m c 1 0 h),
    l128 (w128 (q0 (qs m c)) (biasG c 0#32) h (slab m c 0 0 h)))

/-- One head's values and sums of extra slot `s`'s class. -/
def eX (c : Dev nD) (s : Fin 2) (h : Fin 8) : FVec F S64x128 .f32 × FVec F S64x1 .f32 :=
  (u64 (w64 (qX (qs m c) s) (biasG c (BitVec.ofNat 32 (clsE s).val)) h (slab m c 0 (clsE s) h)) (slab m c 1 (clsE s) h)
      (wE (qX (qs m c) s) (biasE c) h (slabE m c 0 s h)) (slabE m c 1 s h),
    l64 (w64 (qX (qs m c) s) (biasG c (BitVec.ofNat 32 (clsE s).val)) h (slab m c 0 (clsE s) h))
      (wE (qX (qs m c) s) (biasE c) h (slabE m c 0 s h)))

/-- Device `c`'s own values and sums of each chunk. -/
def part (c : Dev nD) : Fin 4 → FVec F S64x1024 .f32 × FVec F S64x8 .f32
  | 0 => (u0at (e0 m c), l0at (e0 m c))
  | 1 => (catU fun h => (eX m c 0 h).1, catL fun h => (eX m c 0 h).2)
  | 2 => (catU fun h => (eX m c 1 h).1, catL fun h => (eX m c 1 h).2)
  | 3 => (u3at (e0 m c), l3at (e0 m c))

/-- Device `c`'s values and sums of chunk `ch` before round `n`: each round adds the partner's. -/
def UL (ch : Fin 4) : ℕ → Dev nD → FVec F S64x1024 .f32 × FVec F S64x8 .f32
  | 0, c => part m c ch
  | n + 1, c =>
    (addf (UL ch n c).1 (extf .f32 (truncf .bf16 (UL ch n (pdev c (Fin.ofNat 3 n))).1 bitsLt_bf16_f32) bitsLt_bf16_f32),
      addf (UL ch n c).2 (UL ch n (pdev c (Fin.ofNat 3 n))).2)

/-- What the send slot of chunk `ch` in round `r` holds, as it is read. -/
def sU (c : Dev nD) (ch : Fin 4) (r : Fin 3) : FVec F S64x1024 .bf16 := truncf .bf16 (UL m ch r.val c).1 bitsLt_bf16_f32
def sL (c : Dev nD) (ch : Fin 4) (r : Fin 3) : FVec F S64x8 .f32 := (UL m ch r.val c).2

/-- The rows of chunk `ch` of device `c`'s result. -/
def rowsOut (c : Dev nD) (ch : Fin 4) : FVec F S64x1024 .f32 := outV (wost m c) (UL m ch 3 c).1 (UL m ch 3 c).2

/-- Device `c`'s result. -/
def outC (c : Dev nD) : S1x256x1024.Idx → Elt F .f32 := fun i =>
  rowsOut m c ⟨(i 1).val / 64, by have : (i 1).val < 256 := (i 1).isLt; omega⟩
    (ix2 (⟨(i 1).val % 64, Nat.mod_lt _ (by decide)⟩ : Fin 64) (⟨(i 2).val, (i 2).isLt⟩ : Fin 1024))

end Cert.KernelIdeal.Hand

end
-- ==== Proof.KernelIdeal.Cells.lean ====
/- The protocol: the semaphores of a device, what each of their duties hands over, what a device owes at launch, and
   the order in which the waits may be made.

   * barrier of device c: partner `pdev c r` pays duty r, one unit, with its landing slots of round r.
   * `gs r` (local): copy t of class r pays duty t with its 64×128 tile; the extra copies pay duties 352, ….
   * send semaphores: the transfer of (chunk, round) returns its send slot.
   * receive semaphores: the transfer of (chunk, round) from the partner hands over the landing slot with the
     partner's values. -/
module

public import proofs.«01_k».proof.Proof.KernelIdeal.Spec
public import Idealize.ShloMosaic.Lib.Pipeline.Launch
public import Idealize.ShloMosaic.Lib.Pipeline.Kit
public import Idealize.ShloMosaic.Lib.Tactic

@[expose] public section

noncomputable section

namespace Cert.KernelIdeal.Hand

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UU : Type := UR sig nD τ × URounds (GSem nD τ sig) ℕ

local notation "𝕄" => MT nD τ sig Unit (Elt F) ℕ UU ℕ

abbrev EP : Emb (UR sig nD τ) (MT nD τ sig Unit (Elt F) ℕ UU ℕ) := embL
abbrev ER : Emb (URounds (GSem nD τ sig) ℕ) (MT nD τ sig Unit (Elt F) ℕ UU ℕ) := embR

variable (m : (ℓ : Loc nD τ sig) → Buf (Elt F) ℓ)

/-! ## The partners -/

theorem pdev_pdev (r : Fin 3) (c : Dev nD) : pdev (pdev c r) r = c := by revert r c; decide +kernel

/-- A round's partner as a permutation of the devices. -/
def swap (r : Fin 3) : Dev nD ≃ Dev nD := ⟨fun c => pdev c r, fun c => pdev c r, pdev_pdev r, pdev_pdev r⟩

/-! ## The cells -/

/-- The own semaphores: the three of the local copies, and the exchange's by array (0 send values, 1 receive values,
    2 send sums, 3 receive sums), chunk and round. -/
abbrev OwnK := Fin 3 ⊕ (Fin 4 × Fin 4 × Fin 3)
/-- All semaphores of the protocol: the barrier's and the own ones. -/
abbrev CellK := Unit ⊕ OwnK

abbrev barS : Sem sig := (SemArray.scalar (sig.barrier 0 rfl) : Sems sig S_).sem

def semArr : Fin 4 → DmaSems sig S4x3
  | 0 => A0.uss
  | 1 => A0.urs
  | 2 => A0.lss
  | 3 => A0.lrs

def osem : OwnK → SemLoc sig
  | .inl r => .dma (gsem A0 r)
  | .inr (a, ch, r) => .dma (sem43 (semArr a) ch r)

def ksem : CellK → SemLoc sig
  | .inl _ => .reg barS
  | .inr k => osem k

abbrev kBar : CellK := .inl ()
abbrev kG (r : Fin 3) : CellK := .inr (.inl r)
abbrev kX (a : Fin 4) (ch : Fin 4) (r : Fin 3) : CellK := .inr (.inr (a, ch, r))

abbrev kcell (ck : Dev nD × CellK) : GSem nD τ sig := ((ck.1 : Thread nD τ), ksem ck.2)

/-- The cells of one device, listed. -/
def allK : List CellK :=
  kBar :: ((List.finRange 3).map kG ++ (List.finRange 4).flatMap fun a => (List.finRange 4).flatMap fun ch => (List.finRange 3).map fun r => kX a ch r)

/-- Which cell a semaphore is. -/
def decode (s : SemLoc sig) : Option CellK := allK.find? fun k => decide (ksem k = s)

set_option maxRecDepth 100000 in
theorem decode_ksem (k : CellK) : decode (ksem k) = some k := by revert k; decide +kernel

theorem ksem_injective : Function.Injective ksem := fun a b h =>
  Option.some.inj ((decode_ksem a).symm.trans ((congrArg decode h).trans (decode_ksem b)))

theorem kcell_injective : Function.Injective kcell := by
  rintro ⟨c, k⟩ ⟨c', k'⟩ h
  have h1 : c = c' := congrArg (fun g : GSem nD τ sig => g.1.1) h
  have h2 : k = k' := ksem_injective (congrArg Prod.snd h)
  rw [h1, h2]

/-! ## The amounts -/

abbrev NG : ℕ := (dstG A0 0 0 0 0).view.dmaCredit
abbrev NU : ℕ := (slotU A0.us 0 0).view.dmaCredit
abbrev NL : ℕ := (slotL A0.ls 0 0).view.dmaCredit
theorem NG_pos : 0 < NG := View.dmaCredit_pos _ (by decide)
theorem NU_pos : 0 < NU := View.dmaCredit_pos _ (by decide)
theorem NL_pos : 0 < NL := View.dmaCredit_pos _ (by decide)

def amtK : CellK → ℕ
  | .inl _ => 1
  | .inr (.inl _) => NG
  | .inr (.inr (a, _, _)) => if a.val < 2 then NU else NL

theorem amtK_pos (k : CellK) : 0 < amtK k := by
  rcases k with _ | _ | ⟨a, _, _⟩
  · exact Nat.one_pos
  · exact NG_pos
  · show 0 < if a.val < 2 then NU else NL
    split
    · exact NU_pos
    · exact NL_pos

/-- The number of copies of class `r`. -/
def nG (r : Fin 3) : ℕ := if r = 0 then 352 else 384

def dutiesK : CellK → Finset ℕ
  | .inl _ => Finset.range 3
  | .inr (.inl r) => Finset.range (nG r)
  | .inr (.inr _) => {0}

/-! ## The pieces of memory -/

/-- Copy `t` of class `r`: its tile in the gathered keys (0) or values (1); one of the two is empty. -/
def TG (kv : Fin 2) (r : Fin 3) (t : ℕ) : Finset S3x1408x1024.Idx :=
  Finset.univ.filter fun i => (i 0).val = r.val ∧ 16 * ((i 1).val / 64) + 8 * kv.val + (i 2).val / 128 = t

/-- Extra copy `t` of slot `s`: its tile in the extra keys (0) or values (1); one of the two is empty. -/
def TE (kv s : Fin 2) (t : ℕ) : Finset S2x128x1024.Idx :=
  Finset.univ.filter fun i => (i 0).val = s.val ∧ 16 * kv.val + 8 * ((i 1).val / 64) + (i 2).val / 128 = t

def gPts (c : Dev nD) (kv : Fin 2) (S : Finset S3x1408x1024.Idx) (f : S3x1408x1024.Idx → Elt F .f32) : sProp 𝕄 :=
  match kv with
  | 0 => ((c : Thread nD τ).loc cc0_scratch0) ↦[S]{fullShare} f
  | 1 => ((c : Thread nD τ).loc cc0_scratch1) ↦[S]{fullShare} f

def ePts (c : Dev nD) (kv : Fin 2) (S : Finset S2x128x1024.Idx) (f : S2x128x1024.Idx → Elt F .f32) : sProp 𝕄 :=
  match kv with
  | 0 => ((c : Thread nD τ).loc cc0_scratch2) ↦[S]{fullShare} f
  | 1 => ((c : Thread nD τ).loc cc0_scratch3) ↦[S]{fullShare} f

/-- A slot of the values that reads `v`. -/
def uHas (M : Memref sig .tc .vmem S4x3x64x1024 .bf16) (c : Dev nD) (ch : Fin 4) (r : Fin 3) (v : FVec F S64x1024 .bf16) : sProp 𝕄 :=
  iprop(∃ f : Buf (Elt F) ((slotU M ch r).view.loc (c : Thread nD τ)), ⌜(slotU M ch r).view.read (Elt F) f = v⌝
    ∗ ((slotU M ch r).view.loc (c : Thread nD τ) ↦[(slotU M ch r).view.set]{fullShare} f))
/-- A slot of the values. -/
def uAny (M : Memref sig .tc .vmem S4x3x64x1024 .bf16) (c : Dev nD) (ch : Fin 4) (r : Fin 3) : sProp 𝕄 :=
  iprop(∃ f : Buf (Elt F) ((slotU M ch r).view.loc (c : Thread nD τ)),
    ((slotU M ch r).view.loc (c : Thread nD τ) ↦[(slotU M ch r).view.set]{fullShare} f))
/-- A slot of the sums that reads `v`. -/
def lHas (M : Memref sig .tc .vmem S4x3x64x8 .f32) (c : Dev nD) (ch : Fin 4) (r : Fin 3) (v : FVec F S64x8 .f32) : sProp 𝕄 :=
  iprop(∃ f : Buf (Elt F) ((slotL M ch r).view.loc (c : Thread nD τ)), ⌜(slotL M ch r).view.read (Elt F) f = v⌝
    ∗ ((slotL M ch r).view.loc (c : Thread nD τ) ↦[(slotL M ch r).view.set]{fullShare} f))
/-- A slot of the sums. -/
def lAny (M : Memref sig .tc .vmem S4x3x64x8 .f32) (c : Dev nD) (ch : Fin 4) (r : Fin 3) : sProp 𝕄 :=
  iprop(∃ f : Buf (Elt F) ((slotL M ch r).view.loc (c : Thread nD τ)),
    ((slotL M ch r).view.loc (c : Thread nD τ) ↦[(slotL M ch r).view.set]{fullShare} f))

/-- Class `r`'s extra slot. -/
def slotOf (r : Fin 3) : Fin 2 := if r = 1 then 1 else 0

/-- What copy `t` of class `r` hands over. -/
def gPay (c : Dev nD) (r : Fin 3) (t : ℕ) : sProp 𝕄 :=
  if t < 352 then iprop(gPts c 0 (TG 0 r t) (GB m c 0) ∗ gPts c 1 (TG 1 r t) (GB m c 1))
  else iprop(ePts c 0 (TE 0 (slotOf r) (t - 352)) (EB m c 0) ∗ ePts c 1 (TE 1 (slotOf r) (t - 352)) (EB m c 1))

/-- What partner `r`'s signal hands device `c`: the partner's landing slots of round `r`. -/
def barPay (c : Dev nD) (r : Fin 3) : sProp 𝕄 :=
  bigSep Finset.univ fun ch : Fin 4 => iprop(uAny (F := F) A0.ur (pdev c r) ch r ∗ lAny (F := F) A0.lr (pdev c r) ch r)

def xPay (c : Dev nD) (a : Fin 4) (ch : Fin 4) (r : Fin 3) : sProp 𝕄 :=
  match a with
  | 0 => uHas A0.us c ch r (sU m c ch r)
  | 1 => uHas A0.ur c ch r (sU m (pdev c r) ch r)
  | 2 => lHas A0.ls c ch r (sL m c ch r)
  | 3 => lHas A0.lr c ch r (sL m (pdev c r) ch r)

def payK (c : Dev nD) (k : CellK) (d : ℕ) : sProp 𝕄 :=
  match k with
  | .inl _ => barPay c (Fin.ofNat 3 d)
  | .inr (.inl r) => gPay m c r d
  | .inr (.inr (a, ch, r)) => xPay m c a ch r

instance gPts_storable (c : Dev nD) (kv S f) : BI.Storable (upEmb : UEmb _ 𝕄) (gPts (F := F) c kv S f) := by
  match kv with
  | 0 => unfold gPts; infer_instance
  | 1 => unfold gPts; infer_instance
instance ePts_storable (c : Dev nD) (kv S f) : BI.Storable (upEmb : UEmb _ 𝕄) (ePts (F := F) c kv S f) := by
  match kv with
  | 0 => unfold ePts; infer_instance
  | 1 => unfold ePts; infer_instance
instance uHas_storable (M) (c : Dev nD) (ch r v) : BI.Storable (upEmb : UEmb _ 𝕄) (uHas (F := F) M c ch r v) := by unfold uHas; infer_instance
instance uAny_storable (M) (c : Dev nD) (ch r) : BI.Storable (upEmb : UEmb _ 𝕄) (uAny (F := F) M c ch r) := by unfold uAny; infer_instance
instance lHas_storable (M) (c : Dev nD) (ch r v) : BI.Storable (upEmb : UEmb _ 𝕄) (lHas (F := F) M c ch r v) := by unfold lHas; infer_instance
instance lAny_storable (M) (c : Dev nD) (ch r) : BI.Storable (upEmb : UEmb _ 𝕄) (lAny (F := F) M c ch r) := by unfold lAny; infer_instance
instance gPay_storable (c : Dev nD) (r t) : BI.Storable (upEmb : UEmb _ 𝕄) (gPay m c r t) := by
  unfold gPay; split <;> infer_instance
instance barPay_storable (c : Dev nD) (r) : BI.Storable (upEmb : UEmb _ 𝕄) (barPay (F := F) c r) := by
  unfold barPay; infer_instance
instance xPay_storable (c : Dev nD) (a ch r) : BI.Storable (upEmb : UEmb _ 𝕄) (xPay m c a ch r) := by
  match a with
  | 0 => unfold xPay; infer_instance
  | 1 => unfold xPay; infer_instance
  | 2 => unfold xPay; infer_instance
  | 3 => unfold xPay; infer_instance
instance payK_storable (c : Dev nD) (k d) : BI.Storable (upEmb : UEmb _ 𝕄) (payK m c k d) := by
  rcases k with _ | _ | ⟨a, ch, r⟩ <;> (unfold payK; infer_instance)

/-! ## The schedule -/

def sched : Rounds.Schedule (GSem nD τ sig) ℕ 𝕄 where
  duties g n := if n = 0 ∧ g.1.2 = .tc then (match decode g.2 with | some k => dutiesK k | none => ∅) else ∅
  unitless _ := False
  amount g _ _ := match decode g.2 with | some k => amtK k | none => 1
  payload g _ d := match decode g.2 with | some k => payK m g.1.1 k d | none => iprop(emp)
  amount_pos g _ _ _ := by
    cases decode g.2 with
    | none => exact Nat.one_pos
    | some k => exact amtK_pos k

instance sched_storable (g : GSem nD τ sig) (n : ℕ) (d : ℕ) : BI.Storable (upEmb : UEmb _ 𝕄) ((sched m).payload g n d) := by
  show BI.Storable upEmb (match decode g.2 with | some k => payK m g.1.1 k d | none => iprop(emp))
  cases decode g.2 with
  | none => dsimp only; infer_instance
  | some k => dsimp only; infer_instance

theorem duties_k (c : Dev nD) (k : CellK) : (sched m).duties (kcell (c, k)) 0 = dutiesK k := by
  show (if 0 = 0 ∧ (c : Thread nD τ).2 = .tc then (match decode (ksem k) with | some k => dutiesK k | none => ∅) else ∅) = _
  rw [if_pos ⟨rfl, rfl⟩, decode_ksem]
theorem duties_later (g : GSem nD τ sig) : ∀ n, 1 ≤ n → (sched m).duties g n = ∅ :=
  fun n hn => by dsimp only [sched]; exact if_neg fun h => by omega
theorem amount_k (c : Dev nD) (k : CellK) (d : ℕ) : (sched m).amount (kcell (c, k)) 0 d = amtK k := by
  show (match decode (ksem k) with | some k => amtK k | none => 1) = _
  rw [decode_ksem]
theorem payload_k (c : Dev nD) (k : CellK) (d : ℕ) : (sched m).payload (kcell (c, k)) 0 d = payK m c k d := by
  show (match decode (ksem k) with | some k => payK m c k d | none => iprop(emp)) = _
  rw [decode_ksem]
theorem expect_k (c : Dev nD) (k : CellK) : (sched m).expect (kcell (c, k)) 0 = (dutiesK k).card * amtK k := by
  unfold Schedule.expect Schedule.amountOf
  rw [duties_k, Finset.sum_congr rfl fun d _ => amount_k m c k d, Finset.sum_const, smul_eq_mul]

/-! ## What a device owes; the levels -/

/-- What device `c` owes, by partner and cell, the next payment first. -/
def owe (c : Dev nD) : List (Fin 3 × CellK) → CellTallies nD τ sig Unit
  | [] => 0
  | p :: l => owe c l + tallyAt (kcell (pdev c p.1, p.2)) () (amtK p.2)

def lvK : CellK → ℕ
  | .inl _ => 1
  | .inr (.inl _) => 0
  | .inr (.inr (a, _, r)) => if a = 1 ∨ a = 3 then 2 + r.val else 0

def L (g : GSem nD τ sig) : Finset Unit := if g.1.2 = .tc then {()} else ∅
def lv (g : GSem nD τ sig) (_ : Unit) : ℕ := match decode g.2 with | some k => lvK k | none => 0
theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : CellK) : lv (kcell (c, k)) () = lvK k := by
  show (match decode (ksem k) with | some k => lvK k | none => 0) = _
  rw [decode_ksem]

theorem owe_pos {c : Dev nD} {l : List (Fin 3 × CellK)} {g : GSem nD τ sig} {u : Unit} (h : 0 < owe c l g u) :
    ∃ p ∈ l, g = kcell (pdev c p.1, p.2) := by
  induction l with
  | nil => exact absurd h (Nat.lt_irrefl 0)
  | cons p l ih =>
    by_cases hg : g = kcell (pdev c p.1, p.2)
    · exact ⟨p, List.mem_cons_self, hg⟩
    · unfold owe at h
      rw [Pi.add_apply, Finsupp.add_apply, tallyAt_apply, if_neg (fun h' => hg h'.1), Nat.add_zero] at h
      obtain ⟨q, hq, e⟩ := ih h
      exact ⟨q, List.mem_cons_of_mem _ hq, e⟩

/-- A wait on a semaphore below everything owed. -/
theorem mayWait (c : Dev nD) (sm : SemLoc sig) (l : List (Fin 3 × CellK))
    (h : ∀ p ∈ l, lv ((c : Thread nD τ), sm) () < lvK p.2) :
    (levAts L lv : sProp 𝕄) ⊢ MayWait (c : Thread nD τ) sm () (owe c l) :=
  MayOwe.of_cut (L := L) (lev := lv) (lv ((c : Thread nD τ), sm) ())
    (fun p hp => by rw [Finset.mem_singleton.mp hp, L_tc]; exact Finset.mem_singleton_self _)
    (fun g u hg => by obtain ⟨p, _, rfl⟩ := owe_pos hg; exact Finset.mem_singleton_self _)
    (fun p hp => by rw [Finset.mem_singleton.mp hp])
    (fun g u hg => by obtain ⟨p, hp, rfl⟩ := owe_pos hg; rw [lv_k]; exact h p hp)

/-- The cells a round's step pays: chunk `ch`'s receive cells of round `r` on the partner. -/
abbrev pays (ch : Fin 4) (r : Fin 3) : List (Fin 3 × CellK) := [(r, kX 1 ch r), (r, kX 3 ch r)]

/-- What is owed once the barrier is through, in the order of payment. -/
abbrev oweX : List (Fin 3 × CellK) :=
  pays 0 0 ++ (pays 3 0 ++ (pays 1 0 ++ (pays 2 0 ++ (pays 0 1 ++ (pays 3 1 ++ (pays 1 1 ++ (pays 2 1 ++ (pays 0 2 ++ (pays 3 2 ++ (pays 1 2 ++ pays 2 2))))))))))

/-- What is owed at launch. -/
abbrev oweAll : List (Fin 3 × CellK) := (0, kBar) :: (1, kBar) :: (2, kBar) :: oweX

end Cert.KernelIdeal.Hand

end
-- ==== Proof.KernelIdeal.Tiles.lean ====
/- The local copies' windows: which elements a copy writes, and what it leaves there. -/
module

public import proofs.«01_k».proof.Proof.KernelIdeal.Cells
public import Idealize.ShloMosaic.Lib.ValueLayout

@[expose] public section

noncomputable section

namespace Cert.KernelIdeal.Hand

open Cert.KernelIdeal.Gen
open Idealize.ShloMosaic Idealize.ShloMosaic.TcCoe Idealize.SL.Sem
open Idealize.ShloMosaic.ValueIdx

variable {F : FTy → Type} [FloatOps F] [Named F]
variable (m : (ℓ : Loc nD τ sig) → Buf (Elt F) ℓ)

/-- An index `(x, z)` matched with shape `[1, a, 1, b]` is `(0, x, 0, z)`. -/
theorem reshape_1a1b {a b : ℕ} (h : (⟨2, ![a, b]⟩ : Shape).numel = (⟨4, ![1, a, 1, b]⟩ : Shape).numel)
    (x : Fin a) (z : Fin b) :
    Shape.reshapeEquiv h (ix2 x z) = ix4 (⟨0, Nat.one_pos⟩ : Fin 1) x (⟨0, Nat.one_pos⟩ : Fin 1) z :=
  Shape.reshapeEquiv_eq_of_rowMajor h (by
    rw [Shape.rowMajor_val_four, Shape.rowMajor_val_two]
    show (((0 * a + x.val) * 1 + 0) * b + z.val) = x.val * b + z.val
    simp only [Nat.zero_mul, Nat.zero_add, Nat.mul_one, Nat.add_zero])

/-- The window of the keys or values that starts at `o`, element by element. -/
def srcIx (o : Fin 4 → Nat) (ho : ∀ a, o a + S1x64x1x128.size a ≤ S1x4096x8x128.size a) (y : S64x128.Idx) : S1x4096x8x128.Idx :=
  (Rect.unit (s := S1x4096x8x128) o S1x64x1x128.size ho).emb (Shape.reshapeEquiv squeezes_S1x64x1x128_S64x128.numel_eq y)
def dstIx (r : Fin 3) (j : Fin 22) (h : Fin 8) (y : S64x128.Idx) : S3x1408x1024.Idx :=
  (Rect.unit (s := S3x1408x1024) ![r.val, 64 * j.val, 128 * h.val] S1x64x128.size (gath_inb r j h)).emb (Shape.reshapeEquiv squeezes_S1x64x128_S64x128.numel_eq y)
def dstEIx (s p : Fin 2) (h : Fin 8) (y : S64x128.Idx) : S2x128x1024.Idx :=
  (Rect.unit (s := S2x128x1024) ![s.val, 64 * p.val, 128 * h.val] S1x64x128.size (extra_inb s p h)).emb (Shape.reshapeEquiv squeezes_S1x64x128_S64x128.numel_eq y)

theorem GB_dst (c : Dev nD) (kv : Fin 2) (r : Fin 3) (j : Fin 22) (h : Fin 8) (y : S64x128.Idx) :
    GB m c kv (dstIx r j h y) = kvC m c kv (srcIx (off c r j h) (off_inb c r j h) y) := by
  obtain ⟨x, z, rfl⟩ : ∃ (x : Fin 64) (z : Fin 128), y = ix2 x z := ⟨y 0, y 1, eq_ix2 y⟩
  have hx := x.isLt
  have hz := z.isLt
  have e : dstIx r j h (ix2 x z) = ix3 (⟨r.val, r.isLt⟩ : Fin 3) (⟨64 * j.val + x.val, by omega⟩ : Fin 1408) (⟨128 * h.val + z.val, by omega⟩ : Fin 1024) := by
    unfold dstIx
    rw [show Shape.reshapeEquiv squeezes_S1x64x128_S64x128.numel_eq (ix2 x z) = _ from reshapeEquiv_ix2_1ab _ x z]
    funext a
    apply Fin.ext
    match a with
    | ⟨0, _⟩ => show r.val + 1 * 0 = r.val; omega
    | ⟨1, _⟩ => show 64 * j.val + 1 * x.val = 64 * j.val + x.val; omega
    | ⟨2, _⟩ => show 128 * h.val + 1 * z.val = 128 * h.val + z.val; omega
  rw [e]
  unfold GB
  congr 1
  unfold srcIx
  rw [show Shape.reshapeEquiv squeezes_S1x64x1x128_S64x128.numel_eq (ix2 x z) = _ from reshape_1a1b _ x z]
  have hj : (⟨(64 * j.val + x.val) / 64, by omega⟩ : Fin 22) = j := Fin.ext (by show (64 * j.val + x.val) / 64 = j.val; omega)
  have ho := off_eq c r j h
  funext a
  apply Fin.ext
  have hoa := congrFun ho a
  match a with
  | ⟨0, _⟩ => show 0 = off c r j h 0 + 1 * 0; rw [ho]; rfl
  | ⟨1, _⟩ =>
    show rowOff c r ⟨(64 * j.val + x.val) / 64, _⟩ + (64 * j.val + x.val) % 64 = off c r j h 1 + 1 * x.val
    rw [ho, hj]; show rowOff c r j + _ = rowOff c r j + _; omega
  | ⟨2, _⟩ => show (128 * h.val + z.val) / 128 = off c r j h 2 + 1 * 0; rw [ho]; show _ = h.val + 1 * 0; omega
  | ⟨3, _⟩ => show (128 * h.val + z.val) % 128 = off c r j h 3 + 1 * z.val; rw [ho]; show _ = 0 + 1 * z.val; omega

theorem EB_dst (c : Dev nD) (kv s p : Fin 2) (h : Fin 8) (y : S64x128.Idx) :
    EB m c kv (dstEIx s p h y) = kvC m c kv (srcIx (offE s p h) (offE_inb s p h) y) := by
  obtain ⟨x, z, rfl⟩ : ∃ (x : Fin 64) (z : Fin 128), y = ix2 x z := ⟨y 0, y 1, eq_ix2 y⟩
  have hx := x.isLt
  have hz := z.isLt
  have e : dstEIx s p h (ix2 x z) = ix3 (⟨s.val, s.isLt⟩ : Fin 2) (⟨64 * p.val + x.val, by omega⟩ : Fin 128) (⟨128 * h.val + z.val, by omega⟩ : Fin 1024) := by
    unfold dstEIx
    rw [show Shape.reshapeEquiv squeezes_S1x64x128_S64x128.numel_eq (ix2 x z) = _ from reshapeEquiv_ix2_1ab _ x z]
    funext a
    apply Fin.ext
    match a with
    | ⟨0, _⟩ => show s.val + 1 * 0 = s.val; omega
    | ⟨1, _⟩ => show 64 * p.val + 1 * x.val = 64 * p.val + x.val; omega
    | ⟨2, _⟩ => show 128 * h.val + 1 * z.val = 128 * h.val + z.val; omega
  rw [e]
  unfold EB
  congr 1
  unfold srcIx
  rw [show Shape.reshapeEquiv squeezes_S1x64x1x128_S64x128.numel_eq (ix2 x z) = _ from reshape_1a1b _ x z]
  have hp : (64 * p.val + x.val) / 64 = p.val := by omega
  have hm : (64 * p.val + x.val) % 64 = x.val := by omega
  funext a
  apply Fin.ext
  match a with
  | ⟨0, _⟩ => rfl
  | ⟨1, _⟩ =>
    show 64 * ((s.val + 1) * ((64 * p.val + x.val) / 64)) + (64 * p.val + x.val) % 64 = 64 * ((s.val + 1) * p.val) + 1 * x.val
    rw [hp, hm]; omega
  | ⟨2, _⟩ => show (128 * h.val + z.val) / 128 = h.val + 1 * 0; omega
  | ⟨3, _⟩ => show (128 * h.val + z.val) % 128 = 0 + 1 * z.val; omega

/-! ## The elements written -/

theorem rect_TG (kv : Fin 2) (r : Fin 3) (j : Fin 22) (h : Fin 8) :
    (Rect.unit (s := S3x1408x1024) ![r.val, 64 * j.val, 128 * h.val] S1x64x128.size (gath_inb r j h)).set
      = TG kv r (16 * j.val + 8 * kv.val + h.val) := by
  ext i
  have h1 : (i 1).val < 1408 := (i 1).isLt
  have h2 : (i 2).val < 1024 := (i 2).isLt
  simp only [Rect.mem_set_unit, TG, Finset.mem_filter, Finset.mem_univ, true_and]
  constructor
  · intro H
    have a0 : r.val ≤ (i 0).val ∧ (i 0).val < r.val + 1 := H 0
    have a1 : 64 * j.val ≤ (i 1).val ∧ (i 1).val < 64 * j.val + 64 := H 1
    have a2 : 128 * h.val ≤ (i 2).val ∧ (i 2).val < 128 * h.val + 128 := H 2
    omega
  · rintro ⟨h0, ht⟩ a
    match a with
    | ⟨0, _⟩ => show r.val ≤ (i 0).val ∧ (i 0).val < r.val + 1; omega
    | ⟨1, _⟩ => show 64 * j.val ≤ (i 1).val ∧ (i 1).val < 64 * j.val + 64; omega
    | ⟨2, _⟩ => show 128 * h.val ≤ (i 2).val ∧ (i 2).val < 128 * h.val + 128; omega

theorem rect_TE (kv s p : Fin 2) (h : Fin 8) :
    (Rect.unit (s := S2x128x1024) ![s.val, 64 * p.val, 128 * h.val] S1x64x128.size (extra_inb s p h)).set
      = TE kv s (16 * kv.val + 8 * p.val + h.val) := by
  ext i
  have h1 : (i 1).val < 128 := (i 1).isLt
  have h2 : (i 2).val < 1024 := (i 2).isLt
  simp only [Rect.mem_set_unit, TE, Finset.mem_filter, Finset.mem_univ, true_and]
  constructor
  · intro H
    have a0 : s.val ≤ (i 0).val ∧ (i 0).val < s.val + 1 := H 0
    have a1 : 64 * p.val ≤ (i 1).val ∧ (i 1).val < 64 * p.val + 64 := H 1
    have a2 : 128 * h.val ≤ (i 2).val ∧ (i 2).val < 128 * h.val + 128 := H 2
    omega
  · rintro ⟨h0, ht⟩ a
    match a with
    | ⟨0, _⟩ => show s.val ≤ (i 0).val ∧ (i 0).val < s.val + 1; omega
    | ⟨1, _⟩ => show 64 * p.val ≤ (i 1).val ∧ (i 1).val < 64 * p.val + 64; omega
    | ⟨2, _⟩ => show 128 * h.val ≤ (i 2).val ∧ (i 2).val < 128 * h.val + 128; omega

/-- A tile number of the other kind has no elements. -/
theorem TG_empty (kv : Fin 2) (r : Fin 3) (t : ℕ) (h : t / 8 % 2 ≠ kv.val) : TG kv r t = ∅ := by
  apply Finset.filter_eq_empty_iff.mpr
  rintro i - ⟨-, ht⟩
  have h2 : (i 2).val < 1024 := (i 2).isLt
  omega

theorem TE_empty (kv s : Fin 2) (t : ℕ) (h : t / 16 ≠ kv.val) : TE kv s t = ∅ := by
  apply Finset.filter_eq_empty_iff.mpr
  rintro i - ⟨-, ht⟩
  have h2 : (i 2).val < 1024 := (i 2).isLt
  have h1 : (i 1).val < 128 := (i 1).isLt
  omega

theorem set_dstK (r : Fin 3) (j : Fin 22) (h : Fin 8) :
    (dstG A0 0 r j h).view.set = TG 0 r (16 * j.val + 8 * (0 : Fin 2).val + h.val) := by
  rw [← rect_TG]
  show (((View.whole cc0_scratch0).slice _).reshape _ _).set = _
  rw [View.set_reshape, View.set_slice_whole]
theorem set_dstV (r : Fin 3) (j : Fin 22) (h : Fin 8) :
    (dstG A0 1 r j h).view.set = TG 1 r (16 * j.val + 8 * (1 : Fin 2).val + h.val) := by
  rw [← rect_TG]
  show (((View.whole cc0_scratch1).slice _).reshape _ _).set = _
  rw [View.set_reshape, View.set_slice_whole]
theorem set_dstEK (s p : Fin 2) (h : Fin 8) :
    (dstE A0 0 s p h).view.set = TE 0 s (16 * (0 : Fin 2).val + 8 * p.val + h.val) := by
  rw [← rect_TE]
  show (((View.whole cc0_scratch2).slice _).reshape _ _).set = _
  rw [View.set_reshape, View.set_slice_whole]
theorem set_dstEV (s p : Fin 2) (h : Fin 8) :
    (dstE A0 1 s p h).view.set = TE 1 s (16 * (1 : Fin 2).val + 8 * p.val + h.val) := by
  rw [← rect_TE]
  show (((View.whole cc0_scratch3).slice _).reshape _ _).set = _
  rw [View.set_reshape, View.set_slice_whole]

/-! ## What a copy leaves -/

theorem wrote_K (c : Dev nD) (r : Fin 3) (j : Fin 22) (h : Fin 8) (fd : S3x1408x1024.Idx → Elt F .f32) :
    ∀ i ∈ (dstG A0 0 r j h).view.set, (dstG A0 0 r j h).view.write (Elt F) fd
      ((srcV A0 0 (off c r j h) (off_inb c r j h)).view.read (Elt F) (kvC m c 0)) Finset.univ i = GB m c 0 i := by
  intro i hi
  obtain ⟨y, _, rfl⟩ := Finset.mem_map.mp hi
  refine (View.write_emb_of_mem _ _ (Finset.mem_univ y)).trans ?_
  exact (GB_dst m c 0 r j h y).symm
theorem wrote_V (c : Dev nD) (r : Fin 3) (j : Fin 22) (h : Fin 8) (fd : S3x1408x1024.Idx → Elt F .f32) :
    ∀ i ∈ (dstG A0 1 r j h).view.set, (dstG A0 1 r j h).view.write (Elt F) fd
      ((srcV A0 1 (off c r j h) (off_inb c r j h)).view.read (Elt F) (kvC m c 1)) Finset.univ i = GB m c 1 i := by
  intro i hi
  obtain ⟨y, _, rfl⟩ := Finset.mem_map.mp hi
  refine (View.write_emb_of_mem _ _ (Finset.mem_univ y)).trans ?_
  exact (GB_dst m c 1 r j h y).symm
theorem wrote_EK (c : Dev nD) (s p : Fin 2) (h : Fin 8) (fd : S2x128x1024.Idx → Elt F .f32) :
    ∀ i ∈ (dstE A0 0 s p h).view.set, (dstE A0 0 s p h).view.write (Elt F) fd
      ((srcV A0 0 (offE s p h) (offE_inb s p h)).view.read (Elt F) (kvC m c 0)) Finset.univ i = EB m c 0 i := by
  intro i hi
  obtain ⟨y, _, rfl⟩ := Finset.mem_map.mp hi
  refine (View.write_emb_of_mem _ _ (Finset.mem_univ y)).trans ?_
  exact (EB_dst m c 0 s p h y).symm
theorem wrote_EV (c : Dev nD) (s p : Fin 2) (h : Fin 8) (fd : S2x128x1024.Idx → Elt F .f32) :
    ∀ i ∈ (dstE A0 1 s p h).view.set, (dstE A0 1 s p h).view.write (Elt F) fd
      ((srcV A0 1 (offE s p h) (offE_inb s p h)).view.read (Elt F) (kvC m c 1)) Finset.univ i = EB m c 1 i := by
  intro i hi
  obtain ⟨y, _, rfl⟩ := Finset.mem_map.mp hi
  refine (View.write_emb_of_mem _ _ (Finset.mem_univ y)).trans ?_
  exact (EB_dst m c 1 s p h y).symm

end Cert.KernelIdeal.Hand

end
-- ==== Proof.KernelIdeal.Copies.lean ====
/- The local copies: the rule of one copy and of one wait, and the runs of them. -/
module

public import proofs.«01_k».proof.Proof.KernelIdeal.Tiles
public import Idealize.SL.BI.BigOpNat

@[expose] public section

noncomputable section

namespace Cert.KernelIdeal.Hand

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable (K : Dev nD × CellK → ℕ)

abbrev 𝒱₀ : Variants := Variants.none

/-- The weakest precondition of a program on device `c`. -/
abbrev WP (c : Dev nD) (k : P F) (Q : PUnit → sProp 𝕄) : sProp 𝕄 := wp frame (wpE (defs₀ (F := F)) 𝒱₀ (c : Thread nD τ) none) Set.univ k Q

/-! ## What every device knows -/

/-- Every cell's invariant, and that its round has begun. -/
def Ctx : sProp 𝕄 := bigSep Finset.univ fun ck : Dev nD × CellK => iprop(cellInv ER (sched m) (K ck) (kcell ck) ∗ reached ER (kcell ck) 0)

instance Ctx_persistent : BI.Persistent (Ctx m K) := by unfold Ctx; infer_instance

theorem ctx_inv (ck : Dev nD × CellK) : Ctx m K ⊢ cellInv ER (sched m) (K ck) (kcell ck) := by
  unfold Ctx
  exact (bigSep_elim (Finset.mem_univ ck)).trans (sep_and.trans and_elimL)
theorem ctx_reached (ck : Dev nD × CellK) : Ctx m K ⊢ reached ER (kcell ck) 0 := by
  unfold Ctx
  exact (bigSep_elim (Finset.mem_univ ck)).trans (sep_and.trans and_elimR)

/-! ## The sources -/

/-- Some share of device `c`'s keys (0) or values (1), as launched. -/
def src (c : Dev nD) (kv : Fin 2) : sProp 𝕄 :=
  match kv with
  | 0 => iprop(∃ q : PosShare TreeShare, ((c : Thread nD τ).loc main_arg2) ↦{q} m ((c : Thread nD τ).loc main_arg2))
  | 1 => iprop(∃ q : PosShare TreeShare, ((c : Thread nD τ).loc main_arg3) ↦{q} m ((c : Thread nD τ).loc main_arg3))

theorem carve {ℓ : Loc nD τ sig} (I : Finset (Idx ℓ)) (q : PosShare TreeShare) (f : Buf (Elt F) ℓ) :
    (ℓ ↦{q} f : sProp 𝕄) ⊢ iprop((ℓ ↦{q.left} f) ∗ (ℓ ↦[I]{q.right} f)) := by
  refine (pointsTo_share (PosShare.mem_left_op_right q)).1.trans (sep_mono_right ?_)
  refine (pointsTo_split_subset (Finset.subset_univ I)).1.trans ?_
  iintro ⟨H, -⟩; iexact H

/-! ## One copy -/

/-- The copy of one tile of a class. -/
def cpG (A : Args) (d : Dev nD) (r : Fin 3) (kv : Fin 2) (j : Fin 22) (h : Fin 8) : TpuEff nD τ sig (Elt F) Λ₀ .tc PUnit :=
  .enqueueDma (srcV A kv (off d r j h) (off_inb d r j h)) (.here (dstG A kv r j h)) (.dma (gsem A r))
    ((View.wordExact_bits rfl).reshape _ _) ((View.wordExact_bits rfl).reshape _ _) ⟨Or.inl rfl, trivial⟩

theorem gPay_K (c : Dev nD) (r : Fin 3) (j : Fin 22) (h : Fin 8) :
    gPts c 0 (TG 0 r (16 * j.val + 8 * (0 : Fin 2).val + h.val)) (GB m c 0) ⊢ gPay m c r (16 * j.val + 8 * (0 : Fin 2).val + h.val) := by
  have hj := j.isLt
  have hh := h.isLt
  unfold gPay
  rw [if_pos (by show 16 * j.val + 8 * 0 + h.val < 352; omega),
    TG_empty 1 r _ (by show (16 * j.val + 8 * 0 + h.val) / 8 % 2 ≠ 1; omega)]
  iintro H
  isplitl [H]; · iexact H
  unfold gPts; dsimp only; rw [pointsTo_empty]; iempintro
theorem gPay_V (c : Dev nD) (r : Fin 3) (j : Fin 22) (h : Fin 8) :
    gPts c 1 (TG 1 r (16 * j.val + 8 * (1 : Fin 2).val + h.val)) (GB m c 1) ⊢ gPay m c r (16 * j.val + 8 * (1 : Fin 2).val + h.val) := by
  have hj := j.isLt
  have hh := h.isLt
  unfold gPay
  rw [if_pos (by show 16 * j.val + 8 * 1 + h.val < 352; omega),
    TG_empty 0 r _ (by show (16 * j.val + 8 * 1 + h.val) / 8 % 2 ≠ 0; omega)]
  iintro H
  isplitr; · unfold gPts; dsimp only; rw [pointsTo_empty]; iempintro
  iexact H

theorem mem_dutiesG (c : Dev nD) (r : Fin 3) (t : ℕ) (h : t < nG r) : t ∈ (sched m).duties (kcell (c, kG r)) 0 := by
  rw [duties_k]; exact Finset.mem_range.mpr h
theorem nG_ge (r : Fin 3) : 352 ≤ nG r := by unfold nG; split <;> omega

theorem tileIx_lt (r : Fin 3) (kv : Fin 2) (j : Fin 22) (h : Fin 8) : 16 * j.val + 8 * kv.val + h.val < nG r :=
  lt_of_lt_of_le (by omega) (nG_ge r)
theorem keep_left (X Y : sProp 𝕄) : iprop(X ∗ Y) ⊢ X := by
  iintro ⟨H, -⟩; iexact H

theorem landK (c : Dev nD) (r : Fin 3) (j : Fin 22) (h : Fin 8) (fd : S3x1408x1024.Idx → Elt F .f32) (X : sProp 𝕄) :
    iprop(((dstG A0 0 r j h).view.loc (c : Thread nD τ) ↦[(dstG A0 0 r j h).view.set]{fullShare}
      ((dstG A0 0 r j h).view.write (Elt F) fd ((srcV A0 0 (off c r j h) (off_inb c r j h)).view.read (Elt F) (kvC m c 0)) Finset.univ)) ∗ X)
    ⊢ (sched m).payload (kcell (c, kG r)) 0 (16 * j.val + 8 * (0 : Fin 2).val + h.val) := by
  refine (keep_left _ X).trans ?_
  rw [payload_k]
  refine BIBase.Entails.trans ?_ (gPay_K m c r j h)
  unfold gPts; dsimp only
  rw [← set_dstK]
  exact Entails.of_eq (pointsTo_congr (wrote_K m c r j h fd))

theorem wp_cpK (c : Dev nD) (r : Fin 3) (j : Fin 22) (h : Fin 8) (k : P F) (Q : PUnit → sProp 𝕄) (fd : S3x1408x1024.Idx → Elt F .f32)
    (q : PosShare TreeShare) :
    iprop(cellInv ER (sched m) (K (c, kG r)) (kcell (c, kG r))
        ∗ ((srcV A0 0 (off c r j h) (off_inb c r j h)).view.loc (c : Thread nD τ) ↦[(srcV A0 0 (off c r j h) (off_inb c r j h)).view.set]{q} m ((c : Thread nD τ).loc main_arg2))
        ∗ ((dstG A0 0 r j h).view.loc (c : Thread nD τ) ↦[(dstG A0 0 r j h).view.set]{fullShare} fd)
        ∗ dutyTok ER (kcell (c, kG r)) 0 (16 * j.val + 8 * (0 : Fin 2).val + h.val) ∗ reached ER (kcell (c, kG r)) 0)
      ⊢ iprop((cred (tallyAt (kcell (c, kG r)) () NG) -∗ WP c k Q) -∗ WP c (.op (cpG A0 c r 0 j h) fun _ => k) Q) :=
  Rounds.wp_copy_pointsTo (defs := defs₀ (F := F)) 𝒱₀ ER (sched m) (c : Thread nD τ) none
    (src := srcV A0 0 (off c r j h) (off_inb c r j h)) (dst := dstG A0 0 r j h) (sem := .dma (gsem A0 r))
    (κ := K (c, kG r)) (r := 0) (d := 16 * j.val + 8 * (0 : Fin 2).val + h.val) (q := q)
    (fs := m ((c : Thread nD τ).loc main_arg2)) (fd := fd)
    (mem_dutiesG m c r _ (tileIx_lt r 0 j h)) () NG rfl (amount_k m c (kG r) _) (landK m c r j h fd _) (k := fun _ => k) (Q := Q) (hsrc := (View.wordExact_bits rfl).reshape _ _) (hdst := (View.wordExact_bits rfl).reshape _ _) (hsem := ⟨Or.inl rfl, trivial⟩)

theorem landV (c : Dev nD) (r : Fin 3) (j : Fin 22) (h : Fin 8) (fd : S3x1408x1024.Idx → Elt F .f32) (X : sProp 𝕄) :
    iprop(((dstG A0 1 r j h).view.loc (c : Thread nD τ) ↦[(dstG A0 1 r j h).view.set]{fullShare}
      ((dstG A0 1 r j h).view.write (Elt F) fd ((srcV A0 1 (off c r j h) (off_inb c r j h)).view.read (Elt F) (kvC m c 1)) Finset.univ)) ∗ X)
    ⊢ (sched m).payload (kcell (c, kG r)) 0 (16 * j.val + 8 * (1 : Fin 2).val + h.val) := by
  refine (keep_left _ X).trans ?_
  rw [payload_k]
  refine BIBase.Entails.trans ?_ (gPay_V m c r j h)
  unfold gPts; dsimp only
  rw [← set_dstV]
  exact Entails.of_eq (pointsTo_congr (wrote_V m c r j h fd))

theorem wp_cpV (c : Dev nD) (r : Fin 3) (j : Fin 22) (h : Fin 8) (k : P F) (Q : PUnit → sProp 𝕄) (fd : S3x1408x1024.Idx → Elt F .f32)
    (q : PosShare TreeShare) :
    iprop(cellInv ER (sched m) (K (c, kG r)) (kcell (c, kG r))
        ∗ ((srcV A0 1 (off c r j h) (off_inb c r j h)).view.loc (c : Thread nD τ) ↦[(srcV A0 1 (off c r j h) (off_inb c r j h)).view.set]{q} m ((c : Thread nD τ).loc main_arg3))
        ∗ ((dstG A0 1 r j h).view.loc (c : Thread nD τ) ↦[(dstG A0 1 r j h).view.set]{fullShare} fd)
        ∗ dutyTok ER (kcell (c, kG r)) 0 (16 * j.val + 8 * (1 : Fin 2).val + h.val) ∗ reached ER (kcell (c, kG r)) 0)
      ⊢ iprop((cred (tallyAt (kcell (c, kG r)) () NG) -∗ WP c k Q) -∗ WP c (.op (cpG A0 c r 1 j h) fun _ => k) Q) :=
  Rounds.wp_copy_pointsTo (defs := defs₀ (F := F)) 𝒱₀ ER (sched m) (c : Thread nD τ) none
    (src := srcV A0 1 (off c r j h) (off_inb c r j h)) (dst := dstG A0 1 r j h) (sem := .dma (gsem A0 r))
    (κ := K (c, kG r)) (r := 0) (d := 16 * j.val + 8 * (1 : Fin 2).val + h.val) (q := q)
    (fs := m ((c : Thread nD τ).loc main_arg3)) (fd := fd)
    (mem_dutiesG m c r _ (tileIx_lt r 1 j h)) () NG rfl (amount_k m c (kG r) _) (landV m c r j h fd _) (k := fun _ => k) (Q := Q) (hsrc := (View.wordExact_bits rfl).reshape _ _) (hdst := (View.wordExact_bits rfl).reshape _ _) (hsem := ⟨Or.inl rfl, trivial⟩)

/-! ## Runs -/

/-- A run keeps an invariant that each of its operations moves on by one. -/
theorem run_ind (c : Dev nD) (Q : PUnit → sProp 𝕄) (C : sProp 𝕄) [BI.Persistent C] (I : ℕ → sProp 𝕄)
    (op : ℕ → TpuEff nD τ sig (Elt F) Λ₀ .tc PUnit) (N : ℕ)
    (step : ∀ t, t < N → ∀ k : P F, iprop(C ∗ I t) ⊢ iprop((I (t + 1) -∗ WP c k Q) -∗ WP c (.op (op t) fun _ => k) Q)) :
    ∀ n, n ≤ N → ∀ k : P F, iprop(C ∗ I (N - n)) ⊢ iprop((I N -∗ WP c k Q) -∗ WP c (run op N n k) Q)
  | 0, _, k => by
    unfold run
    rw [Nat.sub_zero]
    iintro ⟨-, HI⟩ Hk
    iapply Hk; iexact HI
  | n + 1, hn, k => by
    unfold run
    have ih := run_ind c Q C I op N step n (by omega) k
    iintro ⟨#HC, HI⟩ Hk
    iapply (step (N - (n + 1)) (by omega) (run op N n k)) $$ [HI]
    · isplitr; · iexact HC
      iexact HI
    iintro HI
    rw [show N - (n + 1) + 1 = N - n by omega]
    iapply ih $$ [HI] [Hk]
    · isplitr; · iexact HC
      iexact HI
    iexact Hk

/-! ## The runs of copies -/

/-- Device `c`'s share of its keys and of its values. -/
def srcs (c : Dev nD) : sProp 𝕄 := iprop(src m c 0 ∗ src m c 1)

/-- What copy `t` of class `r` takes: its tile, and its duty's token. -/
def resG (c : Dev nD) (r : Fin 3) (t : ℕ) : sProp 𝕄 :=
  iprop((∃ f, gPts (F := F) c 0 (TG 0 r t) f) ∗ (∃ f, gPts (F := F) c 1 (TG 1 r t) f) ∗ dutyTok ER (kcell (c, kG r)) 0 t)

/-- What extra copy `t` of slot `s` takes. -/
def resE (c : Dev nD) (s : Fin 2) (t : ℕ) : sProp 𝕄 :=
  iprop((∃ f, ePts (F := F) c 0 (TE 0 s t) f) ∗ (∃ f, ePts (F := F) c 1 (TE 1 s t) f) ∗ dutyTok ER (kcell (c, kG (clsE s))) 0 (352 + t))

theorem wp_cpG (c : Dev nD) (r : Fin 3) (kv : Fin 2) (j : Fin 22) (h : Fin 8) (k : P F) (Q : PUnit → sProp 𝕄) :
    iprop(Ctx m K ∗ srcs m c ∗ resG (F := F) c r (16 * j.val + 8 * kv.val + h.val))
      ⊢ iprop(((srcs m c ∗ cred (tallyAt (kcell (c, kG r)) () NG)) -∗ WP c k Q)
          -∗ WP c (.op (cpG A0 c r kv j h) fun _ => k) Q) := by
  unfold srcs src resG
  match kv with
  | 0 =>
    iintro ⟨#HC, ⟨⟨%q, Hs⟩, Hv⟩, ⟨%fd, Hd⟩, -, Ht⟩ Hk
    ihave Hs' := (carve (srcV A0 0 (off c r j h) (off_inb c r j h)).view.set q _) $$ Hs
    icases Hs' with ⟨Hs1, Hs2⟩
    iapply (wp_cpK m K c r j h k Q fd q.right) $$ [Hs2 Hd Ht]
    · isplitr; · iapply (ctx_inv m K (c, kG r)); iexact HC
      isplitl [Hs2]; · iexact Hs2
      isplitl [Hd]; · rw [set_dstK]; unfold gPts; iexact Hd
      isplitl [Ht]; · iexact Ht
      iapply (ctx_reached m K (c, kG r)); iexact HC
    iintro Hc
    iapply Hk
    isplitl [Hs1 Hv]
    · isplitl [Hs1]
      · iexists q.left; iexact Hs1
      iexact Hv
    iexact Hc
  | 1 =>
    iintro ⟨#HC, ⟨Hv, ⟨%q, Hs⟩⟩, -, ⟨%fd, Hd⟩, Ht⟩ Hk
    ihave Hs' := (carve (srcV A0 1 (off c r j h) (off_inb c r j h)).view.set q _) $$ Hs
    icases Hs' with ⟨Hs1, Hs2⟩
    iapply (wp_cpV m K c r j h k Q fd q.right) $$ [Hs2 Hd Ht]
    · isplitr; · iapply (ctx_inv m K (c, kG r)); iexact HC
      isplitl [Hs2]; · iexact Hs2
      isplitl [Hd]; · rw [set_dstV]; unfold gPts; iexact Hd
      isplitl [Ht]; · iexact Ht
      iapply (ctx_reached m K (c, kG r)); iexact HC
    iintro Hc
    iapply Hk
    isplitl [Hs1 Hv]
    · isplitl [Hv]; · iexact Hv
      iexists q.left; iexact Hs1
    iexact Hc

theorem wp_enqG (c : Dev nD) (r : Fin 3) (t : ℕ) (ht : t < 352) (k : P F) (Q : PUnit → sProp 𝕄) :
    iprop(Ctx m K ∗ srcs m c ∗ resG (F := F) c r t)
      ⊢ iprop(((srcs m c ∗ cred (tallyAt (kcell (c, kG r)) () NG)) -∗ WP c k Q)
          -∗ WP c (.op (enqG A0 c r t) fun _ => k) Q) := by
  have e : t = 16 * (jOf t).val + 8 * (kvOf t).val + (hOf t).val := by
    show t = 16 * (t / 16 % 22) + 8 * (t / 8 % 2) + t % 8; omega
  have := wp_cpG m K c r (kvOf t) (jOf t) (hOf t) k Q
  rw [← e] at this
  exact this

/-- Class `r`'s copies before copy `t`. -/
def isG (c : Dev nD) (r : Fin 3) (t : ℕ) : sProp 𝕄 :=
  iprop(srcs m c ∗ cred (tallyAt (kcell (c, kG r)) () (t * NG)) ∗ bigSep (Finset.Ico t 352) fun i => resG (F := F) c r i)

theorem cred_join (g : GSem nD τ sig) (a b : ℕ) :
    iprop(cred (tallyAt g () a) ∗ cred (tallyAt g () b)) ⊢ (cred (tallyAt g () (a + b)) : sProp 𝕄) := by
  rw [← tallyAt_add]; exact (cred_add _ _).2

theorem run_issueG (c : Dev nD) (r : Fin 3) (k : P F) (Q : PUnit → sProp 𝕄) :
    iprop(Ctx m K ∗ isG m c r 0) ⊢ iprop((isG m c r 352 -∗ WP c k Q) -∗ WP c (run (enqG A0 c r) 352 352 k) Q) := by
  refine run_ind c Q (Ctx m K) (isG m c r) (enqG A0 c r) 352 (fun t ht k => ?_) 352 (Nat.le_refl _) k
  unfold isG
  rw [bigSep_Ico_succ_bot ht, Nat.succ_mul]
  iintro ⟨#HC, Hs, Hc, Hr, Hrest⟩ Hk
  iapply (wp_enqG m K c r t ht k Q) $$ [Hs Hr]
  · isplitr; · iexact HC
    isplitl [Hs]; · iexact Hs
    iexact Hr
  iintro ⟨Hs, Hc'⟩
  iapply Hk
  isplitl [Hs]; · iexact Hs
  isplitl [Hc Hc']
  · iapply (cred_join (kcell (c, kG r)) (t * NG) NG)
    isplitl [Hc]; · iexact Hc
    iexact Hc'
  iexact Hrest

/-! ## The extra copies -/

theorem clsE_slot (s : Fin 2) : slotOf (clsE s) = s := by revert s; decide
theorem clsE_nG (s : Fin 2) : nG (clsE s) = 384 := by revert s; decide
theorem extIx_lt (s kv p : Fin 2) (h : Fin 8) : 352 + (16 * kv.val + 8 * p.val + h.val) < nG (clsE s) := by
  rw [clsE_nG]; omega

theorem gPay_EK (c : Dev nD) (s p : Fin 2) (h : Fin 8) :
    ePts c 0 (TE 0 s (16 * (0 : Fin 2).val + 8 * p.val + h.val)) (EB m c 0) ⊢ gPay m c (clsE s) (352 + (16 * (0 : Fin 2).val + 8 * p.val + h.val)) := by
  have hp := p.isLt
  have hh := h.isLt
  unfold gPay
  rw [if_neg (by omega), Nat.add_sub_cancel_left, clsE_slot,
    TE_empty 1 s _ (by show (16 * 0 + 8 * p.val + h.val) / 16 ≠ 1; omega)]
  iintro H
  isplitl [H]; · iexact H
  unfold ePts; dsimp only; rw [pointsTo_empty]; iempintro
theorem gPay_EV (c : Dev nD) (s p : Fin 2) (h : Fin 8) :
    ePts c 1 (TE 1 s (16 * (1 : Fin 2).val + 8 * p.val + h.val)) (EB m c 1) ⊢ gPay m c (clsE s) (352 + (16 * (1 : Fin 2).val + 8 * p.val + h.val)) := by
  have hp := p.isLt
  have hh := h.isLt
  unfold gPay
  rw [if_neg (by omega), Nat.add_sub_cancel_left, clsE_slot,
    TE_empty 0 s _ (by show (16 * 1 + 8 * p.val + h.val) / 16 ≠ 0; omega)]
  iintro H
  isplitr; · unfold ePts; dsimp only; rw [pointsTo_empty]; iempintro
  iexact H

theorem landEK (c : Dev nD) (s p : Fin 2) (h : Fin 8) (fd : S2x128x1024.Idx → Elt F .f32) (X : sProp 𝕄) :
    iprop(((dstE A0 0 s p h).view.loc (c : Thread nD τ) ↦[(dstE A0 0 s p h).view.set]{fullShare}
      ((dstE A0 0 s p h).view.write (Elt F) fd ((srcV A0 0 (offE s p h) (offE_inb s p h)).view.read (Elt F) (kvC m c 0)) Finset.univ)) ∗ X)
    ⊢ (sched m).payload (kcell (c, kG (clsE s))) 0 (352 + (16 * (0 : Fin 2).val + 8 * p.val + h.val)) := by
  refine (keep_left _ X).trans ?_
  rw [payload_k]
  refine BIBase.Entails.trans ?_ (gPay_EK m c s p h)
  unfold ePts; dsimp only
  rw [← set_dstEK]
  exact Entails.of_eq (pointsTo_congr (wrote_EK m c s p h fd))

theorem wp_cpEK (c : Dev nD) (s p : Fin 2) (h : Fin 8) (k : P F) (Q : PUnit → sProp 𝕄) (fd : S2x128x1024.Idx → Elt F .f32)
    (q : PosShare TreeShare) :
    iprop(cellInv ER (sched m) (K (c, kG (clsE s))) (kcell (c, kG (clsE s)))
        ∗ ((srcV A0 0 (offE s p h) (offE_inb s p h)).view.loc (c : Thread nD τ) ↦[(srcV A0 0 (offE s p h) (offE_inb s p h)).view.set]{q} m ((c : Thread nD τ).loc main_arg2))
        ∗ ((dstE A0 0 s p h).view.loc (c : Thread nD τ) ↦[(dstE A0 0 s p h).view.set]{fullShare} fd)
        ∗ dutyTok ER (kcell (c, kG (clsE s))) 0 (352 + (16 * (0 : Fin 2).val + 8 * p.val + h.val)) ∗ reached ER (kcell (c, kG (clsE s))) 0)
      ⊢ iprop((cred (tallyAt (kcell (c, kG (clsE s))) () NG) -∗ WP c k Q) -∗ WP c (.op (enqE A0 0 s p h) fun _ => k) Q) :=
  Rounds.wp_copy_pointsTo (defs := defs₀ (F := F)) 𝒱₀ ER (sched m) (c : Thread nD τ) none
    (src := srcV A0 0 (offE s p h) (offE_inb s p h)) (dst := dstE A0 0 s p h) (sem := .dma (gsem A0 (clsE s)))
    (κ := K (c, kG (clsE s))) (r := 0) (d := 352 + (16 * (0 : Fin 2).val + 8 * p.val + h.val)) (q := q)
    (fs := m ((c : Thread nD τ).loc main_arg2)) (fd := fd)
    (mem_dutiesG m c (clsE s) _ (extIx_lt s 0 p h)) () NG rfl (amount_k m c (kG (clsE s)) _) (landEK m c s p h fd _) (k := fun _ => k) (Q := Q) (hsrc := (View.wordExact_bits rfl).reshape _ _) (hdst := (View.wordExact_bits rfl).reshape _ _) (hsem := ⟨Or.inl rfl, trivial⟩)

theorem landEV (c : Dev nD) (s p : Fin 2) (h : Fin 8) (fd : S2x128x1024.Idx → Elt F .f32) (X : sProp 𝕄) :
    iprop(((dstE A0 1 s p h).view.loc (c : Thread nD τ) ↦[(dstE A0 1 s p h).view.set]{fullShare}
      ((dstE A0 1 s p h).view.write (Elt F) fd ((srcV A0 1 (offE s p h) (offE_inb s p h)).view.read (Elt F) (kvC m c 1)) Finset.univ)) ∗ X)
    ⊢ (sched m).payload (kcell (c, kG (clsE s))) 0 (352 + (16 * (1 : Fin 2).val + 8 * p.val + h.val)) := by
  refine (keep_left _ X).trans ?_
  rw [payload_k]
  refine BIBase.Entails.trans ?_ (gPay_EV m c s p h)
  unfold ePts; dsimp only
  rw [← set_dstEV]
  exact Entails.of_eq (pointsTo_congr (wrote_EV m c s p h fd))

theorem wp_cpEV (c : Dev nD) (s p : Fin 2) (h : Fin 8) (k : P F) (Q : PUnit → sProp 𝕄) (fd : S2x128x1024.Idx → Elt F .f32)
    (q : PosShare TreeShare) :
    iprop(cellInv ER (sched m) (K (c, kG (clsE s))) (kcell (c, kG (clsE s)))
        ∗ ((srcV A0 1 (offE s p h) (offE_inb s p h)).view.loc (c : Thread nD τ) ↦[(srcV A0 1 (offE s p h) (offE_inb s p h)).view.set]{q} m ((c : Thread nD τ).loc main_arg3))
        ∗ ((dstE A0 1 s p h).view.loc (c : Thread nD τ) ↦[(dstE A0 1 s p h).view.set]{fullShare} fd)
        ∗ dutyTok ER (kcell (c, kG (clsE s))) 0 (352 + (16 * (1 : Fin 2).val + 8 * p.val + h.val)) ∗ reached ER (kcell (c, kG (clsE s))) 0)
      ⊢ iprop((cred (tallyAt (kcell (c, kG (clsE s))) () NG) -∗ WP c k Q) -∗ WP c (.op (enqE A0 1 s p h) fun _ => k) Q) :=
  Rounds.wp_copy_pointsTo (defs := defs₀ (F := F)) 𝒱₀ ER (sched m) (c : Thread nD τ) none
    (src := srcV A0 1 (offE s p h) (offE_inb s p h)) (dst := dstE A0 1 s p h) (sem := .dma (gsem A0 (clsE s)))
    (κ := K (c, kG (clsE s))) (r := 0) (d := 352 + (16 * (1 : Fin 2).val + 8 * p.val + h.val)) (q := q)
    (fs := m ((c : Thread nD τ).loc main_arg3)) (fd := fd)
    (mem_dutiesG m c (clsE s) _ (extIx_lt s 1 p h)) () NG rfl (amount_k m c (kG (clsE s)) _) (landEV m c s p h fd _) (k := fun _ => k) (Q := Q) (hsrc := (View.wordExact_bits rfl).reshape _ _) (hdst := (View.wordExact_bits rfl).reshape _ _) (hsem := ⟨Or.inl rfl, trivial⟩)

theorem wp_cpE (c : Dev nD) (kv s p : Fin 2) (h : Fin 8) (k : P F) (Q : PUnit → sProp 𝕄) :
    iprop(Ctx m K ∗ srcs m c ∗ resE (F := F) c s (16 * kv.val + 8 * p.val + h.val))
      ⊢ iprop(((srcs m c ∗ cred (tallyAt (kcell (c, kG (clsE s))) () NG)) -∗ WP c k Q)
          -∗ WP c (.op (enqE A0 kv s p h) fun _ => k) Q) := by
  unfold srcs src resE
  match kv with
  | 0 =>
    iintro ⟨#HC, ⟨⟨%q, Hs⟩, Hv⟩, ⟨%fd, Hd⟩, -, Ht⟩ Hk
    ihave Hs' := (carve (srcV A0 0 (offE s p h) (offE_inb s p h)).view.set q _) $$ Hs
    icases Hs' with ⟨Hs1, Hs2⟩
    iapply (wp_cpEK m K c s p h k Q fd q.right) $$ [Hs2 Hd Ht]
    · isplitr; · iapply (ctx_inv m K (c, kG (clsE s))); iexact HC
      isplitl [Hs2]; · iexact Hs2
      isplitl [Hd]; · rw [set_dstEK]; unfold ePts; iexact Hd
      isplitl [Ht]; · iexact Ht
      iapply (ctx_reached m K (c, kG (clsE s))); iexact HC
    iintro Hc
    iapply Hk
    isplitl [Hs1 Hv]
    · isplitl [Hs1]
      · iexists q.left; iexact Hs1
      iexact Hv
    iexact Hc
  | 1 =>
    iintro ⟨#HC, ⟨Hv, ⟨%q, Hs⟩⟩, -, ⟨%fd, Hd⟩, Ht⟩ Hk
    ihave Hs' := (carve (srcV A0 1 (offE s p h) (offE_inb s p h)).view.set q _) $$ Hs
    icases Hs' with ⟨Hs1, Hs2⟩
    iapply (wp_cpEV m K c s p h k Q fd q.right) $$ [Hs2 Hd Ht]
    · isplitr; · iapply (ctx_inv m K (c, kG (clsE s))); iexact HC
      isplitl [Hs2]; · iexact Hs2
      isplitl [Hd]; · rw [set_dstEV]; unfold ePts; iexact Hd
      isplitl [Ht]; · iexact Ht
      iapply (ctx_reached m K (c, kG (clsE s))); iexact HC
    iintro Hc
    iapply Hk
    isplitl [Hs1 Hv]
    · isplitl [Hv]; · iexact Hv
      iexists q.left; iexact Hs1
    iexact Hc

/-- How many of the first `t` extra copies are slot `s`'s. -/
def cnt (s : Fin 2) (t : ℕ) : ℕ := 16 * (t / 32) + if s = 0 then min (t % 32) 16 else t % 32 - 16

/-- Slot `s`'s copies before its copy `n`: the credits so far, and what the rest takes. -/
def isE (c : Dev nD) (s : Fin 2) (n : ℕ) : sProp 𝕄 :=
  iprop(cred (tallyAt (kcell (c, kG (clsE s))) () (n * NG)) ∗ bigSep (Finset.Ico n 32) fun i => resE (F := F) c s i)

/-- The extra copies before copy `t`. -/
def isX (c : Dev nD) (t : ℕ) : sProp 𝕄 := iprop(srcs m c ∗ isE (F := F) c 0 (cnt 0 t) ∗ isE (F := F) c 1 (cnt 1 t))

theorem wp_enqX0 (c : Dev nD) (s : Fin 2) (t : ℕ) (ht : t < 64) (hs : t / 16 % 2 = s.val) (k : P F) (Q : PUnit → sProp 𝕄) :
    iprop(Ctx m K ∗ srcs m c ∗ isE (F := F) c s (cnt s t))
      ⊢ iprop(((srcs m c ∗ isE (F := F) c s (cnt s (t + 1))) -∗ WP c k Q) -∗ WP c (.op (enqX A0 t) fun _ => k) Q) := by
  have e : cnt s t = 16 * (b2Of (t / 32)).val + 8 * (b2Of (t / 8)).val + (hOf t).val := by
    show 16 * (t / 32) + (if s = 0 then min (t % 32) 16 else t % 32 - 16) = 16 * (t / 32 % 2) + 8 * (t / 8 % 2) + t % 8
    match s, hs with
    | 0, hs => have hs : t / 16 % 2 = 0 := hs; rw [if_pos rfl]; omega
    | 1, hs => have hs : t / 16 % 2 = 1 := hs; rw [if_neg (by decide)]; omega
  have e1 : cnt s (t + 1) = cnt s t + 1 := by
    show 16 * ((t + 1) / 32) + (if s = 0 then min ((t + 1) % 32) 16 else (t + 1) % 32 - 16) = 16 * (t / 32) + (if s = 0 then min (t % 32) 16 else t % 32 - 16) + 1
    match s, hs with
    | 0, hs => have hs : t / 16 % 2 = 0 := hs; rw [if_pos rfl, if_pos rfl]; omega
    | 1, hs => have hs : t / 16 % 2 = 1 := hs; rw [if_neg (by decide), if_neg (by decide)]; omega
  have hlt : cnt s t < 32 := by rw [e]; show 16 * (t / 32 % 2) + 8 * (t / 8 % 2) + t % 8 < 32; omega
  have es : b2Of (t / 16) = s := Fin.ext hs
  have W := wp_cpE m K c (b2Of (t / 32)) s (b2Of (t / 8)) (hOf t) k Q
  rw [← e] at W
  unfold isE
  rw [bigSep_Ico_succ_bot hlt, e1, Nat.succ_mul]
  iintro ⟨#HC, Hs, Hc, Hr, Hrest⟩ Hk
  unfold enqX
  rw [es]
  iapply W $$ [Hs Hr]
  · isplitr; · iexact HC
    isplitl [Hs]; · iexact Hs
    iexact Hr
  iintro ⟨Hs, Hc'⟩
  iapply Hk
  isplitl [Hs]; · iexact Hs
  isplitl [Hc Hc']
  · iapply (cred_join (kcell (c, kG (clsE s))) (cnt s t * NG) NG)
    isplitl [Hc]; · iexact Hc
    iexact Hc'
  iexact Hrest

theorem run_issueX (c : Dev nD) (k : P F) (Q : PUnit → sProp 𝕄) :
    iprop(Ctx m K ∗ isX m c 0) ⊢ iprop((isX m c 64 -∗ WP c k Q) -∗ WP c (run (enqX A0) 64 64 k) Q) := by
  refine run_ind c Q (Ctx m K) (isX m c) (enqX A0) 64 (fun t ht k => ?_) 64 (Nat.le_refl _) k
  unfold isX
  rcases Nat.mod_two_eq_zero_or_one (t / 16) with hs | hs
  · have e1 : cnt 1 (t + 1) = cnt 1 t := by
      show 16 * ((t + 1) / 32) + ((t + 1) % 32 - 16) = 16 * (t / 32) + (t % 32 - 16)
      omega
    rw [e1]
    iintro ⟨#HC, Hs, H0, H1⟩ Hk
    iapply (wp_enqX0 m K c 0 t ht hs k Q) $$ [Hs H0]
    · isplitr; · iexact HC
      isplitl [Hs]; · iexact Hs
      iexact H0
    iintro ⟨Hs, H0⟩
    iapply Hk
    isplitl [Hs]; · iexact Hs
    isplitl [H0]; · iexact H0
    iexact H1
  · have e0 : cnt 0 (t + 1) = cnt 0 t := by
      show 16 * ((t + 1) / 32) + min ((t + 1) % 32) 16 = 16 * (t / 32) + min (t % 32) 16
      omega
    rw [e0]
    iintro ⟨#HC, Hs, H0, H1⟩ Hk
    iapply (wp_enqX0 m K c 1 t ht hs k Q) $$ [Hs H1]
    · isplitr; · iexact HC
      isplitl [Hs]; · iexact Hs
      iexact H1
    iintro ⟨Hs, H1⟩
    iapply Hk
    isplitl [Hs]; · iexact Hs
    isplitl [H0]; · iexact H0
    iexact H1

/-! ## The waits -/

/-- What device `c` owes, whatever it has waited for. -/
def owesX (c : Dev nD) (l : List (Fin 3 × CellK)) : sProp 𝕄 := iprop(∃ W, owes (c : Thread nD τ) (owe c l) W)

/-- What class `r` has handed over after `M` waits: some whole tiles, and after the last all of them. -/
def got (c : Dev nD) (r : Fin 3) (M : ℕ) : sProp 𝕄 :=
  if M = nG r then iprop(atPos ER (kcell (c, kG r)) 1 ∅ 0 ∗ bigSep (Finset.range (nG r)) fun t => gPay m c r t)
  else iprop(∃ T : Finset ℕ, ⌜T ⊆ Finset.range (nG r)⌝ ∗ atPos ER (kcell (c, kG r)) 0 T (M * NG) ∗ bigSep T fun t => gPay m c r t)

/-- Class `r`'s copies after `M` waits. -/
def wt (c : Dev nD) (r : Fin 3) (l : List (Fin 3 × CellK)) (M : ℕ) : sProp 𝕄 :=
  iprop(owesX (F := F) c l ∗ got m c r M ∗ cred (tallyAt (kcell (c, kG r)) () ((nG r - M) * NG)))

theorem expect_G (c : Dev nD) (r : Fin 3) : (sched m).expect (kcell (c, kG r)) 0 = nG r * NG := by
  rw [expect_k]; show (Finset.range (nG r)).card * NG = _; rw [Finset.card_range]

theorem rest_G (c : Dev nD) (r : Fin 3) (T S : Finset ℕ) (h : T ⊆ S) :
    iprop((bigSep T fun t => gPay m c r t) ∗ bigSep (S \ T) fun t => (sched m).payload (kcell (c, kG r)) 0 t) ⊢ bigSep S fun t => gPay m c r t := by
  rw [show (bigSep (S \ T) fun t => (sched m).payload (kcell (c, kG r)) 0 t) = bigSep (S \ T) fun t => gPay m c r t from
    bigSep_congr fun d _ => payload_k m c (kG r) d]
  exact Entails.of_eq (bigSep_sdiff_split (Φ := fun t => gPay m c r t) h).symm

theorem wp_waitG (c : Dev nD) (r : Fin 3) (l : List (Fin 3 × CellK)) (hl : ∀ p ∈ l, lv (kcell (c, kG r)) () < lvK p.2) (M : ℕ) (hM : M < nG r)
    (w : TpuEff nD τ sig (Elt F) Λ₀ .tc PUnit)
    (hw : ∀ X : PUnit → sProp 𝕄, wpE (defs₀ (F := F)) 𝒱₀ (c : Thread nD τ) none Set.univ w X = waitSpec (c : Thread nD τ) Set.univ (ksem (kG r)) NG X)
    (k : P F) (Q : PUnit → sProp 𝕄) :
    iprop((Ctx m K ∗ levAts L lv) ∗ wt m c r l M) ⊢ iprop((wt m c r l (M + 1) -∗ WP c k Q) -∗ WP c (.op w fun _ => k) Q) := by
  unfold wt owesX
  rw [show nG r - M = (nG r - (M + 1)) + 1 by omega, Nat.succ_mul]
  by_cases hlast : M + 1 = nG r
  · unfold got
    rw [if_neg (by omega), if_pos hlast]
    have hk : M * NG + NG = (sched m).expect (kcell (c, kG r)) 0 := by rw [expect_G, ← hlast, Nat.succ_mul]
    iintro ⟨⟨#HC, #Hlev⟩, ⟨%W, HO⟩, ⟨%T, %hT, Hat, Hpay⟩, Hc⟩ Hk
    ihave Hc' := (Entails.of_eq (congrArg cred (tallyAt_add (kcell (c, kG r)) () ((nG r - (M + 1)) * NG) NG).symm)) $$ Hc
    ihave Hc'' := ((cred_add _ _).1) $$ Hc'
    icases Hc'' with ⟨Hc1, Hc2⟩
    iapply (Rounds.wp_wait_rest_token 𝒱₀ ER (sched m) (c : Thread nD τ) none (κ := K (c, kG r)) hw (Set.mem_univ _) ()
      (O := owe c l) (W := W) (R := 0) (m := M * NG) (T := T) hk) $$ [Hc2 HO Hat]
    · isplitr; · iapply (ctx_inv m K (c, kG r)); iexact HC
      isplitl [Hc2]; · iexact Hc2
      isplitl [HO]; · iexact HO
      isplitr; · iapply (mayWait c (ksem (kG r)) l hl); iexact Hlev
      iexact Hat
    iintro ⟨HO, Hat, -, Hrest⟩
    iapply Hk
    isplitl [HO]; · iexists _; iexact HO
    isplitr [Hc1]
    · isplitl [Hat]; · iexact Hat
      rw [duties_k]
      iapply (rest_G m c r T (Finset.range (nG r)) hT)
      isplitl [Hpay]; · iexact Hpay
      iexact Hrest
    · iexact Hc1
  · unfold got
    rw [if_neg (by omega), if_neg hlast, Nat.succ_mul]
    iintro ⟨⟨#HC, #Hlev⟩, ⟨%W, HO⟩, ⟨%T, %hT, Hat, Hpay⟩, Hc⟩ Hk
    ihave Hc' := (Entails.of_eq (congrArg cred (tallyAt_add (kcell (c, kG r)) () ((nG r - (M + 1)) * NG) NG).symm)) $$ Hc
    ihave Hc'' := ((cred_add _ _).1) $$ Hc'
    icases Hc'' with ⟨Hc1, Hc2⟩
    iapply (Rounds.wp_wait 𝒱₀ ER (sched m) (c : Thread nD τ) none (κ := K (c, kG r)) hw (Set.mem_univ _)
      (cr := Finsupp.single () NG) (O := owe c l) (W := W) {(ksem (kG r), ())} (R := 0) (m := M * NG) (T := T)
      (by rw [Util.total_single]) (image_single_subset (ksem (kG r)) () NG)) $$ [Hc2 HO Hat]
    · isplitr; · iapply (ctx_inv m K (c, kG r)); iexact HC
      isplitl [Hc2]; · iexact Hc2
      isplitl [HO]; · iexact HO
      isplitr; · iapply (mayWait c (ksem (kG r)) l hl); iexact Hlev
      iexact Hat
    iintro %S ⟨%hS, HO, Hat, Hrest⟩
    iapply Hk
    isplitl [HO]; · iexists _; iexact HO
    isplitr [Hc1]
    · iexists S
      isplitr
      · ipureintro
        have := hS.2.1
        rw [duties_k] at this
        exact this
      isplitl [Hat]; · iexact Hat
      iapply (rest_G m c r T S hS.1)
      isplitl [Hpay]; · iexact Hpay
      iexact Hrest
    · iexact Hc1

/-- A run of `N` waits of class `r` from the `M`-th on. -/
theorem run_waits (c : Dev nD) (r : Fin 3) (l : List (Fin 3 × CellK)) (hl : ∀ p ∈ l, lv (kcell (c, kG r)) () < lvK p.2) (M N : ℕ) (hM : M + N ≤ nG r)
    (op : ℕ → TpuEff nD τ sig (Elt F) Λ₀ .tc PUnit)
    (hw : ∀ t, ∀ X : PUnit → sProp 𝕄, wpE (defs₀ (F := F)) 𝒱₀ (c : Thread nD τ) none Set.univ (op t) X = waitSpec (c : Thread nD τ) Set.univ (ksem (kG r)) NG X)
    (k : P F) (Q : PUnit → sProp 𝕄) :
    iprop((Ctx m K ∗ levAts L lv) ∗ wt m c r l M) ⊢ iprop((wt m c r l (M + N) -∗ WP c k Q) -∗ WP c (run op N N k) Q) := by
  have := run_ind c Q iprop(Ctx m K ∗ levAts L lv) (fun t => wt m c r l (M + t)) op N
    (fun t ht k => wp_waitG m K c r l hl (M + t) (by omega) (op t) (hw t) k Q) N (Nat.le_refl _) k
  rw [Nat.sub_self] at this
  exact this

theorem run_waitG (c : Dev nD) (r : Fin 3) (l : List (Fin 3 × CellK)) (hl : ∀ p ∈ l, lv (kcell (c, kG r)) () < lvK p.2) (k : P F) (Q : PUnit → sProp 𝕄) :
    iprop((Ctx m K ∗ levAts L lv) ∗ wt m c r l 0) ⊢ iprop((wt m c r l 352 -∗ WP c k Q) -∗ WP c (run (waitG A0 c r) 352 352 k) Q) :=
  run_waits m K c r l hl 0 352 (by rw [Nat.zero_add]; exact nG_ge r) (waitG A0 c r) (fun t X => rfl) k Q

theorem run_waitX (c : Dev nD) (s : Fin 2) (l : List (Fin 3 × CellK)) (hl : ∀ p ∈ l, lv (kcell (c, kG (clsE s))) () < lvK p.2) (k : P F) (Q : PUnit → sProp 𝕄) :
    iprop((Ctx m K ∗ levAts L lv) ∗ wt m c (clsE s) l 352) ⊢ iprop((wt m c (clsE s) l 384 -∗ WP c k Q) -∗ WP c (run (waitX A0 s) 32 32 k) Q) :=
  run_waits m K c (clsE s) l hl 352 32 (by rw [clsE_nG]) (waitX A0 s) (fun t X => rfl) k Q

end Cert.KernelIdeal.Hand

end
-- ==== Proof.KernelIdeal.Exchange.lean ====
/- The exchange: a chunk enters a round (its slots are filled and sent to the partner) and leaves it (the partner's parts
   are added), and the barrier before the first. -/
module

public import proofs.«01_k».proof.Proof.KernelIdeal.Copies

@[expose] public section

noncomputable section

namespace Cert.KernelIdeal.Hand

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable (K : Dev nD × CellK → ℕ)

/-! ## The slots -/

abbrev rectU (ch : Fin 4) (r : Fin 3) : Rect S4x3x64x1024 := Rect.unit (s := S4x3x64x1024) ![ch.val, r.val, 0, 0] S1x1x64x1024.size (slotU_inb ch r)
abbrev rectL (ch : Fin 4) (r : Fin 3) : Rect S4x3x64x8 := Rect.unit (s := S4x3x64x8) ![ch.val, r.val, 0, 0] S1x1x64x8.size (slotL_inb ch r)

theorem slotU_set (M : Memref sig .tc .vmem S4x3x64x1024 .bf16) (ch : Fin 4) (r : Fin 3) : (slotU M ch r).view.set = (M.access (rectU ch r)).set :=
  View.set_reshape _ _
theorem slotL_set (M : Memref sig .tc .vmem S4x3x64x8 .f32) (ch : Fin 4) (r : Fin 3) : (slotL M ch r).view.set = (M.access (rectL ch r)).set :=
  View.set_reshape _ _

theorem slotU_read (M : Memref sig .tc .vmem S4x3x64x1024 .bf16) (ch : Fin 4) (r : Fin 3) (f : M.view.ty.Contents (Elt F)) :
    (slotU M ch r).view.read (Elt F) f = shapeCast S64x1024 ((M.access (rectU ch r)).read (Elt F) f) shapeCasts_S1x1x64x1024_S64x1024 := rfl
theorem slotL_read (M : Memref sig .tc .vmem S4x3x64x8 .f32) (ch : Fin 4) (r : Fin 3) (f : M.view.ty.Contents (Elt F)) :
    (slotL M ch r).view.read (Elt F) f = shapeCast S64x8 ((M.access (rectL ch r)).read (Elt F) f) shapeCasts_S1x1x64x8_S64x8 := rfl

theorem slotU_wrote (M : Memref sig .tc .vmem S4x3x64x1024 .bf16) (ch : Fin 4) (r : Fin 3) (f : M.view.ty.Contents (Elt F)) (v : FVec F S64x1024 .bf16) :
    (slotU M ch r).view.read (Elt F) ((M.access (rectU ch r)).write (Elt F) f (shapeCast S1x1x64x1024 v shapeCasts_S64x1024_S1x1x64x1024) Finset.univ) = v := by
  rw [slotU_read, View.read_write_univ]
  exact shapeCast_shapeCast v _ _
theorem slotL_wrote (M : Memref sig .tc .vmem S4x3x64x8 .f32) (ch : Fin 4) (r : Fin 3) (f : M.view.ty.Contents (Elt F)) (v : FVec F S64x8 .f32) :
    (slotL M ch r).view.read (Elt F) ((M.access (rectL ch r)).write (Elt F) f (shapeCast S1x1x64x8 v shapeCasts_S64x8_S1x1x64x8) Finset.univ) = v := by
  rw [slotL_read, View.read_write_univ]
  exact shapeCast_shapeCast v _ _

/-! ## Filling a slot -/

theorem wp_fillU (c : Dev nD) (ch : Fin 4) (r : Fin 3) (u : FVec F S64x1024 .f32) (k : P F) (Q : PUnit → sProp 𝕄) :
    uAny (F := F) A0.us c ch r ⊢ iprop((uHas A0.us c ch r (truncf .bf16 u bitsLt_bf16_f32) -∗ WP c k Q)
      -∗ WP c (.op (ldU A0.us ch r) fun _ => .op (stU A0 ch r u) fun _ => k) Q) := by
  unfold uAny uHas
  iintro ⟨%f, Hf⟩ Hk
  unfold ldU stU
  iapply (wp_load_rect 𝒱₀ (c : Thread nD τ) none Set.univ (m := A0.us) (r := rectU ch r) (by rw [← slotU_set])) $$ Hf
  iintro Hf
  iapply (wp_store 𝒱₀ (c : Thread nD τ) none Set.univ (m := A0.us) (r := rectU ch r) (Mk := Finset.univ) (by rw [slotU_set]; exact subset_rfl)) $$ Hf
  iintro Hf
  iapply Hk
  iexists _
  isplitr
  rotate_left
  · iexact Hf
  · ipureintro; exact slotU_wrote A0.us ch r f _

theorem wp_fillL (c : Dev nD) (ch : Fin 4) (r : Fin 3) (l : FVec F S64x8 .f32) (k : P F) (Q : PUnit → sProp 𝕄) :
    lAny (F := F) A0.ls c ch r ⊢ iprop((lHas A0.ls c ch r l -∗ WP c k Q)
      -∗ WP c (.op (ldL A0.ls ch r) fun _ => .op (stL A0 ch r l) fun _ => k) Q) := by
  unfold lAny lHas
  iintro ⟨%f, Hf⟩ Hk
  unfold ldL stL
  iapply (wp_load_rect 𝒱₀ (c : Thread nD τ) none Set.univ (m := A0.ls) (r := rectL ch r) (by rw [← slotL_set])) $$ Hf
  iintro Hf
  iapply (wp_store 𝒱₀ (c : Thread nD τ) none Set.univ (m := A0.ls) (r := rectL ch r) (Mk := Finset.univ) (by rw [slotL_set]; exact subset_rfl)) $$ Hf
  iintro Hf
  iapply Hk
  iexists _
  isplitr
  rotate_left
  · iexact Hf
  · ipureintro; exact slotL_wrote A0.ls ch r f _

/-! ## Sending a slot -/

theorem mem_dutiesX (c : Dev nD) (a ch : Fin 4) (r : Fin 3) : 0 ∈ (sched m).duties (kcell (c, kX a ch r)) 0 := by
  rw [duties_k]; exact Finset.mem_singleton_self 0

theorem wp_sendU (c : Dev nD) (ch : Fin 4) (r : Fin 3) (l : List (Fin 3 × CellK)) (k : P F) (Q : PUnit → sProp 𝕄) :
    iprop(Ctx m K ∗ uHas A0.us c ch r (sU m c ch r) ∗ uAny (F := F) A0.ur (pdev c r) ch r ∗ owesX (F := F) c ((r, kX 1 ch r) :: l)
        ∗ dutyTok ER (kcell (c, kX 0 ch r)) 0 0 ∗ dutyTok ER (kcell (pdev c r, kX 1 ch r)) 0 0)
      ⊢ iprop(((cred (tallyAt (kcell (c, kX 0 ch r)) () NU) ∗ owesX (F := F) c l) -∗ WP c k Q)
          -∗ WP c (.op (sendU A0 c ch r) fun _ => k) Q) := by
  unfold uAny owesX
  iintro ⟨#HC, Hs, ⟨%fd, Hd⟩, ⟨%W, HO⟩, Ht, Ht'⟩ Hk
  unfold uHas
  icases Hs with ⟨%fs, %hfs, Hs⟩
  iapply (Rounds.wp_send_pointsTo (defs := defs₀ (F := F)) 𝒱₀ ER (sched m) (c : Thread nD τ) none
    (c' := (pdev c r : Thread nD τ)) (src := slotU A0.us ch r) (dst := slotU A0.ur ch r) (sS := .dma (sem43 A0.uss ch r)) (sem := .dma (sem43 A0.urs ch r))
    (κ₁ := K (c, kX 0 ch r)) (κ₂ := K (pdev c r, kX 1 ch r)) (r₁ := 0) (r₂ := 0) (d₁ := 0) (d₂ := 0) (q := fullShare) (fs := fs) (fd := fd)
    (mem_dutiesX m c 0 ch r) (mem_dutiesX m (pdev c r) 1 ch r) () () NU rfl (amount_k m c (kX 0 ch r) 0) (amount_k m (pdev c r) (kX 1 ch r) 0)
    (O₀ := owe c ((r, kX 1 ch r) :: l)) (owe c l) rfl (W := W)
    (by
      rw [show (sched m).payload ((c : Thread nD τ), SemLoc.dma (sem43 A0.uss ch r)) 0 0 = uHas A0.us c ch r (sU m c ch r) from payload_k m c (kX 0 ch r) 0]
      unfold uHas
      iintro H
      iexists fs
      isplitr; · ipureintro; exact hfs
      iexact H)
    (by
      rw [show (sched m).payload ((pdev c r : Thread nD τ), SemLoc.dma (sem43 A0.urs ch r)) 0 0 = uHas A0.ur (pdev c r) ch r (sU m c ch r) from
        (payload_k m (pdev c r) (kX 1 ch r) 0).trans (by show uHas A0.ur (pdev c r) ch r (sU m (pdev (pdev c r) r) ch r) = _; rw [pdev_pdev])]
      unfold uHas
      iintro H
      iexists _
      isplitr
      rotate_left
      · iexact H
      · ipureintro; exact (View.read_write_univ _ _).trans hfs)
    (k := fun _ => k) (Q := Q)) $$ [Hs Hd HO Ht Ht']
  · isplitr; · iapply (ctx_inv m K (c, kX 0 ch r)); iexact HC
    isplitr; · iapply (ctx_inv m K (pdev c r, kX 1 ch r)); iexact HC
    isplitl [Hs]; · iexact Hs
    isplitl [Hd]; · iexact Hd
    isplitl [HO]; · iexact HO
    isplitl [Ht]; · iexact Ht
    isplitr; · iapply (ctx_reached m K (c, kX 0 ch r)); iexact HC
    isplitl [Ht']; · iexact Ht'
    iapply (ctx_reached m K (pdev c r, kX 1 ch r)); iexact HC
  iintro ⟨Hc, HO⟩
  iapply Hk
  isplitl [Hc]; · iexact Hc
  iexists W; iexact HO

theorem wp_sendL (c : Dev nD) (ch : Fin 4) (r : Fin 3) (l : List (Fin 3 × CellK)) (k : P F) (Q : PUnit → sProp 𝕄) :
    iprop(Ctx m K ∗ lHas A0.ls c ch r (sL m c ch r) ∗ lAny (F := F) A0.lr (pdev c r) ch r ∗ owesX (F := F) c ((r, kX 3 ch r) :: l)
        ∗ dutyTok ER (kcell (c, kX 2 ch r)) 0 0 ∗ dutyTok ER (kcell (pdev c r, kX 3 ch r)) 0 0)
      ⊢ iprop(((cred (tallyAt (kcell (c, kX 2 ch r)) () NL) ∗ owesX (F := F) c l) -∗ WP c k Q)
          -∗ WP c (.op (sendL A0 c ch r) fun _ => k) Q) := by
  unfold lAny owesX
  iintro ⟨#HC, Hs, ⟨%fd, Hd⟩, ⟨%W, HO⟩, Ht, Ht'⟩ Hk
  unfold lHas
  icases Hs with ⟨%fs, %hfs, Hs⟩
  iapply (Rounds.wp_send_pointsTo (defs := defs₀ (F := F)) 𝒱₀ ER (sched m) (c : Thread nD τ) none
    (c' := (pdev c r : Thread nD τ)) (src := slotL A0.ls ch r) (dst := slotL A0.lr ch r) (sS := .dma (sem43 A0.lss ch r)) (sem := .dma (sem43 A0.lrs ch r))
    (κ₁ := K (c, kX 2 ch r)) (κ₂ := K (pdev c r, kX 3 ch r)) (r₁ := 0) (r₂ := 0) (d₁ := 0) (d₂ := 0) (q := fullShare) (fs := fs) (fd := fd)
    (mem_dutiesX m c 2 ch r) (mem_dutiesX m (pdev c r) 3 ch r) () () NL rfl (amount_k m c (kX 2 ch r) 0) (amount_k m (pdev c r) (kX 3 ch r) 0)
    (O₀ := owe c ((r, kX 3 ch r) :: l)) (owe c l) rfl (W := W)
    (by
      rw [show (sched m).payload ((c : Thread nD τ), SemLoc.dma (sem43 A0.lss ch r)) 0 0 = lHas A0.ls c ch r (sL m c ch r) from payload_k m c (kX 2 ch r) 0]
      unfold lHas
      iintro H
      iexists fs
      isplitr; · ipureintro; exact hfs
      iexact H)
    (by
      rw [show (sched m).payload ((pdev c r : Thread nD τ), SemLoc.dma (sem43 A0.lrs ch r)) 0 0 = lHas A0.lr (pdev c r) ch r (sL m c ch r) from
        (payload_k m (pdev c r) (kX 3 ch r) 0).trans (by show lHas A0.lr (pdev c r) ch r (sL m (pdev (pdev c r) r) ch r) = _; rw [pdev_pdev])]
      unfold lHas
      iintro H
      iexists _
      isplitr
      rotate_left
      · iexact H
      · ipureintro; exact (View.read_write_univ _ _).trans hfs)
    (k := fun _ => k) (Q := Q)) $$ [Hs Hd HO Ht Ht']
  · isplitr; · iapply (ctx_inv m K (c, kX 2 ch r)); iexact HC
    isplitr; · iapply (ctx_inv m K (pdev c r, kX 3 ch r)); iexact HC
    isplitl [Hs]; · iexact Hs
    isplitl [Hd]; · iexact Hd
    isplitl [HO]; · iexact HO
    isplitl [Ht]; · iexact Ht
    isplitr; · iapply (ctx_reached m K (c, kX 2 ch r)); iexact HC
    isplitl [Ht']; · iexact Ht'
    iapply (ctx_reached m K (pdev c r, kX 3 ch r)); iexact HC
  iintro ⟨Hc, HO⟩
  iapply Hk
  isplitl [Hc]; · iexact Hc
  iexists W; iexact HO

/-! ## Entering a round -/

/-- What a chunk takes into a round: its own send slots, the partner's landing slots, four duties' tokens. -/
def stRes (c : Dev nD) (ch : Fin 4) (r : Fin 3) : sProp 𝕄 :=
  iprop((uAny (F := F) A0.us c ch r ∗ lAny (F := F) A0.ls c ch r) ∗ (uAny (F := F) A0.ur (pdev c r) ch r ∗ lAny (F := F) A0.lr (pdev c r) ch r)
    ∗ (dutyTok ER (kcell (c, kX 0 ch r)) 0 0 ∗ dutyTok ER (kcell (c, kX 2 ch r)) 0 0)
    ∗ (dutyTok ER (kcell (pdev c r, kX 1 ch r)) 0 0 ∗ dutyTok ER (kcell (pdev c r, kX 3 ch r)) 0 0))

/-- The credits a chunk has in a round. -/
def flRes (c : Dev nD) (ch : Fin 4) (r : Fin 3) : sProp 𝕄 :=
  iprop(cred (tallyAt (kcell (c, kX 0 ch r)) () NU) ∗ cred (tallyAt (kcell (c, kX 2 ch r)) () NL))

theorem wp_start (c : Dev nD) (ch : Fin 4) (r : Fin 3) (l : List (Fin 3 × CellK)) (k : P F) (Q : PUnit → sProp 𝕄) :
    iprop(Ctx m K ∗ stRes (F := F) c ch r ∗ owesX (F := F) c (pays ch r ++ l))
      ⊢ iprop(((flRes (F := F) c ch r ∗ owesX (F := F) c l) -∗ WP c k Q)
          -∗ WP c (start A0 c ch r (UL m ch r.val c).1 (UL m ch r.val c).2 k) Q) := by
  unfold stRes flRes start
  iintro ⟨#HC, ⟨⟨Hus, Hls⟩, ⟨Hur, Hlr⟩, ⟨Ht0, Ht2⟩, Ht1, Ht3⟩, HO⟩ Hk
  iapply (wp_fillU c ch r (UL m ch r.val c).1 _ Q) $$ Hus
  iintro Hus
  iapply (wp_fillL c ch r (UL m ch r.val c).2 _ Q) $$ Hls
  iintro Hls
  iapply (wp_sendU m K c ch r ((r, kX 3 ch r) :: l) _ Q) $$ [Hus Hur HO Ht0 Ht1]
  · isplitr; · iexact HC
    isplitl [Hus]; · iexact Hus
    isplitl [Hur]; · iexact Hur
    isplitl [HO]; · iexact HO
    isplitl [Ht0]; · iexact Ht0
    iexact Ht1
  iintro ⟨Hc0, HO⟩
  iapply (wp_sendL m K c ch r l k Q) $$ [Hls Hlr HO Ht2 Ht3]
  · isplitr; · iexact HC
    isplitl [Hls]; · iexact Hls
    isplitl [Hlr]; · iexact Hlr
    isplitl [HO]; · iexact HO
    isplitl [Ht2]; · iexact Ht2
    iexact Ht3
  iintro ⟨Hc2, HO⟩
  iapply Hk
  isplitl [Hc0 Hc2]
  · isplitl [Hc0]; · iexact Hc0
    iexact Hc2
  iexact HO

/-! ## Leaving a round -/

/-- The wait for one transfer. -/
theorem wp_waitX (c : Dev nD) (a ch : Fin 4) (r : Fin 3) (l : List (Fin 3 × CellK)) (hl : ∀ p ∈ l, 2 + r.val < lvK p.2)
    (w : TpuEff nD τ sig (Elt F) Λ₀ .tc PUnit) (N : ℕ) (hN : amtK (kX a ch r) = N)
    (hw : ∀ X : PUnit → sProp 𝕄, wpE (defs₀ (F := F)) 𝒱₀ (c : Thread nD τ) none Set.univ w X = waitSpec (c : Thread nD τ) Set.univ (ksem (kX a ch r)) N X)
    (k : P F) (Q : PUnit → sProp 𝕄) :
    iprop((Ctx m K ∗ levAts L lv) ∗ cred (tallyAt (kcell (c, kX a ch r)) () N) ∗ owesX (F := F) c l ∗ atPos ER (kcell (c, kX a ch r)) 0 ∅ 0)
      ⊢ iprop(((owesX (F := F) c l ∗ atPos ER (kcell (c, kX a ch r)) 1 ∅ 0 ∗ xPay m c a ch r) -∗ WP c k Q) -∗ WP c (.op w fun _ => k) Q) := by
  unfold owesX
  iintro ⟨⟨#HC, #Hlev⟩, Hc, ⟨%W, HO⟩, Hat⟩ Hk
  iapply (Rounds.wp_wait_rest_token 𝒱₀ ER (sched m) (c : Thread nD τ) none (κ := K (c, kX a ch r)) hw (Set.mem_univ _) ()
    (O := owe c l) (W := W) (R := 0) (m := 0) (T := ∅) (by rw [expect_k, Nat.zero_add, hN]; show N = 1 * N; rw [Nat.one_mul])) $$ [Hc HO Hat]
  · isplitr; · iapply (ctx_inv m K (c, kX a ch r)); iexact HC
    isplitl [Hc]; · iexact Hc
    isplitl [HO]; · iexact HO
    isplitr
    · iapply (mayWait c (ksem (kX a ch r)) l (fun p hp => by
        rw [show lv ((c : Thread nD τ), ksem (kX a ch r)) () = lvK (kX a ch r) from lv_k c _]
        refine Nat.lt_of_le_of_lt ?_ (hl p hp)
        show (if a = 1 ∨ a = 3 then 2 + r.val else 0) ≤ _
        split <;> omega))
      iexact Hlev
    iexact Hat
  iintro ⟨HO, Hat, -, Hrest⟩
  iapply Hk
  isplitl [HO]; · iexists _; iexact HO
  isplitl [Hat]; · iexact Hat
  iapply (show (bigSep ((sched m).duties (kcell (c, kX a ch r)) 0 \ ∅) fun d => (sched m).payload (kcell (c, kX a ch r)) 0 d) ⊢ xPay m c a ch r by
    rw [duties_k, Finset.sdiff_empty]
    show bigSep {0} _ ⊢ _
    rw [bigSep_singleton, payload_k]
    exact BI.Entails.refl _)
  iexact Hrest

/-- What a chunk holds from the launch for leaving a round. -/
def rcRes (c : Dev nD) (ch : Fin 4) (r : Fin 3) : sProp 𝕄 :=
  iprop((cred (tallyAt (kcell (c, kX 1 ch r)) () NU) ∗ cred (tallyAt (kcell (c, kX 3 ch r)) () NL))
    ∗ bigSep Finset.univ fun a : Fin 4 => atPos ER (kcell (c, kX a ch r)) 0 ∅ 0)

/-- What is left of a chunk's round: its four semaphores' rounds are over, and its slots are back. -/
def doneRes (c : Dev nD) (ch : Fin 4) (r : Fin 3) : sProp 𝕄 :=
  iprop((bigSep Finset.univ fun a : Fin 4 => atPos ER (kcell (c, kX a ch r)) 1 ∅ 0)
    ∗ (uAny (F := F) A0.us c ch r ∗ lAny (F := F) A0.ls c ch r) ∗ (uAny (F := F) A0.ur c ch r ∗ lAny (F := F) A0.lr c ch r))

theorem uHas_any (M : Memref sig .tc .vmem S4x3x64x1024 .bf16) (c : Dev nD) (ch : Fin 4) (r : Fin 3) (v : FVec F S64x1024 .bf16) :
    uHas M c ch r v ⊢ uAny (F := F) M c ch r := by
  unfold uHas uAny
  iintro ⟨%f, -, H⟩
  iexists f; iexact H
theorem lHas_any (M : Memref sig .tc .vmem S4x3x64x8 .f32) (c : Dev nD) (ch : Fin 4) (r : Fin 3) (v : FVec F S64x8 .f32) :
    lHas M c ch r v ⊢ lAny (F := F) M c ch r := by
  unfold lHas lAny
  iintro ⟨%f, -, H⟩
  iexists f; iexact H

theorem wp_readU (c : Dev nD) (ch : Fin 4) (r : Fin 3) (v : FVec F S64x1024 .bf16) (k : FVec F S64x1024 .bf16 → P F) (Q : PUnit → sProp 𝕄) :
    uHas A0.ur c ch r v ⊢ iprop((uAny (F := F) A0.ur c ch r -∗ WP c (k v) Q)
      -∗ WP c (.op (ldU A0.ur ch r) fun ub => k (shapeCast S64x1024 ub shapeCasts_S1x1x64x1024_S64x1024)) Q) := by
  unfold uHas uAny
  iintro ⟨%f, %hf, Hf⟩ Hk
  unfold ldU
  iapply (wp_load_rect 𝒱₀ (c : Thread nD τ) none Set.univ (m := A0.ur) (r := rectU ch r) (by rw [← slotU_set])) $$ Hf
  iintro Hf
  rw [← slotU_read, hf]
  iapply Hk
  iexists f; iexact Hf

theorem wp_readL (c : Dev nD) (ch : Fin 4) (r : Fin 3) (v : FVec F S64x8 .f32) (k : FVec F S64x8 .f32 → P F) (Q : PUnit → sProp 𝕄) :
    lHas A0.lr c ch r v ⊢ iprop((lAny (F := F) A0.lr c ch r -∗ WP c (k v) Q)
      -∗ WP c (.op (ldL A0.lr ch r) fun ub => k (shapeCast S64x8 ub shapeCasts_S1x1x64x8_S64x8)) Q) := by
  unfold lHas lAny
  iintro ⟨%f, %hf, Hf⟩ Hk
  unfold ldL
  iapply (wp_load_rect 𝒱₀ (c : Thread nD τ) none Set.univ (m := A0.lr) (r := rectL ch r) (by rw [← slotL_set])) $$ Hf
  iintro Hf
  rw [← slotL_read, hf]
  iapply Hk
  iexists f; iexact Hf

theorem bigSep_fin4 (Φ : Fin 4 → sProp 𝕄) : bigSep Finset.univ Φ = iprop(Φ 0 ∗ Φ 1 ∗ Φ 2 ∗ Φ 3) := by
  rw [bigSep_univ_eq_bigSepL [0, 1, 2, 3] (by decide) (by decide)]
  rfl

theorem bigSep_fin3 (Φ : Fin 3 → sProp 𝕄) : bigSep Finset.univ Φ = iprop(Φ 0 ∗ Φ 1 ∗ Φ 2) := by
  rw [bigSep_univ_eq_bigSepL [0, 1, 2] (by decide) (by decide)]
  rfl

theorem UL_succ (ch : Fin 4) (r : Fin 3) (c : Dev nD) :
    UL m ch (r.val + 1) c = (addf (UL m ch r.val c).1 (extf .f32 (sU m (pdev c r) ch r) bitsLt_bf16_f32), addf (UL m ch r.val c).2 (sL m (pdev c r) ch r)) := by
  have e : Fin.ofNat 3 r.val = r := by revert r; decide
  unfold sU sL
  show (addf (UL m ch r.val c).1 (extf .f32 (truncf .bf16 (UL m ch r.val (pdev c (Fin.ofNat 3 r.val))).1 bitsLt_bf16_f32) bitsLt_bf16_f32),
      addf (UL m ch r.val c).2 (UL m ch r.val (pdev c (Fin.ofNat 3 r.val))).2) = _
  rw [e]

theorem wp_finish (c : Dev nD) (ch : Fin 4) (r : Fin 3) (l : List (Fin 3 × CellK)) (hl : ∀ p ∈ l, 2 + r.val < lvK p.2)
    (k : FVec F S64x1024 .f32 → FVec F S64x8 .f32 → P F) (Q : PUnit → sProp 𝕄) :
    iprop((Ctx m K ∗ levAts L lv) ∗ flRes (F := F) c ch r ∗ rcRes (F := F) c ch r ∗ owesX (F := F) c l)
      ⊢ iprop(((doneRes (F := F) c ch r ∗ owesX (F := F) c l) -∗ WP c (k (UL m ch (r.val + 1) c).1 (UL m ch (r.val + 1) c).2) Q)
          -∗ WP c (finish A0 ch r (UL m ch r.val c).1 (UL m ch r.val c).2 k) Q) := by
  unfold flRes rcRes doneRes finish
  rw [bigSep_fin4, bigSep_fin4, UL_succ]
  iintro ⟨#HC, ⟨Hc0, Hc2⟩, ⟨⟨Hc1, Hc3⟩, Hat0, Hat1, Hat2, Hat3⟩, HO⟩ Hk
  iapply (wp_waitX m K c 0 ch r l hl (waitUs A0 ch r) NU rfl (fun X => rfl) _ Q) $$ [Hc0 HO Hat0]
  · isplitr; · iexact HC
    isplitl [Hc0]; · iexact Hc0
    isplitl [HO]; · iexact HO
    iexact Hat0
  iintro ⟨HO, Hat0, Hp0⟩
  iapply (wp_waitX m K c 1 ch r l hl (waitUr A0 ch r) NU rfl (fun X => rfl) _ Q) $$ [Hc1 HO Hat1]
  · isplitr; · iexact HC
    isplitl [Hc1]; · iexact Hc1
    isplitl [HO]; · iexact HO
    iexact Hat1
  iintro ⟨HO, Hat1, Hp1⟩
  iapply (wp_waitX m K c 2 ch r l hl (waitLs A0 ch r) NL rfl (fun X => rfl) _ Q) $$ [Hc2 HO Hat2]
  · isplitr; · iexact HC
    isplitl [Hc2]; · iexact Hc2
    isplitl [HO]; · iexact HO
    iexact Hat2
  iintro ⟨HO, Hat2, Hp2⟩
  iapply (wp_waitX m K c 3 ch r l hl (waitLr A0 ch r) NL rfl (fun X => rfl) _ Q) $$ [Hc3 HO Hat3]
  · isplitr; · iexact HC
    isplitl [Hc3]; · iexact Hc3
    isplitl [HO]; · iexact HO
    iexact Hat3
  iintro ⟨HO, Hat3, Hp3⟩
  unfold xPay
  iapply (wp_readU c ch r (sU m (pdev c r) ch r) (fun v => .op (ldL A0.lr ch r) fun lb => k (addf (UL m ch r.val c).1 (extf .f32 v bitsLt_bf16_f32))
    (addf (UL m ch r.val c).2 (shapeCast S64x8 lb shapeCasts_S1x1x64x8_S64x8))) Q) $$ Hp1
  iintro Hp1
  iapply (wp_readL c ch r (sL m (pdev c r) ch r) (fun v => k (addf (UL m ch r.val c).1 (extf .f32 (sU m (pdev c r) ch r) bitsLt_bf16_f32))
    (addf (UL m ch r.val c).2 v)) Q) $$ Hp3
  iintro Hp3
  iapply Hk
  isplitr [HO]
  · isplitl [Hat0 Hat1 Hat2 Hat3]
    · isplitl [Hat0]; · iexact Hat0
      isplitl [Hat1]; · iexact Hat1
      isplitl [Hat2]; · iexact Hat2
      iexact Hat3
    isplitl [Hp0 Hp2]
    · isplitl [Hp0]
      · iapply (uHas_any A0.us c ch r _); iexact Hp0
      iapply (lHas_any A0.ls c ch r _); iexact Hp2
    isplitl [Hp1]; · iexact Hp1
    iexact Hp3
  iexact HO

/-! ## The barrier -/

/-- Device `c`'s own landing slots of round `r`. -/
def ownLand (c : Dev nD) (r : Fin 3) : sProp 𝕄 :=
  bigSep Finset.univ fun ch : Fin 4 => iprop(uAny (F := F) A0.ur c ch r ∗ lAny (F := F) A0.lr c ch r)

theorem wp_signal (c : Dev nD) (r : Fin 3) (l : List (Fin 3 × CellK)) (k : P F) (Q : PUnit → sProp 𝕄) :
    iprop(Ctx m K ∗ owesX (F := F) c ((r, kBar) :: l) ∗ dutyTok ER (kcell (pdev c r, kBar)) 0 r.val ∗ ownLand (F := F) c r)
      ⊢ iprop((owesX (F := F) c l -∗ WP c k Q) -∗ WP c (.op (.semSignal (pdev c r, .tc) barS (1#32 : BitVec 32).toInt) fun _ => k) Q) := by
  unfold owesX
  iintro ⟨#HC, ⟨%W, HO⟩, Ht, Hown⟩ Hk
  iapply (Rounds.wp_signal (defs := defs₀ (F := F)) 𝒱₀ ER (sched m) (c : Thread nD τ) none (dst := (pdev c r : Thread nD τ)) (sem := barS)
    (r := 0) (d := r.val) (k' := 1) (κ := K (pdev c r, kBar)) (by
      rw [show (sched m).duties ((pdev c r : Thread nD τ), SemLoc.reg barS) 0 = Finset.range 3 from duties_k m (pdev c r) kBar]; exact Finset.mem_range.mpr r.isLt)
    (amount_k m (pdev c r) kBar r.val) () (O₀ := owe c ((r, kBar) :: l)) (owe c l) rfl (W := W) (k := fun _ => k) (Q := Q)) $$ [HO Ht Hown]
  · isplitr; · iapply (ctx_inv m K (pdev c r, kBar)); iexact HC
    isplitl [HO]; · iexact HO
    isplitl [Ht]; · iexact Ht
    isplitl [Hown]
    · rw [show (sched m).payload ((pdev c r : Thread nD τ), SemLoc.reg barS) 0 r.val = ownLand (F := F) c r from
        (payload_k m (pdev c r) kBar r.val).trans (by
          show barPay (F := F) (pdev c r) (Fin.ofNat 3 r.val) = _
          rw [show Fin.ofNat 3 r.val = r by revert r; decide]
          unfold barPay ownLand; rw [pdev_pdev])]
      iexact Hown
    iapply (ctx_reached m K (pdev c r, kBar)); iexact HC
  iintro HO
  iapply Hk
  iexists W; iexact HO

theorem oweX_lv : ∀ p ∈ oweX, 1 < lvK p.2 := by decide

theorem bar_rest (c : Dev nD) : (bigSep ((sched m).duties (kcell (c, kBar)) 0 \ ∅) fun d => (sched m).payload (kcell (c, kBar)) 0 d)
    ⊢ iprop(barPay (F := F) c 0 ∗ barPay (F := F) c 1 ∗ barPay (F := F) c 2) := by
  rw [duties_k, Finset.sdiff_empty, show (bigSep (dutiesK kBar) fun d => (sched m).payload (kcell (c, kBar)) 0 d) = bigSep (dutiesK kBar) fun d => payK m c kBar d from
    bigSep_congr fun d _ => payload_k m c kBar d]
  rw [bigSep_eq_bigSepL_of_eq [0, 1, 2] (by decide) (by decide)]
  exact BI.Entails.refl _

theorem wp_handshake (c : Dev nD) (k : P F) (Q : PUnit → sProp 𝕄) :
    iprop((Ctx m K ∗ levAts L lv) ∗ owesX (F := F) c oweAll ∗ (bigSep Finset.univ fun r : Fin 3 => dutyTok ER (kcell (pdev c r, kBar)) 0 r.val)
        ∗ (bigSep Finset.univ fun r : Fin 3 => ownLand (F := F) c r) ∗ cred (tallyAt (kcell (c, kBar)) () 3) ∗ atPos ER (kcell (c, kBar)) 0 ∅ 0)
      ⊢ iprop(((owesX (F := F) c oweX ∗ atPos ER (kcell (c, kBar)) 1 ∅ 0 ∗ bigSep Finset.univ fun r : Fin 3 => barPay (F := F) c r) -∗ WP c k Q)
          -∗ WP c (handshake c k) Q) := by
  unfold handshake
  rw [bigSep_fin3, bigSep_fin3, bigSep_fin3]
  iintro ⟨⟨#HC, #Hlev⟩, HO, ⟨Ht0, Ht1, Ht2⟩, ⟨Ho0, Ho1, Ho2⟩, Hc, Hat⟩ Hk
  iapply (wp_signal m K c 0 _ _ Q) $$ [HO Ht0 Ho0]
  · isplitr; · iexact HC
    isplitl [HO]; · iexact HO
    isplitl [Ht0]; · iexact Ht0
    iexact Ho0
  iintro HO
  iapply (wp_signal m K c 1 _ _ Q) $$ [HO Ht1 Ho1]
  · isplitr; · iexact HC
    isplitl [HO]; · iexact HO
    isplitl [Ht1]; · iexact Ht1
    iexact Ho1
  iintro HO
  iapply (wp_signal m K c 2 _ _ Q) $$ [HO Ht2 Ho2]
  · isplitr; · iexact HC
    isplitl [HO]; · iexact HO
    isplitl [Ht2]; · iexact Ht2
    iexact Ho2
  unfold owesX
  iintro ⟨%W, HO⟩
  iapply (Rounds.wp_wait_rest_token 𝒱₀ ER (sched m) (c : Thread nD τ) none (κ := K (c, kBar))
    (wpE_semWait_eq 𝒱₀ (c : Thread nD τ) none Set.univ) (Set.mem_univ _) ()
    (O := owe c oweX) (W := W) (R := 0) (m := 0) (T := ∅)
    (by rw [show (sched m).expect ((c : Thread nD τ), SemLoc.reg barS) 0 = _ from expect_k m c kBar]; rfl)) $$ [Hc HO Hat]
  · isplitr; · iapply (ctx_inv m K (c, kBar)); iexact HC
    isplitl [Hc]; · iexact Hc
    isplitl [HO]; · iexact HO
    isplitr
    · iapply (mayWait c (ksem kBar) oweX (fun p hp => by
        rw [show lv ((c : Thread nD τ), ksem kBar) () = lvK kBar from lv_k c _]
        exact oweX_lv p hp))
      iexact Hlev
    iexact Hat
  iintro ⟨HO, Hat, -, Hrest⟩
  iapply Hk
  isplitl [HO]; · iexists _; iexact HO
  isplitl [Hat]; · iexact Hat
  iapply (bar_rest m c); iexact Hrest

end Cert.KernelIdeal.Hand

end
-- ==== Proof.KernelIdeal.Heads.lean ====
/- The classes: the gathered tiles put together, the loads of the heads, and each class's step from its waits to its
   chunks' first sends. -/
module

public import proofs.«01_k».proof.Proof.KernelIdeal.Exchange

@[expose] public section

noncomputable section

namespace Cert.KernelIdeal.Hand

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable (K : Dev nD × CellK → ℕ)

/-! ## The tiles together -/

/-- Class `r`'s part of the gathered keys or values; slot `s`'s part of the extra ones. -/
def RG (r : Fin 3) : Finset S3x1408x1024.Idx := Finset.univ.filter fun i => (i 0).val = r.val
def RE (s : Fin 2) : Finset S2x128x1024.Idx := Finset.univ.filter fun i => (i 0).val = s.val

theorem RG_union (kv : Fin 2) (r : Fin 3) : (Finset.range 352).biUnion (TG kv r) = RG r := by
  ext i
  have h1 : (i 1).val < 1408 := (i 1).isLt
  have h2 : (i 2).val < 1024 := (i 2).isLt
  have hk := kv.isLt
  simp only [Finset.mem_biUnion, Finset.mem_range, TG, RG, Finset.mem_filter, Finset.mem_univ, true_and]
  constructor
  · rintro ⟨t, _, h, _⟩; exact h
  · intro h; exact ⟨_, by omega, h, rfl⟩

theorem RE_union (kv s : Fin 2) : (Finset.range 32).biUnion (TE kv s) = RE s := by
  ext i
  have h1 : (i 1).val < 128 := (i 1).isLt
  have h2 : (i 2).val < 1024 := (i 2).isLt
  have hk := kv.isLt
  simp only [Finset.mem_biUnion, Finset.mem_range, TE, RE, Finset.mem_filter, Finset.mem_univ, true_and]
  constructor
  · rintro ⟨t, _, h, _⟩; exact h
  · intro h; exact ⟨_, by omega, h, rfl⟩

theorem TG_disj (kv : Fin 2) (r : Fin 3) (t t' : ℕ) (h : t ≠ t') : Disjoint (TG kv r t) (TG kv r t') := by
  rw [Finset.disjoint_left]
  intro i hi hi'
  simp only [TG, Finset.mem_filter, Finset.mem_univ, true_and] at hi hi'
  exact h (hi.2.symm.trans hi'.2)

theorem TE_disj (kv s : Fin 2) (t t' : ℕ) (h : t ≠ t') : Disjoint (TE kv s t) (TE kv s t') := by
  rw [Finset.disjoint_left]
  intro i hi hi'
  simp only [TE, Finset.mem_filter, Finset.mem_univ, true_and] at hi hi'
  exact h (hi.2.symm.trans hi'.2)

theorem tiles_G (c : Dev nD) (kv : Fin 2) (r : Fin 3) (f : S3x1408x1024.Idx → Elt F .f32) :
    gPts (F := F) c kv (RG r) f = bigSep (Finset.range 352) fun t => gPts c kv (TG kv r t) f := by
  rw [← RG_union kv r]
  match kv with
  | 0 => exact pointsTo_biUnion _ _ fun t _ t' _ h => TG_disj 0 r t t' h
  | 1 => exact pointsTo_biUnion _ _ fun t _ t' _ h => TG_disj 1 r t t' h

theorem tiles_E (c : Dev nD) (kv s : Fin 2) (f : S2x128x1024.Idx → Elt F .f32) :
    ePts (F := F) c kv (RE s) f = bigSep (Finset.range 32) fun t => ePts c kv (TE kv s t) f := by
  rw [← RE_union kv s]
  match kv with
  | 0 => exact pointsTo_biUnion _ _ fun t _ t' _ h => TE_disj 0 s t t' h
  | 1 => exact pointsTo_biUnion _ _ fun t _ t' _ h => TE_disj 1 s t t' h

/-- Class `r`'s gathered keys and values; slot `s`'s extra ones. -/
def cls (c : Dev nD) (r : Fin 3) : sProp 𝕄 := iprop(gPts c 0 (RG r) (GB m c 0) ∗ gPts c 1 (RG r) (GB m c 1))
def ext (c : Dev nD) (s : Fin 2) : sProp 𝕄 := iprop(ePts c 0 (RE s) (EB m c 0) ∗ ePts c 1 (RE s) (EB m c 1))

theorem pays_cls (c : Dev nD) (r : Fin 3) : (bigSep (Finset.range 352) fun t => gPay m c r t) = cls m c r := by
  unfold cls
  rw [tiles_G, tiles_G, ← bigSep_sep']
  exact bigSep_congr fun t ht => if_pos (Finset.mem_range.mp ht)

theorem pays_ext (c : Dev nD) (s : Fin 2) : (bigSep (Finset.range 32) fun t => gPay m c (clsE s) (352 + t)) = ext m c s := by
  unfold ext
  rw [tiles_E, tiles_E, ← bigSep_sep']
  refine bigSep_congr fun t _ => ?_
  unfold gPay
  rw [if_neg (by omega), clsE_slot, Nat.add_sub_cancel_left]

theorem range_384 : Finset.range 384 = Finset.range 352 ∪ (Finset.range 32).map (addLeftEmbedding 352) := by
  ext t
  simp only [Finset.mem_union, Finset.mem_range, Finset.mem_map, addLeftEmbedding_apply]
  constructor
  · intro h
    by_cases h' : t < 352
    · exact .inl h'
    · exact .inr ⟨t - 352, by omega, by omega⟩
  · rintro (h | ⟨a, ha, rfl⟩) <;> omega

theorem got_cls (c : Dev nD) : got m c 0 352 ⊢ iprop(atPos ER (kcell (c, kG 0)) 1 ∅ 0 ∗ cls m c 0) := by
  unfold got
  rw [if_pos (show (352 : ℕ) = nG 0 from rfl), show nG 0 = 352 from rfl, pays_cls]

theorem got_ext (c : Dev nD) (s : Fin 2) :
    got m c (clsE s) 384 ⊢ iprop(atPos ER (kcell (c, kG (clsE s))) 1 ∅ 0 ∗ cls m c (clsE s) ∗ ext m c s) := by
  unfold got
  rw [if_pos (clsE_nG s).symm, clsE_nG, range_384, bigSep_union (by
    rw [Finset.disjoint_left]
    intro t h h'
    simp only [Finset.mem_range, Finset.mem_map, addLeftEmbedding_apply] at h h'
    obtain ⟨a, _, rfl⟩ := h'
    omega), bigSep_map, pays_cls]
  refine sep_mono_right (sep_mono_right ?_)
  exact Entails.of_eq (pays_ext m c s)

theorem got_none (c : Dev nD) (r : Fin 3) : atPos ER (kcell (c, kG r)) 0 ∅ 0 ⊢ got m c r 0 := by
  unfold got
  rw [if_neg (by have := nG_ge r; omega)]
  iintro H
  iexists ∅
  isplitr; · ipureintro; exact Finset.empty_subset _
  rw [Nat.zero_mul, bigSep_empty]
  isplitl [H]; · iexact H
  iempintro

/-! ## The heads -/

theorem slabG_sub (r : Fin 3) (h : Fin 8) :
    (Rect.unit (s := S3x1408x1024) ![r.val, 0, 128 * h.val] S1x1408x128.size (slabK_inb r h)).set ⊆ RG r := by
  intro i hi
  rw [Rect.mem_set_unit] at hi
  have h0 : r.val ≤ (i 0).val ∧ (i 0).val < r.val + 1 := hi 0
  simp only [RG, Finset.mem_filter, Finset.mem_univ, true_and]
  omega
theorem slabE_sub (s : Fin 2) (h : Fin 8) :
    (Rect.unit (s := S2x128x1024) ![s.val, 0, 128 * h.val] S1x128x128.size (slabE_inb s h)).set ⊆ RE s := by
  intro i hi
  rw [Rect.mem_set_unit] at hi
  have h0 : s.val ≤ (i 0).val ∧ (i 0).val < s.val + 1 := hi 0
  simp only [RE, Finset.mem_filter, Finset.mem_univ, true_and]
  omega

theorem wp_ldG (c : Dev nD) (kv : Fin 2) (r : Fin 3) (h : Fin 8) (k : Vec F S1x1408x128 .f32 → P F) (Q : PUnit → sProp 𝕄) :
    gPts c kv (RG r) (GB m c kv) ⊢ iprop((gPts c kv (RG r) (GB m c kv) -∗ WP c (k (slab m c kv r h)) Q) -∗ WP c (.op (ldG A0 kv r h) k) Q) := by
  match kv with
  | 0 =>
    exact wp_load_rect (defs := defs₀ (F := F)) 𝒱₀ (c : Thread nD τ) none Set.univ (m := A0.kg)
      (r := Rect.unit (s := S3x1408x1024) ![r.val, 0, 128 * h.val] S1x1408x128.size (slabK_inb r h))
      (S := RG r) (q := fullShare) (f := GB m c 0) (k := k) (Q := Q)
      ((View.set_slice_whole cc0_scratch0 _).subset.trans (slabG_sub r h))
  | 1 =>
    exact wp_load_rect (defs := defs₀ (F := F)) 𝒱₀ (c : Thread nD τ) none Set.univ (m := A0.vg)
      (r := Rect.unit (s := S3x1408x1024) ![r.val, 0, 128 * h.val] S1x1408x128.size (slabK_inb r h))
      (S := RG r) (q := fullShare) (f := GB m c 1) (k := k) (Q := Q)
      ((View.set_slice_whole cc0_scratch1 _).subset.trans (slabG_sub r h))

theorem wp_ldE (c : Dev nD) (kv s : Fin 2) (h : Fin 8) (k : Vec F S1x128x128 .f32 → P F) (Q : PUnit → sProp 𝕄) :
    ePts c kv (RE s) (EB m c kv) ⊢ iprop((ePts c kv (RE s) (EB m c kv) -∗ WP c (k (slabE m c kv s h)) Q) -∗ WP c (.op (ldE A0 kv s h) k) Q) := by
  match kv with
  | 0 =>
    exact wp_load_rect (defs := defs₀ (F := F)) 𝒱₀ (c : Thread nD τ) none Set.univ (m := A0.ke)
      (r := Rect.unit (s := S2x128x1024) ![s.val, 0, 128 * h.val] S1x128x128.size (slabE_inb s h))
      (S := RE s) (q := fullShare) (f := EB m c 0) (k := k) (Q := Q)
      ((View.set_slice_whole cc0_scratch2 _).subset.trans (slabE_sub s h))
  | 1 =>
    exact wp_load_rect (defs := defs₀ (F := F)) 𝒱₀ (c : Thread nD τ) none Set.univ (m := A0.ve)
      (r := Rect.unit (s := S2x128x1024) ![s.val, 0, 128 * h.val] S1x128x128.size (slabE_inb s h))
      (S := RE s) (q := fullShare) (f := EB m c 1) (k := k) (Q := Q)
      ((View.set_slice_whole cc0_scratch3 _).subset.trans (slabE_sub s h))

theorem wp_head0 (c : Dev nD) (h : Fin 8) (k : FVec F S128x128 .f32 × FVec F S128x1 .f32 → P F) (Q : PUnit → sProp 𝕄) :
    cls m c 0 ⊢ iprop((cls m c 0 -∗ WP c (k (e0 m c h)) Q) -∗ WP c (head0 A0 (q0 (qs m c)) (biasG c 0#32) h k) Q) := by
  unfold cls head0
  iintro ⟨H0, H1⟩ Hk
  iapply (wp_ldG m c 0 0 h _ Q) $$ H0
  iintro H0
  iapply (wp_ldG m c 1 0 h _ Q) $$ H1
  iintro H1
  iapply Hk
  isplitl [H0]; · iexact H0
  iexact H1

theorem wp_headX (c : Dev nD) (s : Fin 2) (h : Fin 8) (k : FVec F S64x128 .f32 × FVec F S64x1 .f32 → P F) (Q : PUnit → sProp 𝕄) :
    iprop(cls m c (clsE s) ∗ ext m c s) ⊢ iprop(((cls m c (clsE s) ∗ ext m c s) -∗ WP c (k (eX m c s h)) Q)
      -∗ WP c (headX A0 s (qX (qs m c) s) (biasG c (BitVec.ofNat 32 (clsE s).val)) (biasE c) h k) Q) := by
  unfold cls ext headX
  iintro ⟨⟨H0, H1⟩, H2, H3⟩ Hk
  iapply (wp_ldG m c 0 (clsE s) h _ Q) $$ H0
  iintro H0
  iapply (wp_ldG m c 1 (clsE s) h _ Q) $$ H1
  iintro H1
  iapply (wp_ldE m c 0 s h _ Q) $$ H2
  iintro H2
  iapply (wp_ldE m c 1 s h _ Q) $$ H3
  iintro H3
  iapply Hk
  isplitl [H0 H1]
  · isplitl [H0]; · iexact H0
    iexact H1
  isplitl [H2]; · iexact H2
  iexact H3

theorem eight_eq {α : Type} (v : Fin 8 → α) : ![v 0, v 1, v 2, v 3, v 4, v 5, v 6, v 7] = v := by
  funext i
  match i with
  | 0 => rfl
  | 1 => rfl
  | 2 => rfl
  | 3 => rfl
  | 4 => rfl
  | 5 => rfl
  | 6 => rfl
  | 7 => rfl

/-- Eight steps, each keeping `I` and giving `v h`. -/
theorem wp_eight {α : Type} (c : Dev nD) (Q : PUnit → sProp 𝕄) (I : sProp 𝕄) (v : Fin 8 → α) (step : Fin 8 → (α → P F) → P F)
    (hs : ∀ (h : Fin 8) (k : α → P F), I ⊢ iprop((I -∗ WP c (k (v h)) Q) -∗ WP c (step h k) Q)) (k : (Fin 8 → α) → P F) :
    I ⊢ iprop((I -∗ WP c (k v) Q) -∗ WP c (eight step k) Q) := by
  unfold eight
  iintro HI Hk
  iapply (hs 0 _) $$ HI
  iintro HI
  iapply (hs 1 _) $$ HI
  iintro HI
  iapply (hs 2 _) $$ HI
  iintro HI
  iapply (hs 3 _) $$ HI
  iintro HI
  iapply (hs 4 _) $$ HI
  iintro HI
  iapply (hs 5 _) $$ HI
  iintro HI
  iapply (hs 6 _) $$ HI
  iintro HI
  iapply (hs 7 _) $$ HI
  iintro HI
  rw [eight_eq]
  iapply Hk
  iexact HI

/-! ## The classes -/

theorem wp_class0 (c : Dev nD) (l : List (Fin 3 × CellK)) (hl : ∀ p ∈ pays 0 0 ++ (pays 3 0 ++ l), lv (kcell (c, kG 0)) () < lvK p.2)
    (k : FVec F S64x1024 .f32 → FVec F S64x8 .f32 → FVec F S64x1024 .f32 → FVec F S64x8 .f32 → P F) (Q : PUnit → sProp 𝕄) :
    iprop((Ctx m K ∗ levAts L lv) ∗ owesX (F := F) c (pays 0 0 ++ (pays 3 0 ++ l)) ∗ (atPos ER (kcell (c, kG 0)) 0 ∅ 0
        ∗ cred (tallyAt (kcell (c, kG 0)) () (352 * NG))) ∗ stRes (F := F) c 0 0 ∗ stRes (F := F) c 3 0)
      ⊢ iprop(((owesX (F := F) c l ∗ (atPos ER (kcell (c, kG 0)) 1 ∅ 0 ∗ cls m c 0) ∗ flRes (F := F) c 0 0 ∗ flRes (F := F) c 3 0)
            -∗ WP c (k (UL m 0 (0 : Fin 3).val c).1 (UL m 0 (0 : Fin 3).val c).2 (UL m 3 (0 : Fin 3).val c).1 (UL m 3 (0 : Fin 3).val c).2) Q)
          -∗ WP c (class0 A0 c (qs m c) k) Q) := by
  unfold class0
  iintro ⟨#HC, HO, ⟨Hat, Hcr⟩, Hs0, Hs3⟩ Hk
  iapply (run_waitG m K c 0 _ hl _ Q) $$ [HO Hat Hcr]
  · isplitr; · iexact HC
    unfold wt
    isplitl [HO]; · iexact HO
    isplitl [Hat]; · iapply (got_none m c 0); iexact Hat
    iexact Hcr
  unfold wt
  iintro ⟨HO, Hg, -⟩
  ihave Hg := (got_cls m c) $$ Hg
  icases Hg with ⟨Hat, Hg⟩
  iapply (wp_eight c Q (cls m c 0) (e0 m c) _ (fun h k => wp_head0 m c h k Q) _) $$ Hg
  iintro Hg
  iapply (wp_start m K c 0 0 _ _ Q) $$ [HO Hs0]
  · icases HC with ⟨HC, -⟩
    isplitr; · iexact HC
    isplitl [Hs0]; · iexact Hs0
    iexact HO
  iintro ⟨Hf0, HO⟩
  iapply (wp_start m K c 3 0 _ _ Q) $$ [HO Hs3]
  · icases HC with ⟨HC, -⟩
    isplitr; · iexact HC
    isplitl [Hs3]; · iexact Hs3
    iexact HO
  iintro ⟨Hf3, HO⟩
  iapply Hk
  isplitl [HO]; · iexact HO
  isplitl [Hat Hg]
  · isplitl [Hat]; · iexact Hat
    iexact Hg
  isplitl [Hf0]; · iexact Hf0
  iexact Hf3

theorem UL_X (s : Fin 2) (c : Dev nD) : UL m (chunkX s) (0 : Fin 3).val c = (catU fun h => (eX m c s h).1, catL fun h => (eX m c s h).2) := by
  match s with
  | 0 => rfl
  | 1 => rfl

theorem cred_cls (c : Dev nD) (s : Fin 2) : iprop(cred (tallyAt (kcell (c, kG (clsE s))) () (352 * NG)) ∗ cred (tallyAt (kcell (c, kG (clsE s))) () (32 * NG)))
    ⊢ (cred (tallyAt (kcell (c, kG (clsE s))) () ((nG (clsE s) - 0) * NG)) : sProp 𝕄) := by
  rw [clsE_nG, show (384 - 0) * NG = 352 * NG + 32 * NG by omega]
  exact cred_join _ _ _

theorem wp_classX (c : Dev nD) (s : Fin 2) (l : List (Fin 3 × CellK)) (hl : ∀ p ∈ pays (chunkX s) 0 ++ l, lv (kcell (c, kG (clsE s))) () < lvK p.2)
    (k : FVec F S64x1024 .f32 → FVec F S64x8 .f32 → P F) (Q : PUnit → sProp 𝕄) :
    iprop((Ctx m K ∗ levAts L lv) ∗ owesX (F := F) c (pays (chunkX s) 0 ++ l) ∗ (atPos ER (kcell (c, kG (clsE s))) 0 ∅ 0
        ∗ cred (tallyAt (kcell (c, kG (clsE s))) () (352 * NG)) ∗ cred (tallyAt (kcell (c, kG (clsE s))) () (32 * NG))) ∗ stRes (F := F) c (chunkX s) 0)
      ⊢ iprop(((owesX (F := F) c l ∗ (atPos ER (kcell (c, kG (clsE s))) 1 ∅ 0 ∗ cls m c (clsE s) ∗ ext m c s) ∗ flRes (F := F) c (chunkX s) 0)
            -∗ WP c (k (UL m (chunkX s) (0 : Fin 3).val c).1 (UL m (chunkX s) (0 : Fin 3).val c).2) Q)
          -∗ WP c (classX A0 c s (qs m c) k) Q) := by
  unfold classX
  iintro ⟨#HC, HO, ⟨Hat, Hcr⟩, Hs⟩ Hk
  iapply (run_waitG m K c (clsE s) _ hl _ Q) $$ [HO Hat Hcr]
  · isplitr; · iexact HC
    unfold wt
    isplitl [HO]; · iexact HO
    isplitl [Hat]; · iapply (got_none m c (clsE s)); iexact Hat
    iapply (cred_cls c s); iexact Hcr
  iintro Hw
  iapply (run_waitX m K c s _ hl _ Q) $$ [Hw]
  · isplitr; · iexact HC
    iexact Hw
  unfold wt
  iintro ⟨HO, Hg, -⟩
  ihave Hg := (got_ext m c s) $$ Hg
  icases Hg with ⟨Hat, Hg⟩
  iapply (wp_eight c Q iprop(cls m c (clsE s) ∗ ext m c s) (eX m c s) _ (fun h k => wp_headX m c s h k Q) _) $$ Hg
  iintro Hg
  have e := UL_X m s c
  rw [show (catU fun h => (eX m c s h).1) = (UL m (chunkX s) (0 : Fin 3).val c).1 from congrArg Prod.fst e.symm,
    show (catL fun h => (eX m c s h).2) = (UL m (chunkX s) (0 : Fin 3).val c).2 from congrArg Prod.snd e.symm]
  iapply (wp_start m K c (chunkX s) 0 _ _ Q) $$ [HO Hs]
  · icases HC with ⟨HC, -⟩
    isplitr; · iexact HC
    isplitl [Hs]; · iexact Hs
    iexact HO
  iintro ⟨Hf, HO⟩
  iapply Hk
  isplitl [HO]; · iexact HO
  isplitl [Hat Hg]
  · isplitl [Hat]; · iexact Hat
    iexact Hg
  iexact Hf

end Cert.KernelIdeal.Hand

end
-- ==== Proof.KernelIdeal.Walk.lean ====
/- The whole body of one device: from what the launch gives it to its result's rows. -/
module

public import proofs.«01_k».proof.Proof.KernelIdeal.Heads

@[expose] public section

noncomputable section

namespace Cert.KernelIdeal.Hand

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (m : (ℓ : Loc nD τ sig) → Buf (Elt F) ℓ)
variable (K : Dev nD × CellK → ℕ)

/-! ## The staged operands -/

theorem zero3 : (![0, 0, 0] : Fin 3 → Nat) = fun _ => 0 := by funext a; fin_cases a <;> rfl
theorem zero2 : (![0, 0] : Fin 2 → Nat) = fun _ => 0 := by funext a; fin_cases a <;> rfl

/-- The staged operands, whole. -/
def stX (c : Dev nD) : sProp 𝕄 := ((c : Thread nD τ).loc cc0_stg0_0) ↦{fullShare} (xst m c)
def stWq (c : Dev nD) : sProp 𝕄 := ((c : Thread nD τ).loc cc0_stg1_0) ↦{fullShare} (wqst m c)
def stWo (c : Dev nD) : sProp 𝕄 := ((c : Thread nD τ).loc cc0_stg2_0) ↦{fullShare} (wost m c)

theorem wp_ldX (c : Dev nD) (k : Vec F S1x256x1024 .f32 → P F) (Q : PUnit → sProp 𝕄) :
    stX m c ⊢ iprop((stX m c -∗ WP c (k (xst m c)) Q) -∗ WP c (.op (.load A0.x (Rect.unit (s := S1x256x1024) ![0, 0, 0] S1x256x1024.size
      inb_S1x256x1024_S1x256x1024_0_0_0).toLoadRect (View.loadsAt_vmem h_S1x256x1024)) k) Q) := by
  have h := wp_load (Γ := .empty) (defs := defs₀ (F := F)) 𝒱₀ (c : Thread nD τ) none Set.univ (m := A0.x) (r := (Rect.unit (s := S1x256x1024) ![0, 0, 0] S1x256x1024.size
      inb_S1x256x1024_S1x256x1024_0_0_0).toLoadRect) (hl := View.loadsAt_vmem h_S1x256x1024) (S := Finset.univ) (q := fullShare) (f := xst m c) (k := k) (Q := Q)
      (Finset.subset_univ _)
  rw [show A0.x.view.readAt (Elt F) (Rect.unit (s := S1x256x1024) ![0, 0, 0] S1x256x1024.size inb_S1x256x1024_S1x256x1024_0_0_0).toLoadRect (xst m c) = xst m c from
      Memref.readAt_unit_zero (Elt F) cc0_stg0_0 zero3 _ (xst m c)] at h
  exact h

theorem wp_ldWq (c : Dev nD) (k : Vec F S1024x1024 .f32 → P F) (Q : PUnit → sProp 𝕄) :
    stWq m c ⊢ iprop((stWq m c -∗ WP c (k (wqst m c)) Q) -∗ WP c (.op (.load A0.wq (Rect.unit (s := S1024x1024) ![0, 0] S1024x1024.size
      inb_S1024x1024_S1024x1024_0_0).toLoadRect (View.loadsAt_vmem h_S1024x1024)) k) Q) := by
  have h := wp_load (Γ := .empty) (defs := defs₀ (F := F)) 𝒱₀ (c : Thread nD τ) none Set.univ (m := A0.wq) (r := (Rect.unit (s := S1024x1024) ![0, 0] S1024x1024.size
      inb_S1024x1024_S1024x1024_0_0).toLoadRect) (hl := View.loadsAt_vmem h_S1024x1024) (S := Finset.univ) (q := fullShare) (f := wqst m c) (k := k) (Q := Q)
      (Finset.subset_univ _)
  rw [show A0.wq.view.readAt (Elt F) (Rect.unit (s := S1024x1024) ![0, 0] S1024x1024.size inb_S1024x1024_S1024x1024_0_0).toLoadRect (wqst m c) = wqst m c from
      Memref.readAt_unit_zero (Elt F) cc0_stg1_0 zero2 _ (wqst m c)] at h
  exact h

theorem wp_project (c : Dev nD) (k : FVec F S256x1024 .bf16 → P F) (Q : PUnit → sProp 𝕄) :
    iprop(stX m c ∗ stWq m c) ⊢ iprop(((stX m c ∗ stWq m c) -∗ WP c (k (qs m c)) Q) -∗ WP c (project A0 k) Q) := by
  unfold project
  iintro ⟨H0, H1⟩ Hk
  iapply (wp_ldX m c _ Q) $$ H0
  iintro H0
  iapply (wp_ldWq m c _ Q) $$ H1
  iintro H1
  iapply Hk
  isplitl [H0]; · iexact H0
  iexact H1

theorem wp_ldWo (c : Dev nD) (k : Vec F S1024x1024 .f32 → P F) (Q : PUnit → sProp 𝕄) :
    stWo m c ⊢ iprop((stWo m c -∗ WP c (k (wost m c)) Q) -∗ WP c (.op (.load A0.wo (Rect.unit (s := S1024x1024) ![0, 0] S1024x1024.size
      inb_S1024x1024_S1024x1024_0_0).toLoadRect (View.loadsAt_vmem h_S1024x1024)) k) Q) := by
  have h := wp_load (Γ := .empty) (defs := defs₀ (F := F)) 𝒱₀ (c : Thread nD τ) none Set.univ (m := A0.wo) (r := (Rect.unit (s := S1024x1024) ![0, 0] S1024x1024.size
      inb_S1024x1024_S1024x1024_0_0).toLoadRect) (hl := View.loadsAt_vmem h_S1024x1024) (S := Finset.univ) (q := fullShare) (f := wost m c) (k := k) (Q := Q)
      (Finset.subset_univ _)
  rw [show A0.wo.view.readAt (Elt F) (Rect.unit (s := S1024x1024) ![0, 0] S1024x1024.size inb_S1024x1024_S1024x1024_0_0).toLoadRect (wost m c) = wost m c from
      Memref.readAt_unit_zero (Elt F) cc0_stg2_0 zero2 _ (wost m c)] at h
  exact h

/-! ## The result's rows -/

abbrev rectO (ch : Fin 4) : Rect S1x256x1024 := Rect.unit (s := S1x256x1024) ![0, 64 * ch.val, 0] S1x64x1024.size (outRow_inb ch)

theorem mem_rectO (ch : Fin 4) (i : S1x256x1024.Idx) : i ∈ (rectO ch).set ↔ (i 1).val / 64 = ch.val := by
  have h0 : (i 0).val < 1 := (i 0).isLt
  have h2 : (i 2).val < 1024 := (i 2).isLt
  rw [Rect.mem_set_unit]
  constructor
  · intro H
    have a1 : 64 * ch.val ≤ (i 1).val ∧ (i 1).val < 64 * ch.val + 64 := H 1
    omega
  · intro h a
    match a with
    | ⟨0, _⟩ => show 0 ≤ (i 0).val ∧ (i 0).val < 0 + 1; omega
    | ⟨1, _⟩ => show 64 * ch.val ≤ (i 1).val ∧ (i 1).val < 64 * ch.val + 64; omega
    | ⟨2, _⟩ => show 0 ≤ (i 2).val ∧ (i 2).val < 0 + 1024; omega

theorem reshape_1ab_ab {a b : ℕ} (h : (⟨3, ![1, a, b]⟩ : Shape).numel = (⟨2, ![a, b]⟩ : Shape).numel) (x : Fin a) (y : Fin b) :
    Shape.reshapeEquiv h (ix3 (⟨0, Nat.one_pos⟩ : Fin 1) x y) = ix2 x y :=
  Shape.reshapeEquiv_eq_of_rowMajor h (by
    rw [Shape.rowMajor_val_three, Shape.rowMajor_val_two]
    show x.val * b + y.val = ((0 * a + x.val) * b + y.val)
    simp only [Nat.zero_mul, Nat.zero_add])

theorem wrote_row (c : Dev nD) (ch : Fin 4) (f : S1x256x1024.Idx → Elt F .f32) (i : S1x256x1024.Idx) (hi : (i 1).val / 64 = ch.val) :
    (A0.out.access (rectO ch)).write (Elt F) f (shapeCast S1x64x1024 (rowsOut m c ch) shapeCasts_S64x1024_S1x64x1024) Finset.univ i = outC m c i := by
  have h0 : (i 0).val < 1 := (i 0).isLt
  have h1 : (i 1).val < 256 := (i 1).isLt
  have h2 : (i 2).val < 1024 := (i 2).isLt
  have e : i = (A0.out.access (rectO ch)).emb (ix3 (⟨0, Nat.one_pos⟩ : Fin 1) (⟨(i 1).val % 64, Nat.mod_lt _ (by decide)⟩ : Fin 64) (⟨(i 2).val, h2⟩ : Fin 1024)) := by
    funext a
    apply Fin.ext
    match a with
    | ⟨0, _⟩ => show (i 0).val = 0 + 1 * 0; omega
    | ⟨1, _⟩ => show (i 1).val = 64 * ch.val + 1 * ((i 1).val % 64); omega
    | ⟨2, _⟩ => show (i 2).val = 0 + 1 * (i 2).val; omega
  have hw := View.write_emb_of_mem (v := A0.out.access (rectO ch)) (Val := Elt F) f (shapeCast S1x64x1024 (rowsOut m c ch) shapeCasts_S64x1024_S1x64x1024)
    (Finset.mem_univ (ix3 (⟨0, Nat.one_pos⟩ : Fin 1) (⟨(i 1).val % 64, Nat.mod_lt _ (by decide)⟩ : Fin 64) (⟨(i 2).val, h2⟩ : Fin 1024)))
  rw [← e] at hw
  refine hw.trans ?_
  show rowsOut m c ch (Shape.reshapeEquiv _ _) = _
  rw [show Shape.reshapeEquiv shapeCasts_S64x1024_S1x64x1024 (ix3 (⟨0, Nat.one_pos⟩ : Fin 1) (⟨(i 1).val % 64, Nat.mod_lt _ (by decide)⟩ : Fin 64) (⟨(i 2).val, h2⟩ : Fin 1024)) =
    ix2 (⟨(i 1).val % 64, Nat.mod_lt _ (by decide)⟩ : Fin 64) (⟨(i 2).val, h2⟩ : Fin 1024) from reshape_1ab_ab _ _ _]
  have hch : ch = (⟨(i 1).val / 64, by omega⟩ : Fin 4) := Fin.ext hi.symm
  exact congrArg (fun z : Fin 4 => rowsOut m c z (ix2 (⟨(i 1).val % 64, Nat.mod_lt _ (by decide)⟩ : Fin 64) (⟨(i 2).val, h2⟩ : Fin 1024))) hch

/-- The result's buffer, holding the rows of the chunks in `S`. -/
def outHas (c : Dev nD) (S : List (Fin 4)) : sProp 𝕄 :=
  iprop(∃ f : S1x256x1024.Idx → Elt F .f32, ⌜∀ ch ∈ S, ∀ i : S1x256x1024.Idx, (i 1).val / 64 = ch.val → f i = outC m c i⌝
    ∗ (((c : Thread nD τ).loc cc0_stg3_0) ↦{fullShare} f))

theorem wp_ldO (c : Dev nD) (ch : Fin 4) (f : S1x256x1024.Idx → Elt F .f32) (k : Vec F S1x64x1024 .f32 → P F) (Q : PUnit → sProp 𝕄) :
    (((c : Thread nD τ).loc cc0_stg3_0) ↦{fullShare} f) ⊢ iprop(((((c : Thread nD τ).loc cc0_stg3_0) ↦{fullShare} f)
        -∗ WP c (k (A0.out.view.readAt (Elt F) (rectO ch).toLoadRect f)) Q)
      -∗ WP c (.op (.load A0.out (rectO ch).toLoadRect (View.loadsAt_vmem h_S1x64x1024)) k) Q) :=
  wp_load (defs := defs₀ (F := F)) 𝒱₀ (c : Thread nD τ) none Set.univ (m := A0.out) (r := (rectO ch).toLoadRect) (hl := View.loadsAt_vmem h_S1x64x1024)
    (S := Finset.univ) (q := fullShare) (f := f) (k := k) (Q := Q) (Finset.subset_univ _)

theorem wp_stO (c : Dev nD) (ch : Fin 4) (f : S1x256x1024.Idx → Elt F .f32) (w : S1x64x1024.Idx → Elt F .f32) (k : P F) (Q : PUnit → sProp 𝕄) :
    (((c : Thread nD τ).loc cc0_stg3_0) ↦{fullShare} f)
      ⊢ iprop(((((c : Thread nD τ).loc cc0_stg3_0) ↦{fullShare} ((A0.out.access (rectO ch)).write (Elt F) f w Finset.univ)) -∗ WP c k Q)
      -∗ WP c (.op (.store A0.out (rectO ch) w Finset.univ (View.stores_vmem_bits_univ h_S1x64x1024 rfl) (.inl rfl)) fun _ => k) Q) :=
  wp_store (defs := defs₀ (F := F)) 𝒱₀ (c : Thread nD τ) none Set.univ (m := A0.out) (r := rectO ch) (Mk := Finset.univ)
    (S := Finset.univ) (f := f) (k := fun _ => k) (Q := Q) (Finset.subset_univ _)

theorem wp_writeOut (c : Dev nD) (ch : Fin 4) (S : List (Fin 4)) (k : P F) (Q : PUnit → sProp 𝕄) :
    outHas m c S ⊢ iprop((outHas m c (ch :: S) -∗ WP c k Q) -∗ WP c (writeOut A0 ch (rowsOut m c ch) k) Q) := by
  unfold outHas writeOut
  iintro ⟨%f, %hf, H⟩ Hk
  iapply (wp_ldO c ch f _ Q) $$ H
  iintro H
  iapply (wp_stO c ch f _ k Q) $$ H
  iintro H
  iapply Hk
  iexists _
  isplitr
  rotate_left
  · iexact H
  · ipureintro
    intro ch' hch' i hi
    by_cases h : (i 1).val / 64 = ch.val
    · exact wrote_row m c ch f i h
    · refine (View.write_of_not_mem (v := A0.out.access (rectO ch)) f _ _ (fun hm => h ?_)).trans ?_
      · rw [View.setOn_univ, show (A0.out.access (rectO ch)).set = (rectO ch).set from View.set_slice_whole cc0_stg3_0 _] at hm
        exact (mem_rectO ch i).mp hm
      · rcases List.mem_cons.mp hch' with rfl | h'
        · exact absurd hi h
        · exact hf ch' h' i hi

theorem outHas_all (c : Dev nD) : outHas m c [2, 1, 3, 0] ⊢ (((c : Thread nD τ).loc cc0_stg3_0) ↦{fullShare} (outC m c) : sProp 𝕄) := by
  unfold outHas
  iintro ⟨%f, %hf, H⟩
  have e : f = outC m c := by
    funext i
    have h1 : (i 1).val < 256 := (i 1).isLt
    refine hf ⟨(i 1).val / 64, by omega⟩ ?_ i rfl
    generalize (⟨(i 1).val / 64, by omega⟩ : Fin 4) = ch
    revert ch; decide
  subst e
  iexact H

/-! ## The steps of the rounds -/

theorem wp_mid (c : Dev nD) (ch : Fin 4) (r r' : Fin 3) (hr : r'.val = r.val + 1) (l : List (Fin 3 × CellK)) (hl : ∀ p ∈ pays ch r' ++ l, 2 + r.val < lvK p.2)
    (k : FVec F S64x1024 .f32 → FVec F S64x8 .f32 → P F) (Q : PUnit → sProp 𝕄) :
    iprop((Ctx m K ∗ levAts L lv) ∗ owesX (F := F) c (pays ch r' ++ l) ∗ flRes (F := F) c ch r ∗ rcRes (F := F) c ch r ∗ stRes (F := F) c ch r')
      ⊢ iprop(((owesX (F := F) c l ∗ doneRes (F := F) c ch r ∗ flRes (F := F) c ch r') -∗ WP c (k (UL m ch r'.val c).1 (UL m ch r'.val c).2) Q)
          -∗ WP c (mid A0 c ch r r' (UL m ch r.val c).1 (UL m ch r.val c).2 k) Q) := by
  unfold mid
  rw [hr]
  iintro ⟨#HC, HO, Hf, Hrc, Hs⟩ Hk
  iapply (wp_finish m K c ch r _ hl _ Q) $$ [HO Hf Hrc]
  · isplitr; · iexact HC
    isplitl [Hf]; · iexact Hf
    isplitl [Hrc]; · iexact Hrc
    iexact HO
  iintro ⟨Hd, HO⟩
  rw [← hr]
  iapply (wp_start m K c ch r' l _ Q) $$ [HO Hs]
  · icases HC with ⟨HC, -⟩
    isplitr; · iexact HC
    isplitl [Hs]; · iexact Hs
    iexact HO
  iintro ⟨Hf, HO⟩
  iapply Hk
  isplitl [HO]; · iexact HO
  isplitl [Hd]; · iexact Hd
  iexact Hf

theorem wp_last (c : Dev nD) (ch : Fin 4) (S : List (Fin 4)) (k : P F) (Q : PUnit → sProp 𝕄) :
    iprop((Ctx m K ∗ levAts L lv) ∗ owesX (F := F) c [] ∗ flRes (F := F) c ch 2 ∗ rcRes (F := F) c ch 2 ∗ outHas m c S)
      ⊢ iprop(((owesX (F := F) c [] ∗ doneRes (F := F) c ch 2 ∗ outHas m c (ch :: S)) -∗ WP c k Q)
          -∗ WP c (last A0 ch (wost m c) (UL m ch (2 : Fin 3).val c).1 (UL m ch (2 : Fin 3).val c).2 k) Q) := by
  unfold last
  iintro ⟨#HC, HO, Hf, Hrc, Hs⟩ Hk
  iapply (wp_finish m K c ch 2 [] (fun p hp => absurd hp List.not_mem_nil) _ Q) $$ [HO Hf Hrc]
  · isplitr; · iexact HC
    isplitl [Hf]; · iexact Hf
    isplitl [Hrc]; · iexact Hrc
    iexact HO
  iintro ⟨Hd, HO⟩
  iapply (wp_writeOut m c ch S k Q) $$ Hs
  iintro Hs
  iapply Hk
  isplitl [HO]; · iexact HO
  isplitl [Hd]; · iexact Hd
  iexact Hs

/-! ## The whole body -/

/-- What a chunk takes into a round, but for the partner's landing slots. -/
def sndRes (c : Dev nD) (ch : Fin 4) (r : Fin 3) : sProp 𝕄 :=
  iprop((uAny (F := F) A0.us c ch r ∗ lAny (F := F) A0.ls c ch r)
    ∗ (dutyTok ER (kcell (c, kX 0 ch r)) 0 0 ∗ dutyTok ER (kcell (c, kX 2 ch r)) 0 0)
    ∗ (dutyTok ER (kcell (pdev c r, kX 1 ch r)) 0 0 ∗ dutyTok ER (kcell (pdev c r, kX 3 ch r)) 0 0))

/-- The three rounds of one chunk. -/
def sndAll (c : Dev nD) : sProp 𝕄 := bigSep Finset.univ fun r : Fin 3 => bigSep Finset.univ fun ch : Fin 4 => sndRes (F := F) c ch r
def stAll (c : Dev nD) : sProp 𝕄 := bigSep Finset.univ fun r : Fin 3 => bigSep Finset.univ fun ch : Fin 4 => stRes (F := F) c ch r
def rcAll (c : Dev nD) : sProp 𝕄 := bigSep Finset.univ fun r : Fin 3 => bigSep Finset.univ fun ch : Fin 4 => rcRes (F := F) c ch r
def doneAll (c : Dev nD) : sProp 𝕄 := bigSep Finset.univ fun r : Fin 3 => bigSep Finset.univ fun ch : Fin 4 => doneRes (F := F) c ch r

theorem st_of_snd1 (c : Dev nD) (ch : Fin 4) (r : Fin 3) :
    iprop(sndRes (F := F) c ch r ∗ (uAny (F := F) A0.ur (pdev c r) ch r ∗ lAny (F := F) A0.lr (pdev c r) ch r)) ⊢ stRes (F := F) c ch r := by
  unfold sndRes stRes
  iintro ⟨⟨H1, H2, H3⟩, H4⟩
  isplitl [H1]; · iexact H1
  isplitl [H4]; · iexact H4
  isplitl [H2]; · iexact H2
  iexact H3

theorem st_of_snd (c : Dev nD) : iprop(sndAll (F := F) c ∗ bigSep Finset.univ fun r : Fin 3 => barPay (F := F) c r) ⊢ stAll (F := F) c := by
  unfold sndAll stAll barPay
  rw [← bigSep_sep']
  refine bigSep_mono fun r _ => ?_
  rw [← bigSep_sep']
  exact bigSep_mono fun ch _ => st_of_snd1 c ch r

/-- What the local copies take. -/
def cpRes (c : Dev nD) : sProp 𝕄 :=
  iprop(srcs m c ∗ ((bigSep (Finset.Ico 0 352) fun i => resG (F := F) c 0 i) ∗ (bigSep (Finset.Ico 0 352) fun i => resG (F := F) c 1 i)
      ∗ (bigSep (Finset.Ico 0 352) fun i => resG (F := F) c 2 i)) ∗ (bigSep (Finset.Ico 0 32) fun i => resE (F := F) c 0 i)
    ∗ (bigSep (Finset.Ico 0 32) fun i => resE (F := F) c 1 i))

/-- The credits the local copies give. -/
def cpCred (c : Dev nD) : sProp 𝕄 :=
  iprop(cred (tallyAt (kcell (c, kG 0)) () (352 * NG))
    ∗ (cred (tallyAt (kcell (c, kG (clsE 0))) () (352 * NG)) ∗ cred (tallyAt (kcell (c, kG (clsE 0))) () (32 * NG)))
    ∗ (cred (tallyAt (kcell (c, kG (clsE 1))) () (352 * NG)) ∗ cred (tallyAt (kcell (c, kG (clsE 1))) () (32 * NG))))

theorem cred_none (g : GSem nD τ sig) : (emp : sProp 𝕄) ⊢ cred (tallyAt g () 0) := by
  rw [tallyAt_zero]
  exact Entails.of_eq cred_zero.symm

theorem wp_issueAll (c : Dev nD) (k : P F) (Q : PUnit → sProp 𝕄) :
    iprop(Ctx m K ∗ cpRes m c) ⊢ iprop(((srcs m c ∗ cpCred (F := F) c) -∗ WP c k Q) -∗ WP c (issueAll A0 c k) Q) := by
  unfold issueAll cpRes cpCred
  iintro ⟨#HC, Hs, ⟨Hg0, Hg1, Hg2⟩, He0, He1⟩ Hk
  iapply (run_issueG m K c 0 _ Q) $$ [Hs Hg0]
  · isplitr; · iexact HC
    unfold isG
    isplitl [Hs]; · iexact Hs
    isplitr; · rw [Nat.zero_mul]; iapply (cred_none (kcell (c, kG 0))); iempintro
    iexact Hg0
  unfold isG
  iintro ⟨Hs, Hc0, -⟩
  iapply (run_issueG m K c 2 _ Q) $$ [Hs Hg2]
  · isplitr; · iexact HC
    unfold isG
    isplitl [Hs]; · iexact Hs
    isplitr; · rw [Nat.zero_mul]; iapply (cred_none (kcell (c, kG 2))); iempintro
    iexact Hg2
  unfold isG
  iintro ⟨Hs, Hc2, -⟩
  iapply (run_issueG m K c 1 _ Q) $$ [Hs Hg1]
  · isplitr; · iexact HC
    unfold isG
    isplitl [Hs]; · iexact Hs
    isplitr; · rw [Nat.zero_mul]; iapply (cred_none (kcell (c, kG 1))); iempintro
    iexact Hg1
  unfold isG
  iintro ⟨Hs, Hc1, -⟩
  iapply (run_issueX m K c _ Q) $$ [Hs He0 He1]
  · isplitr; · iexact HC
    unfold isX isE
    isplitl [Hs]; · iexact Hs
    isplitl [He0]
    · isplitr
      · rw [show cnt 0 0 * NG = 0 from Nat.zero_mul _]; iapply (cred_none (kcell (c, kG (clsE 0)))); iempintro
      iexact He0
    isplitr
    · rw [show cnt 1 0 * NG = 0 from Nat.zero_mul _]; iapply (cred_none (kcell (c, kG (clsE 1)))); iempintro
    iexact He1
  unfold isX isE
  iintro ⟨Hs, ⟨Hd0, -⟩, Hd1, -⟩
  iapply Hk
  isplitl [Hs]; · iexact Hs
  isplitl [Hc0]; · iexact Hc0
  isplitl [Hc2 Hd0]
  · isplitl [Hc2]; · iexact Hc2
    iexact Hd0
  isplitl [Hc1]; · iexact Hc1
  iexact Hd1

/-- What the barrier takes. -/
def barRes (c : Dev nD) : sProp 𝕄 :=
  iprop((bigSep Finset.univ fun r : Fin 3 => dutyTok ER (kcell (pdev c r, kBar)) 0 r.val)
    ∗ (bigSep Finset.univ fun r : Fin 3 => ownLand (F := F) c r) ∗ cred (tallyAt (kcell (c, kBar)) () 3) ∗ atPos ER (kcell (c, kBar)) 0 ∅ 0)

/-- What the body starts from. -/
def bodyIn (c : Dev nD) : sProp 𝕄 :=
  iprop(owesX (F := F) c oweAll ∗ cpRes m c ∗ barRes (F := F) c ∗ sndAll (F := F) c ∗ rcAll (F := F) c
    ∗ (bigSep Finset.univ fun r : Fin 3 => atPos ER (kcell (c, kG r)) 0 ∅ 0) ∗ (stX m c ∗ stWq m c ∗ stWo m c) ∗ outHas m c [])

/-- What the body ends with. -/
def bodyOut (c : Dev nD) : sProp 𝕄 :=
  iprop(owesX (F := F) c [] ∗ srcs m c ∗ atPos ER (kcell (c, kBar)) 1 ∅ 0 ∗ (bigSep Finset.univ fun r : Fin 3 => iprop(atPos ER (kcell (c, kG r)) 1 ∅ 0 ∗ cls m c r))
    ∗ (ext m c 0 ∗ ext m c 1) ∗ doneAll (F := F) c ∗ (stX m c ∗ stWq m c ∗ stWo m c) ∗ (((c : Thread nD τ).loc cc0_stg3_0) ↦{fullShare} (outC m c)))

theorem lv_G (c : Dev nD) (r : Fin 3) (l : List (Fin 3 × CellK)) (hl : ∀ p ∈ l, 0 < lvK p.2) : ∀ p ∈ l, lv (kcell (c, kG r)) () < lvK p.2 := by
  rw [lv_k]; exact hl

theorem stAll_eq (c : Dev nD) : stAll (F := F) c = iprop((stRes (F := F) c 0 0 ∗ stRes (F := F) c 1 0 ∗ stRes (F := F) c 2 0 ∗ stRes (F := F) c 3 0)
    ∗ (stRes (F := F) c 0 1 ∗ stRes (F := F) c 1 1 ∗ stRes (F := F) c 2 1 ∗ stRes (F := F) c 3 1)
    ∗ (stRes (F := F) c 0 2 ∗ stRes (F := F) c 1 2 ∗ stRes (F := F) c 2 2 ∗ stRes (F := F) c 3 2)) := by
  unfold stAll; rw [bigSep_fin3]; simp only [bigSep_fin4]
theorem rcAll_eq (c : Dev nD) : rcAll (F := F) c = iprop((rcRes (F := F) c 0 0 ∗ rcRes (F := F) c 1 0 ∗ rcRes (F := F) c 2 0 ∗ rcRes (F := F) c 3 0)
    ∗ (rcRes (F := F) c 0 1 ∗ rcRes (F := F) c 1 1 ∗ rcRes (F := F) c 2 1 ∗ rcRes (F := F) c 3 1)
    ∗ (rcRes (F := F) c 0 2 ∗ rcRes (F := F) c 1 2 ∗ rcRes (F := F) c 2 2 ∗ rcRes (F := F) c 3 2)) := by
  unfold rcAll; rw [bigSep_fin3]; simp only [bigSep_fin4]
theorem doneAll_eq (c : Dev nD) : doneAll (F := F) c = iprop((doneRes (F := F) c 0 0 ∗ doneRes (F := F) c 1 0 ∗ doneRes (F := F) c 2 0 ∗ doneRes (F := F) c 3 0)
    ∗ (doneRes (F := F) c 0 1 ∗ doneRes (F := F) c 1 1 ∗ doneRes (F := F) c 2 1 ∗ doneRes (F := F) c 3 1)
    ∗ (doneRes (F := F) c 0 2 ∗ doneRes (F := F) c 1 2 ∗ doneRes (F := F) c 2 2 ∗ doneRes (F := F) c 3 2)) := by
  unfold doneAll; rw [bigSep_fin3]; simp only [bigSep_fin4]

theorem walk (c : Dev nD) (Q : PUnit → sProp 𝕄) :
    iprop((Ctx m K ∗ levAts L lv) ∗ bodyIn m c) ⊢ iprop((bodyOut m c -∗ WP c (.ret ⟨⟩) Q) -∗ WP c (model A0 c) Q) := by
  unfold bodyIn bodyOut barRes model
  rw [rcAll_eq, doneAll_eq, bigSep_fin3 (fun r => atPos ER (kcell (c, kG r)) 0 ∅ 0),
    bigSep_fin3 (fun r => iprop(atPos ER (kcell (c, kG r)) 1 ∅ 0 ∗ cls m c r))]
  iintro ⟨#HC, HO, Hcp, Hbar, Hsnd, ⟨⟨Hr00, Hr10, Hr20, Hr30⟩, ⟨Hr01, Hr11, Hr21, Hr31⟩, ⟨Hr02, Hr12, Hr22, Hr32⟩⟩, ⟨Ha0, Ha1, Ha2⟩, ⟨HX, HQ, HW⟩, Hout⟩ Hk
  iapply (wp_issueAll m K c _ Q) $$ [Hcp]
  · icases HC with ⟨HC, -⟩
    isplitr; · iexact HC
    iexact Hcp
  unfold cpCred
  iintro ⟨Hsrc, Hc0, HcA, HcB⟩
  icases Hbar with ⟨Hb1, Hb2, Hb3, Hb4⟩
  iapply (wp_handshake m K c _ Q) $$ [HO Hb1 Hb2 Hb3 Hb4]
  · isplitr; · iexact HC
    isplitl [HO]; · iexact HO
    isplitl [Hb1]; · iexact Hb1
    isplitl [Hb2]; · iexact Hb2
    isplitl [Hb3]; · iexact Hb3
    iexact Hb4
  iintro ⟨HO, Hbat, Hbp⟩
  ihave Hst := (st_of_snd (F := F) c) $$ [Hsnd Hbp]
  · isplitl [Hsnd]; · iexact Hsnd
    iexact Hbp
  ihave Hst := (Entails.of_eq (stAll_eq (F := F) c)) $$ Hst
  icases Hst with ⟨⟨Ht00, Ht10, Ht20, Ht30⟩, ⟨Ht01, Ht11, Ht21, Ht31⟩, ⟨Ht02, Ht12, Ht22, Ht32⟩⟩
  iapply (wp_project m c _ Q) $$ [HX HQ]
  · isplitl [HX]; · iexact HX
    iexact HQ
  iintro ⟨HX, HQ⟩
  iapply (wp_class0 m K c (pays 1 0 ++ (pays 2 0 ++ (pays 0 1 ++ (pays 3 1 ++ (pays 1 1 ++ (pays 2 1 ++ (pays 0 2 ++ (pays 3 2 ++ (pays 1 2 ++ (pays 2 2)))))))))) (lv_G c 0 _ (by decide)) _ Q) $$ [HO Ha0 Hc0 Ht00 Ht30]
  · isplitr; · iexact HC
    isplitl [HO]; · iexact HO
    isplitl [Ha0 Hc0]
    · isplitl [Ha0]; · iexact Ha0
      iexact Hc0
    isplitl [Ht00]; · iexact Ht00
    iexact Ht30
  iintro ⟨HO, Hg0, Hf0, Hf3⟩
  iapply (wp_classX m K c 0 (pays 2 0 ++ (pays 0 1 ++ (pays 3 1 ++ (pays 1 1 ++ (pays 2 1 ++ (pays 0 2 ++ (pays 3 2 ++ (pays 1 2 ++ (pays 2 2))))))))) (lv_G c (clsE 0) _ (by decide)) _ Q) $$ [HO Ha2 HcA Ht10]
  · isplitr; · iexact HC
    isplitl [HO]; · iexact HO
    isplitl [Ha2 HcA]
    · isplitl [Ha2]; · iexact Ha2
      iexact HcA
    iexact Ht10
  iintro ⟨HO, ⟨Hga2, Hg2, He0⟩, Hf1⟩
  iapply (wp_classX m K c 1 (pays 0 1 ++ (pays 3 1 ++ (pays 1 1 ++ (pays 2 1 ++ (pays 0 2 ++ (pays 3 2 ++ (pays 1 2 ++ (pays 2 2)))))))) (lv_G c (clsE 1) _ (by decide)) _ Q) $$ [HO Ha1 HcB Ht20]
  · isplitr; · iexact HC
    isplitl [HO]; · iexact HO
    isplitl [Ha1 HcB]
    · isplitl [Ha1]; · iexact Ha1
      iexact HcB
    iexact Ht20
  iintro ⟨HO, ⟨Hga1, Hg1, He1⟩, Hf2⟩
  iapply (wp_ldWo m c _ Q) $$ HW
  iintro HW
  iapply (wp_mid m K c 0 0 1 rfl (pays 3 1 ++ (pays 1 1 ++ (pays 2 1 ++ (pays 0 2 ++ (pays 3 2 ++ (pays 1 2 ++ (pays 2 2))))))) (by decide) _ Q) $$ [HO Hf0 Hr00 Ht01]
  · isplitr; · iexact HC
    isplitl [HO]; · iexact HO
    isplitl [Hf0]; · iexact Hf0
    isplitl [Hr00]; · iexact Hr00
    iexact Ht01
  iintro ⟨HO, Hd00, Hf0⟩
  iapply (wp_mid m K c 3 0 1 rfl (pays 1 1 ++ (pays 2 1 ++ (pays 0 2 ++ (pays 3 2 ++ (pays 1 2 ++ (pays 2 2)))))) (by decide) _ Q) $$ [HO Hf3 Hr30 Ht31]
  · isplitr; · iexact HC
    isplitl [HO]; · iexact HO
    isplitl [Hf3]; · iexact Hf3
    isplitl [Hr30]; · iexact Hr30
    iexact Ht31
  iintro ⟨HO, Hd30, Hf3⟩
  iapply (wp_mid m K c 1 0 1 rfl (pays 2 1 ++ (pays 0 2 ++ (pays 3 2 ++ (pays 1 2 ++ (pays 2 2))))) (by decide) _ Q) $$ [HO Hf1 Hr10 Ht11]
  · isplitr; · iexact HC
    isplitl [HO]; · iexact HO
    isplitl [Hf1]; · iexact Hf1
    isplitl [Hr10]; · iexact Hr10
    iexact Ht11
  iintro ⟨HO, Hd10, Hf1⟩
  iapply (wp_mid m K c 2 0 1 rfl (pays 0 2 ++ (pays 3 2 ++ (pays 1 2 ++ (pays 2 2)))) (by decide) _ Q) $$ [HO Hf2 Hr20 Ht21]
  · isplitr; · iexact HC
    isplitl [HO]; · iexact HO
    isplitl [Hf2]; · iexact Hf2
    isplitl [Hr20]; · iexact Hr20
    iexact Ht21
  iintro ⟨HO, Hd20, Hf2⟩
  iapply (wp_mid m K c 0 1 2 rfl (pays 3 2 ++ (pays 1 2 ++ (pays 2 2))) (by decide) _ Q) $$ [HO Hf0 Hr01 Ht02]
  · isplitr; · iexact HC
    isplitl [HO]; · iexact HO
    isplitl [Hf0]; · iexact Hf0
    isplitl [Hr01]; · iexact Hr01
    iexact Ht02
  iintro ⟨HO, Hd01, Hf0⟩
  iapply (wp_mid m K c 3 1 2 rfl (pays 1 2 ++ (pays 2 2)) (by decide) _ Q) $$ [HO Hf3 Hr31 Ht32]
  · isplitr; · iexact HC
    isplitl [HO]; · iexact HO
    isplitl [Hf3]; · iexact Hf3
    isplitl [Hr31]; · iexact Hr31
    iexact Ht32
  iintro ⟨HO, Hd31, Hf3⟩
  iapply (wp_mid m K c 1 1 2 rfl (pays 2 2) (by decide) _ Q) $$ [HO Hf1 Hr11 Ht12]
  · isplitr; · iexact HC
    isplitl [HO]; · iexact HO
    isplitl [Hf1]; · iexact Hf1
    isplitl [Hr11]; · iexact Hr11
    iexact Ht12
  iintro ⟨HO, Hd11, Hf1⟩
  iapply (wp_mid m K c 2 1 2 rfl [] (by decide) _ Q) $$ [HO Hf2 Hr21 Ht22]
  · isplitr; · iexact HC
    isplitl [HO]; · iexact HO
    isplitl [Hf2]; · iexact Hf2
    isplitl [Hr21]; · iexact Hr21
    iexact Ht22
  iintro ⟨HO, Hd21, Hf2⟩
  iapply (wp_last m K c 0 [] _ Q) $$ [HO Hf0 Hr02 Hout]
  · isplitr; · iexact HC
    isplitl [HO]; · iexact HO
    isplitl [Hf0]; · iexact Hf0
    isplitl [Hr02]; · iexact Hr02
    iexact Hout
  iintro ⟨HO, Hd02, Hout⟩
  iapply (wp_last m K c 3 [0] _ Q) $$ [HO Hf3 Hr32 Hout]
  · isplitr; · iexact HC
    isplitl [HO]; · iexact HO
    isplitl [Hf3]; · iexact Hf3
    isplitl [Hr32]; · iexact Hr32
    iexact Hout
  iintro ⟨HO, Hd32, Hout⟩
  iapply (wp_last m K c 1 [3, 0] _ Q) $$ [HO Hf1 Hr12 Hout]
  · isplitr; · iexact HC
    isplitl [HO]; · iexact HO
    isplitl [Hf1]; · iexact Hf1
    isplitl [Hr12]; · iexact Hr12
    iexact Hout
  iintro ⟨HO, Hd12, Hout⟩
  iapply (wp_last m K c 2 [1, 3, 0] _ Q) $$ [HO Hf2 Hr22 Hout]
  · isplitr; · iexact HC
    isplitl [HO]; · iexact HO
    isplitl [Hf2]; · iexact Hf2
    isplitl [Hr22]; · iexact Hr22
    iexact Hout
  iintro ⟨HO, Hd22, Hout⟩
  iapply Hk
  isplitl [HO]; · iexact HO
  isplitl [Hsrc]; · iexact Hsrc
  isplitl [Hbat]; · iexact Hbat
  isplitl [Hg0 Hga1 Hg1 Hga2 Hg2]
  · isplitl [Hg0]; · iexact Hg0
    isplitl [Hga1 Hg1]
    · isplitl [Hga1]; · iexact Hga1
      iexact Hg1
    isplitl [Hga2]; · iexact Hga2
    iexact Hg2
  isplitl [He0 He1]
  · isplitl [He0]; · iexact He0
    iexact He1
  isplitr [HX HQ HW Hout]
  · isplitl [Hd00 Hd10 Hd20 Hd30]
    · isplitl [Hd00]; · iexact Hd00
      isplitl [Hd10]; · iexact Hd10
      isplitl [Hd20]; · iexact Hd20
      iexact Hd30
    isplitl [Hd01 Hd11 Hd21 Hd31]
    · isplitl [Hd01]; · iexact Hd01
      isplitl [Hd11]; · iexact Hd11
      isplitl [Hd21]; · iexact Hd21
      iexact Hd31
    isplitl [Hd02]; · iexact Hd02
    isplitl [Hd12]; · iexact Hd12
    isplitl [Hd22]; · iexact Hd22
    iexact Hd32
  isplitl [HX HQ HW]
  · isplitl [HX]; · iexact HX
    isplitl [HQ]; · iexact HQ
    iexact HW
  iapply (outHas_all m c); iexact Hout

end Cert.KernelIdeal.Hand

end
-- ==== Proof.KernelIdeal.Carve.lean ====
/- The scratch buffers in pieces: the tiles and slots the launch's buffers are cut into, and the buffers put together
   again at the end. -/
module

public import proofs.«01_k».proof.Proof.KernelIdeal.Walk

@[expose] public section

noncomputable section

namespace Cert.KernelIdeal.Hand

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## The gathered keys and values -/

theorem RG_all : (Finset.univ : Finset (Fin 3)).biUnion RG = Finset.univ := by
  ext i
  have h0 : (i 0).val < 3 := (i 0).isLt
  simp only [Finset.mem_biUnion, Finset.mem_univ, true_and, RG, Finset.mem_filter, iff_true]
  exact ⟨⟨(i 0).val, h0⟩, rfl⟩
theorem RG_disj (r r' : Fin 3) (h : r ≠ r') : Disjoint (RG r) (RG r') := by
  rw [Finset.disjoint_left]
  intro i hi hi'
  simp only [RG, Finset.mem_filter, Finset.mem_univ, true_and] at hi hi'
  exact h (Fin.ext (hi.symm.trans hi'))
theorem RE_all : (Finset.univ : Finset (Fin 2)).biUnion RE = Finset.univ := by
  ext i
  have h0 : (i 0).val < 2 := (i 0).isLt
  simp only [Finset.mem_biUnion, Finset.mem_univ, true_and, RE, Finset.mem_filter, iff_true]
  exact ⟨⟨(i 0).val, h0⟩, rfl⟩
theorem RE_disj (s s' : Fin 2) (h : s ≠ s') : Disjoint (RE s) (RE s') := by
  rw [Finset.disjoint_left]
  intro i hi hi'
  simp only [RE, Finset.mem_filter, Finset.mem_univ, true_and] at hi hi'
  exact h (Fin.ext (hi.symm.trans hi'))

theorem gPts_all (c : Dev nD) (kv : Fin 2) (f : S3x1408x1024.Idx → Elt F .f32) :
    gPts (F := F) c kv Finset.univ f = bigSep Finset.univ fun r : Fin 3 => gPts c kv (RG r) f := by
  rw [← RG_all]
  match kv with
  | 0 => exact pointsTo_biUnion _ _ fun r _ r' _ h => RG_disj r r' h
  | 1 => exact pointsTo_biUnion _ _ fun r _ r' _ h => RG_disj r r' h
theorem ePts_all (c : Dev nD) (kv : Fin 2) (f : S2x128x1024.Idx → Elt F .f32) :
    ePts (F := F) c kv Finset.univ f = bigSep Finset.univ fun s : Fin 2 => ePts c kv (RE s) f := by
  rw [← RE_all]
  match kv with
  | 0 => exact pointsTo_biUnion _ _ fun r _ r' _ h => RE_disj r r' h
  | 1 => exact pointsTo_biUnion _ _ fun r _ r' _ h => RE_disj r r' h

theorem gPts_some (c : Dev nD) (kv : Fin 2) (S : Finset S3x1408x1024.Idx) (f : S3x1408x1024.Idx → Elt F .f32) :
    gPts (F := F) c kv S f ⊢ iprop(∃ f, gPts c kv S f) := by
  iintro H; iexists f; iexact H
theorem ePts_some (c : Dev nD) (kv : Fin 2) (S : Finset S2x128x1024.Idx) (f : S2x128x1024.Idx → Elt F .f32) :
    ePts (F := F) c kv S f ⊢ iprop(∃ f, ePts c kv S f) := by
  iintro H; iexists f; iexact H

/-- The gathered keys or values, tile by tile. -/
def gTiles (c : Dev nD) (kv : Fin 2) (r : Fin 3) : sProp 𝕄 := bigSep (Finset.range 352) fun t => iprop(∃ f, gPts (F := F) c kv (TG kv r t) f)
/-- The extra keys or values, tile by tile. -/
def eTiles (c : Dev nD) (kv s : Fin 2) : sProp 𝕄 := bigSep (Finset.range 32) fun t => iprop(∃ f, ePts (F := F) c kv (TE kv s t) f)

theorem gPts_tiles (c : Dev nD) (kv : Fin 2) (f : S3x1408x1024.Idx → Elt F .f32) :
    gPts (F := F) c kv Finset.univ f ⊢ iprop(gTiles (F := F) c kv 0 ∗ gTiles (F := F) c kv 1 ∗ gTiles (F := F) c kv 2) := by
  rw [gPts_all, bigSep_fin3, tiles_G, tiles_G, tiles_G]
  unfold gTiles
  exact BIClass.sep_mono (bigSep_mono fun t _ => gPts_some c kv _ f) (BIClass.sep_mono (bigSep_mono fun t _ => gPts_some c kv _ f) (bigSep_mono fun t _ => gPts_some c kv _ f))
theorem bigSep_fin2 (Φ : Fin 2 → sProp 𝕄) : bigSep Finset.univ Φ = iprop(Φ 0 ∗ Φ 1) := by
  rw [bigSep_univ_eq_bigSepL [(0 : Fin 2), 1] (by decide) (by decide) Φ]
  rfl
theorem ePts_tiles (c : Dev nD) (kv : Fin 2) (f : S2x128x1024.Idx → Elt F .f32) :
    ePts (F := F) c kv Finset.univ f ⊢ iprop(eTiles (F := F) c kv 0 ∗ eTiles (F := F) c kv 1) := by
  rw [ePts_all, bigSep_fin2, tiles_E, tiles_E]
  unfold eTiles
  exact BIClass.sep_mono (bigSep_mono fun t _ => ePts_some c kv _ f) (bigSep_mono fun t _ => ePts_some c kv _ f)

theorem cls_back (c : Dev nD) : (bigSep Finset.univ fun r : Fin 3 => cls m c r) ⊢
    iprop(gPts c 0 Finset.univ (GB m c 0) ∗ gPts c 1 Finset.univ (GB m c 1)) := by
  unfold cls
  rw [gPts_all, gPts_all, bigSep_sep']
theorem ext_back (c : Dev nD) : iprop(ext m c 0 ∗ ext m c 1) ⊢
    iprop(ePts c 0 Finset.univ (EB m c 0) ∗ ePts c 1 Finset.univ (EB m c 1)) := by
  unfold ext
  rw [ePts_all, ePts_all, bigSep_fin2, bigSep_fin2]
  iintro ⟨⟨H1, H2⟩, H3, H4⟩
  isplitl [H1 H3]
  · isplitl [H1]; · iexact H1
    iexact H3
  isplitl [H2]; · iexact H2
  iexact H4

/-! ## The slots -/

/-- Slot `(ch, r)` of a buffer of values or of sums. -/
def SU (p : Fin 3 × Fin 4) : Finset S4x3x64x1024.Idx := Finset.univ.filter fun i => (i 0).val = p.2.val ∧ (i 1).val = p.1.val
def SL (p : Fin 3 × Fin 4) : Finset S4x3x64x8.Idx := Finset.univ.filter fun i => (i 0).val = p.2.val ∧ (i 1).val = p.1.val

theorem SU_all : (Finset.univ : Finset (Fin 3 × Fin 4)).biUnion SU = Finset.univ := by
  ext i
  have h0 : (i 0).val < 4 := (i 0).isLt
  have h1 : (i 1).val < 3 := (i 1).isLt
  simp only [Finset.mem_biUnion, Finset.mem_univ, true_and, SU, Finset.mem_filter, iff_true]
  exact ⟨(⟨(i 1).val, h1⟩, ⟨(i 0).val, h0⟩), rfl, rfl⟩
theorem SL_all : (Finset.univ : Finset (Fin 3 × Fin 4)).biUnion SL = Finset.univ := by
  ext i
  have h0 : (i 0).val < 4 := (i 0).isLt
  have h1 : (i 1).val < 3 := (i 1).isLt
  simp only [Finset.mem_biUnion, Finset.mem_univ, true_and, SL, Finset.mem_filter, iff_true]
  exact ⟨(⟨(i 1).val, h1⟩, ⟨(i 0).val, h0⟩), rfl, rfl⟩
theorem SU_disj (p p' : Fin 3 × Fin 4) (h : p ≠ p') : Disjoint (SU p) (SU p') := by
  rw [Finset.disjoint_left]
  intro i hi hi'
  simp only [SU, Finset.mem_filter, Finset.mem_univ, true_and] at hi hi'
  exact h (Prod.ext (Fin.ext (hi.2.symm.trans hi'.2)) (Fin.ext (hi.1.symm.trans hi'.1)))
theorem SL_disj (p p' : Fin 3 × Fin 4) (h : p ≠ p') : Disjoint (SL p) (SL p') := by
  rw [Finset.disjoint_left]
  intro i hi hi'
  simp only [SL, Finset.mem_filter, Finset.mem_univ, true_and] at hi hi'
  exact h (Prod.ext (Fin.ext (hi.2.symm.trans hi'.2)) (Fin.ext (hi.1.symm.trans hi'.1)))

theorem rectU_set (ch : Fin 4) (r : Fin 3) : (rectU ch r).set = SU (r, ch) := by
  ext i
  have h2 : (i 2).val < 64 := (i 2).isLt
  have h3 : (i 3).val < 1024 := (i 3).isLt
  simp only [Rect.mem_set_unit, SU, Finset.mem_filter, Finset.mem_univ, true_and]
  constructor
  · intro H
    have a0 : ch.val ≤ (i 0).val ∧ (i 0).val < ch.val + 1 := H 0
    have a1 : r.val ≤ (i 1).val ∧ (i 1).val < r.val + 1 := H 1
    omega
  · rintro ⟨a0, a1⟩ a
    match a with
    | ⟨0, _⟩ => show ch.val ≤ (i 0).val ∧ (i 0).val < ch.val + 1; omega
    | ⟨1, _⟩ => show r.val ≤ (i 1).val ∧ (i 1).val < r.val + 1; omega
    | ⟨2, _⟩ => show 0 ≤ (i 2).val ∧ (i 2).val < 0 + 64; omega
    | ⟨3, _⟩ => show 0 ≤ (i 3).val ∧ (i 3).val < 0 + 1024; omega
theorem rectL_set (ch : Fin 4) (r : Fin 3) : (rectL ch r).set = SL (r, ch) := by
  ext i
  have h2 : (i 2).val < 64 := (i 2).isLt
  have h3 : (i 3).val < 8 := (i 3).isLt
  simp only [Rect.mem_set_unit, SL, Finset.mem_filter, Finset.mem_univ, true_and]
  constructor
  · intro H
    have a0 : ch.val ≤ (i 0).val ∧ (i 0).val < ch.val + 1 := H 0
    have a1 : r.val ≤ (i 1).val ∧ (i 1).val < r.val + 1 := H 1
    omega
  · rintro ⟨a0, a1⟩ a
    match a with
    | ⟨0, _⟩ => show ch.val ≤ (i 0).val ∧ (i 0).val < ch.val + 1; omega
    | ⟨1, _⟩ => show r.val ≤ (i 1).val ∧ (i 1).val < r.val + 1; omega
    | ⟨2, _⟩ => show 0 ≤ (i 2).val ∧ (i 2).val < 0 + 64; omega
    | ⟨3, _⟩ => show 0 ≤ (i 3).val ∧ (i 3).val < 0 + 8; omega

theorem uAny_us (c : Dev nD) (ch : Fin 4) (r : Fin 3) : uAny (F := F) A0.us c ch r
    = iprop(∃ f : Buf (Elt F) ((c : Thread nD τ).loc cc0_scratch5), ((c : Thread nD τ).loc cc0_scratch5) ↦[SU (r, ch)]{fullShare} f) := by
  unfold uAny
  rw [slotU_set, show (A0.us.access (rectU ch r)).set = SU (r, ch) from (View.set_slice_whole cc0_scratch5 (rectU ch r)).trans (rectU_set ch r)]
  rfl
theorem uAny_ur (c : Dev nD) (ch : Fin 4) (r : Fin 3) : uAny (F := F) A0.ur c ch r
    = iprop(∃ f : Buf (Elt F) ((c : Thread nD τ).loc cc0_scratch6), ((c : Thread nD τ).loc cc0_scratch6) ↦[SU (r, ch)]{fullShare} f) := by
  unfold uAny
  rw [slotU_set, show (A0.ur.access (rectU ch r)).set = SU (r, ch) from (View.set_slice_whole cc0_scratch6 (rectU ch r)).trans (rectU_set ch r)]
  rfl
theorem lAny_ls (c : Dev nD) (ch : Fin 4) (r : Fin 3) : lAny (F := F) A0.ls c ch r
    = iprop(∃ f : Buf (Elt F) ((c : Thread nD τ).loc cc0_scratch7), ((c : Thread nD τ).loc cc0_scratch7) ↦[SL (r, ch)]{fullShare} f) := by
  unfold lAny
  rw [slotL_set, show (A0.ls.access (rectL ch r)).set = SL (r, ch) from (View.set_slice_whole cc0_scratch7 (rectL ch r)).trans (rectL_set ch r)]
  rfl
theorem lAny_lr (c : Dev nD) (ch : Fin 4) (r : Fin 3) : lAny (F := F) A0.lr c ch r
    = iprop(∃ f : Buf (Elt F) ((c : Thread nD τ).loc cc0_scratch8), ((c : Thread nD τ).loc cc0_scratch8) ↦[SL (r, ch)]{fullShare} f) := by
  unfold lAny
  rw [slotL_set, show (A0.lr.access (rectL ch r)).set = SL (r, ch) from (View.set_slice_whole cc0_scratch8 (rectL ch r)).trans (rectL_set ch r)]
  rfl

/-- A buffer cut along disjoint pieces that cover it, each at some contents; -/
theorem cut_some {ℓ : Loc nD τ sig} {I : Type} [Fintype I] [DecidableEq I] (S : I → Finset (Idx ℓ)) (hS : (Finset.univ : Finset I).biUnion S = Finset.univ)
    (hd : ∀ i i', i ≠ i' → Disjoint (S i) (S i')) :
    iprop(∃ f : Buf (Elt F) ℓ, ℓ ↦{fullShare} f) ⊢ (bigSep Finset.univ fun i => iprop(∃ f : Buf (Elt F) ℓ, ℓ ↦[S i]{fullShare} f) : sProp 𝕄) := by
  iintro ⟨%f, H⟩
  iapply ((Entails.of_eq (show (ℓ ↦{fullShare} f : sProp 𝕄) = bigSep Finset.univ fun i => ℓ ↦[S i]{fullShare} f from by
    rw [← hS]; exact pointsTo_biUnion _ _ fun i _ i' _ h => hd i i' h)).trans
      (bigSep_mono fun i _ => show (ℓ ↦[S i]{fullShare} f : sProp 𝕄) ⊢ iprop(∃ f : Buf (Elt F) ℓ, ℓ ↦[S i]{fullShare} f) from by
        iintro H; iexists f; iexact H))
  iexact H
/-- and put together again. -/
theorem join_some {ℓ : Loc nD τ sig} {I : Type} [Fintype I] [DecidableEq I] (S : I → Finset (Idx ℓ)) (hS : (Finset.univ : Finset I).biUnion S = Finset.univ)
    (hd : ∀ i i', i ≠ i' → Disjoint (S i) (S i')) (f₀ : Buf (Elt F) ℓ) :
    (bigSep Finset.univ fun i => iprop(∃ f : Buf (Elt F) ℓ, ℓ ↦[S i]{fullShare} f) : sProp 𝕄) ⊢ iprop(∃ f : Buf (Elt F) ℓ, ℓ ↦{fullShare} f) := by
  iintro H
  ihave H' := (BI.bigSep_exists_pi Finset.univ (fun (i : I) (f : Buf (Elt F) ℓ) => (ℓ ↦[S i]{fullShare} f : sProp 𝕄))) $$ H
  icases H' with ⟨%fs, H⟩
  ihave H' := (pointsTo_biUnion_join Finset.univ S fs f₀ fun i _ i' _ h => hd i i' h) $$ H
  icases H' with ⟨%g, -, H⟩
  iexists g
  rw [hS]
  iexact H

/-- The four buffers of the exchange, whole. -/
def xBufs (c : Dev nD) : sProp 𝕄 :=
  iprop((∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch8), ((c : Thread nD τ).loc cc0_scratch8) ↦{fullShare} f))

/-- The slots of device `c`: to send from; to land in. -/
def slotsS (c : Dev nD) : sProp 𝕄 := bigSep Finset.univ fun r : Fin 3 => bigSep Finset.univ fun ch : Fin 4 => iprop(uAny (F := F) A0.us c ch r ∗ lAny (F := F) A0.ls c ch r)
def slotsR (c : Dev nD) : sProp 𝕄 := bigSep Finset.univ fun r : Fin 3 => bigSep Finset.univ fun ch : Fin 4 => iprop(uAny (F := F) A0.ur c ch r ∗ lAny (F := F) A0.lr c ch r)

theorem slotsS_eq (c : Dev nD) : slotsS (F := F) c = iprop((bigSep Finset.univ fun p : Fin 3 × Fin 4 => uAny (F := F) A0.us c p.2 p.1)
    ∗ bigSep Finset.univ fun p : Fin 3 × Fin 4 => lAny (F := F) A0.ls c p.2 p.1) := by
  unfold slotsS
  rw [← bigSep_univ_prod (fun p : Fin 3 × Fin 4 => iprop(uAny (F := F) A0.us c p.2 p.1 ∗ lAny (F := F) A0.ls c p.2 p.1)), bigSep_sep']
theorem slotsR_eq (c : Dev nD) : slotsR (F := F) c = iprop((bigSep Finset.univ fun p : Fin 3 × Fin 4 => uAny (F := F) A0.ur c p.2 p.1)
    ∗ bigSep Finset.univ fun p : Fin 3 × Fin 4 => lAny (F := F) A0.lr c p.2 p.1) := by
  unfold slotsR
  rw [← bigSep_univ_prod (fun p : Fin 3 × Fin 4 => iprop(uAny (F := F) A0.ur c p.2 p.1 ∗ lAny (F := F) A0.lr c p.2 p.1)), bigSep_sep']

theorem xBufs_cut (c : Dev nD) : xBufs (F := F) c ⊢ iprop(slotsS (F := F) c ∗ slotsR (F := F) c) := by
  rw [slotsS_eq, slotsR_eq]
  simp only [uAny_us, uAny_ur, lAny_ls, lAny_lr]
  unfold xBufs
  iintro ⟨H5, H6, H7, H8⟩
  isplitl [H5 H7]
  · isplitl [H5]
    · iapply (cut_some (ℓ := (c : Thread nD τ).loc cc0_scratch5) SU SU_all SU_disj); iexact H5
    · iapply (cut_some (ℓ := (c : Thread nD τ).loc cc0_scratch7) SL SL_all SL_disj); iexact H7
  · isplitl [H6]
    · iapply (cut_some (ℓ := (c : Thread nD τ).loc cc0_scratch6) SU SU_all SU_disj); iexact H6
    · iapply (cut_some (ℓ := (c : Thread nD τ).loc cc0_scratch8) SL SL_all SL_disj); iexact H8

theorem xBufs_join (c : Dev nD) : iprop(slotsS (F := F) c ∗ slotsR (F := F) c) ⊢ xBufs (F := F) c := by
  rw [slotsS_eq, slotsR_eq]
  simp only [uAny_us, uAny_ur, lAny_ls, lAny_lr]
  unfold xBufs
  iintro ⟨⟨H5, H7⟩, H6, H8⟩
  isplitl [H5]
  · iapply (join_some (ℓ := (c : Thread nD τ).loc cc0_scratch5) SU SU_all SU_disj (fun _ => default)); iexact H5
  isplitl [H6]
  · iapply (join_some (ℓ := (c : Thread nD τ).loc cc0_scratch6) SU SU_all SU_disj (fun _ => default)); iexact H6
  isplitl [H7]
  · iapply (join_some (ℓ := (c : Thread nD τ).loc cc0_scratch7) SL SL_all SL_disj (fun _ => default)); iexact H7
  · iapply (join_some (ℓ := (c : Thread nD τ).loc cc0_scratch8) SL SL_all SL_disj (fun _ => default)); iexact H8

end Cert.KernelIdeal.Hand

end
-- ==== Proof.KernelIdeal.Ghost.lean ====
/- What the launch deals: the cells' invariants, each device's positions, the tokens of the duties it pays, and the
   credits of what the others owe it. -/
module

public import proofs.«01_k».proof.Proof.KernelIdeal.Carve

@[expose] public section

noncomputable section

namespace Cert.KernelIdeal.Hand

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## All cells of a device -/

/-- Something of every cell: of the barrier's, of the local copies', of the exchange's by round, chunk and array. -/
theorem cells_eq (Φ : CellK → sProp 𝕄) : bigSep Finset.univ Φ
    = iprop(Φ kBar ∗ (bigSep Finset.univ fun r : Fin 3 => Φ (kG r))
      ∗ bigSep Finset.univ fun r : Fin 3 => bigSep Finset.univ fun ch : Fin 4 => bigSep Finset.univ fun a : Fin 4 => Φ (kX a ch r)) := by
  have e : (Fin 3 × Fin 4 × Fin 4) ≃ (Fin 4 × Fin 4 × Fin 3) :=
    ⟨fun p => (p.2.2, p.2.1, p.1), fun p => (p.2.2, p.2.1, p.1), fun _ => rfl, fun _ => rfl⟩
  rw [bigSep_univ_sum, bigSep_univ_sum (fun k : OwnK => Φ (.inr k)),
    bigSep_univ_eq_bigSepL [()] (by decide) (by decide) (fun u : Unit => Φ (.inl u)),
    bigSep_univ_equiv (⟨fun p => (p.2.2, p.2.1, p.1), fun p => (p.2.2, p.2.1, p.1), fun _ => rfl, fun _ => rfl⟩ :
      (Fin 3 × Fin 4 × Fin 4) ≃ (Fin 4 × Fin 4 × Fin 3)) (fun b => Φ (.inr (.inr b))), bigSep_univ_prod]
  refine congrArg (fun X => iprop(Φ kBar ∗ (bigSep Finset.univ fun r : Fin 3 => Φ (kG r)) ∗ X)) ?_
  exact bigSep_congr fun r _ => bigSep_univ_prod _

/-! ## The tokens -/

/-- Every duty of every cell. -/
def allDuties : Finset ((_ : Dev nD × CellK) × ℕ) := Finset.univ.sigma fun ck => dutiesK ck.2
def tokOf (x : (_ : Dev nD × CellK) × ℕ) : GSem nD τ sig × ℕ × ℕ := (kcell x.1, 0, x.2)
theorem tokOf_injective : Function.Injective tokOf := by
  rintro ⟨ck, d⟩ ⟨ck', d'⟩ h
  have h1 : ck = ck' := kcell_injective (congrArg Prod.fst h)
  have h2 : d = d' := congrArg (fun x : GSem nD τ sig × ℕ × ℕ => x.2.2) h
  subst h1 h2
  rfl
def hsCells : Finset (GSem nD τ sig) := Finset.univ.map ⟨kcell, kcell_injective⟩
def hsToks : Finset (GSem nD τ sig × ℕ × ℕ) := allDuties.map ⟨tokOf, tokOf_injective⟩

/-- The element the launch starts from. -/
def u₀ : UU := (initOf (Pipeline.cells cfgs cellOf_inj) (Pipeline.launchToks cfgs cellOf_inj), initOf hsCells hsToks)

/-- The tokens of device `c`'s own cells. -/
def toks (c : Dev nD) : sProp 𝕄 := bigSep Finset.univ fun k : CellK => bigSep (dutiesK k) fun d => dutyTok ER (kcell (c, k)) 0 d

/-- What the launch's element deals device `c`. -/
def G (c : Dev nD) : sProp 𝕄 :=
  iprop((bigSep Finset.univ fun k : CellK => roundState ER (sched m) (kcell (c, k)) 0)
    ∗ (bigSep Finset.univ fun k : CellK => iprop(atPos ER (kcell (c, k)) 0 ∅ 0 ∗ reached ER (kcell (c, k)) 0)) ∗ toks (F := F) c)

theorem fund_all : BI.own (ER (F := F) (initOf hsCells hsToks)) ⊢ (|==> bigSep Finset.univ (G m) : sProp 𝕄) := by
  have hX (Φ : GSem nD τ sig → sProp 𝕄) : bigSep hsCells Φ = bigSep Finset.univ fun c : Dev nD => bigSep Finset.univ fun k : CellK => Φ (kcell (c, k)) := by
    unfold hsCells; rw [BI.bigSep_map, bigSep_univ_prod]; rfl
  have hT : bigSep hsToks (fun x => (dutyTok ER x.1 x.2.1 x.2.2 : sProp 𝕄)) = bigSep Finset.univ fun c : Dev nD => toks (F := F) c := by
    unfold hsToks allDuties toks; rw [BI.bigSep_map, Pipeline.bigSep_sigma, bigSep_univ_prod]; rfl
  iintro HX
  imod (Rounds.fund ER (sched m) hsCells hsToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellK => semVal (kcell (c, k)) 0 : sProp 𝕄) := by
  rw [bigSep_univ_sum, bigSep_univ_eq_bigSepL [()] (by decide) (by decide) (fun u : Unit => semVal (kcell (c, .inl u)) 0)]
  unfold Pipeline.ownSems0 unscopedSems0
  rw [bigSep_eq_bigSepL_of_eq [SemLoc.reg barS] (by decide) (by decide)]
  show iprop((bigSep Finset.univ fun k : OwnK => semVal (kcell (c, .inr k)) 0) ∗ semVal (kcell (c, kBar)) 0) ⊢ iprop(semVal (kcell (c, kBar)) 0 ∗ bigSep Finset.univ fun k : OwnK => semVal (kcell (c, .inr k)) 0)
  iintro ⟨H1, H2⟩
  isplitl [H2]; · iexact H2
  iexact H1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellK => iprop(∃ κ : ℕ, cellInv ER (sched m) κ (kcell (c, k))))
          ∗ (bigSep Finset.univ fun k : CellK => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CellK => semVal (kcell (c, k)) 0) ∗ bigSep Finset.univ fun k : CellK => roundState ER (sched m) (kcell (c, k)) 0)
      ⊢ (|={Set.univ}=> bigSep Finset.univ fun k : CellK => iprop(∃ κ : ℕ, cellInv ER (sched m) κ (kcell (c, k))) : sProp 𝕄) from by
        rw [← bigSep_sep']
        exact BIBase.Entails.trans (bigSep_mono fun k _ => (Rounds.body_intro ER (sched m) (kcell (c, k))).trans inv_alloc) (bigSep_fupd _ _)) $$ [Hv Hst] with Hinv
  · isplitl [Hv] <;> iassumption
  imodintro
  isplitl [Hinv]; · iexact Hinv
  isplitl [Hat]; · iexact Hat
  iexact Htok

/-! ## The tokens dealt around -/

/-- The tokens of the duties device `c` pays. -/
def payToks (c : Dev nD) : sProp 𝕄 :=
  iprop((bigSep Finset.univ fun r : Fin 3 => dutyTok ER (kcell (pdev c r, kBar)) 0 r.val)
    ∗ (bigSep Finset.univ fun r : Fin 3 => bigSep (Finset.range (nG r)) fun t => dutyTok ER (kcell (c, kG r)) 0 t)
    ∗ bigSep Finset.univ fun r : Fin 3 => bigSep Finset.univ fun ch : Fin 4 =>
        iprop((dutyTok ER (kcell (c, kX 0 ch r)) 0 0 ∗ dutyTok ER (kcell (c, kX 2 ch r)) 0 0)
          ∗ (dutyTok ER (kcell (pdev c r, kX 1 ch r)) 0 0 ∗ dutyTok ER (kcell (pdev c r, kX 3 ch r)) 0 0)))

/-- A device's partner of a round, round by round, as a permutation. -/
def swapAll : (Dev nD × Fin 3) ≃ (Dev nD × Fin 3) :=
  ⟨fun p => (pdev p.1 p.2, p.2), fun p => (pdev p.1 p.2, p.2), fun p => Prod.ext (pdev_pdev _ _) rfl, fun p => Prod.ext (pdev_pdev _ _) rfl⟩

theorem around (Φ : Dev nD → Fin 3 → sProp 𝕄) : (bigSep Finset.univ fun c => bigSep Finset.univ fun r => Φ c r)
    = bigSep Finset.univ fun c => bigSep Finset.univ fun r => Φ (pdev c r) r := by
  rw [← bigSep_univ_prod (fun p : Dev nD × Fin 3 => Φ p.1 p.2), bigSep_univ_equiv swapAll (fun p : Dev nD × Fin 3 => Φ p.1 p.2), bigSep_univ_prod]
  rfl

theorem range3 (Φ : ℕ → sProp 𝕄) : bigSep (Finset.range 3) Φ = bigSep Finset.univ fun r : Fin 3 => Φ r.val := by
  rw [bigSep_fin3, bigSep_eq_bigSepL_of_eq [0, 1, 2] (by decide) (by decide)]
  rfl

theorem toks_eq (c : Dev nD) : toks (F := F) c = iprop((bigSep Finset.univ fun r : Fin 3 => dutyTok ER (kcell (c, kBar)) 0 r.val)
    ∗ (bigSep Finset.univ fun r : Fin 3 => bigSep (Finset.range (nG r)) fun t => dutyTok ER (kcell (c, kG r)) 0 t)
    ∗ bigSep Finset.univ fun r : Fin 3 => bigSep Finset.univ fun ch : Fin 4 => bigSep Finset.univ fun a : Fin 4 => dutyTok ER (kcell (c, kX a ch r)) 0 0) := by
  unfold toks
  rw [cells_eq]
  simp only [dutiesK, bigSep_singleton, range3]

theorem toks_around : (bigSep Finset.univ fun c : Dev nD => toks (F := F) c) ⊢ bigSep Finset.univ fun c : Dev nD => payToks (F := F) c := by
  unfold payToks
  simp only [toks_eq, bigSep_fin4]
  simp only [bigSep_sep']
  rw [around (fun c r => dutyTok ER (kcell (c, kBar)) 0 r.val),
    around (fun c r => dutyTok ER (kcell (c, kX 1 0 r)) 0 0), around (fun c r => dutyTok ER (kcell (c, kX 3 0 r)) 0 0),
    around (fun c r => dutyTok ER (kcell (c, kX 1 1 r)) 0 0), around (fun c r => dutyTok ER (kcell (c, kX 3 1 r)) 0 0),
    around (fun c r => dutyTok ER (kcell (c, kX 1 2 r)) 0 0), around (fun c r => dutyTok ER (kcell (c, kX 3 2 r)) 0 0),
    around (fun c r => dutyTok ER (kcell (c, kX 1 3 r)) 0 0), around (fun c r => dutyTok ER (kcell (c, kX 3 3 r)) 0 0)]
  iintro ⟨HB, HG, ⟨A0, A1, A2, A3⟩, ⟨B0, B1, B2, B3⟩, ⟨C0, C1, C2, C3⟩, D0, D1, D2, D3⟩
  isplitl [HB]; · iexact HB
  isplitl [HG]; · iexact HG
  isplitl [A0 A1 A2 A3]
  · isplitl [A0 A2]
    · isplitl [A0] <;> iassumption
    · isplitl [A1] <;> iassumption
  isplitl [B0 B1 B2 B3]
  · isplitl [B0 B2]
    · isplitl [B0] <;> iassumption
    · isplitl [B1] <;> iassumption
  isplitl [C0 C1 C2 C3]
  · isplitl [C0 C2]
    · isplitl [C0] <;> iassumption
    · isplitl [C1] <;> iassumption
  · isplitl [D0 D2]
    · isplitl [D0] <;> iassumption
    · isplitl [D1] <;> iassumption

/-! ## What the global step gives each device -/

/-- The names of all cells, known; the device's own positions; the tokens of the duties it pays. -/
def G' (c : Dev nD) : sProp 𝕄 := iprop((∃ K, Ctx m K) ∗ (bigSep Finset.univ fun k : CellK => atPos ER (kcell (c, k)) 0 ∅ 0) ∗ payToks (F := F) c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  BIBase.Entails.trans (BIClass.sep_mono (BI.bigSep_of_persistent S R) (BI.Entails.refl _)) (by rw [← bigSep_sep']; exact bigSep_mono h)

theorem G'_intro (K : Dev nD × CellK → ℕ) (c : Dev nD) :
    iprop(Ctx m K ∗ ((bigSep Finset.univ fun k : CellK => atPos ER (kcell (c, k)) 0 ∅ 0) ∗ payToks (F := F) c)) ⊢ G' m c := by
  unfold G'
  iintro ⟨#HC, H1, H2⟩
  isplitr; · iexists K; iexact HC
  isplitl [H1]; · iexact H1
  iexact H2

theorem regroup :
    (bigSep Finset.univ fun c : Dev nD => iprop((bigSep Finset.univ fun k : CellK => iprop(∃ κ : ℕ, cellInv ER (sched m) κ (kcell (c, k))))
          ∗ (bigSep Finset.univ fun k : CellK => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CellK => iprop(∃ κ : ℕ, cellInv ER (sched m) κ (kcell ck))),
    bigSep_congr (s := Finset.univ) (fun (c : Dev nD) _ => bigSep_sep' Finset.univ (fun k : CellK => (atPos ER (kcell (c, k)) 0 ∅ 0 : sProp 𝕄)) (fun k => reached ER (kcell (c, k)) 0)),
    bigSep_sep', ← bigSep_univ_prod (fun ck : Dev nD × CellK => (reached ER (kcell ck) 0 : sProp 𝕄))]
  iintro ⟨HI, ⟨Hat, #HR⟩, Htok⟩
  ihave HK := (BI.bigSep_exists_pi Finset.univ (fun (ck : Dev nD × CellK) (κ : ℕ) => (cellInv ER (sched m) κ (kcell ck) : sProp 𝕄))) $$ HI
  icases HK with ⟨%K, #HI⟩
  ihave Htk := (toks_around (F := F)) $$ Htok
  iapply (with_persistent (R := Ctx m K) fun c _ => G'_intro m K c)
  isplitr
  · unfold Ctx; rw [bigSep_sep']
    isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c
      ∗ unscopedSems0 c ∗ G m c) : sProp 𝕄)
    ⊢ |={Set.univ}=> bigSep Finset.univ (G' m) :=
  BIBase.Entails.trans (BIBase.Entails.trans (bigSep_mono fun c _ => core_alloc m c) (bigSep_fupd _ _)) (BI.fupd_mono (regroup m))

/-! ## The credits -/

theorem owed_sum (l : List (Fin 3 × CellK)) (c : Dev nD) (k : CellK) :
    (∑ d : Dev nD, owe d l (kcell (c, k)) ()) = (l.countP fun p => decide (p.2 = k)) * amtK k := by
  induction l with
  | nil => rw [List.countP_nil, Nat.zero_mul]; exact Finset.sum_eq_zero fun d _ => rfl
  | cons p l ih =>
    have h (d : Dev nD) : owe d (p :: l) (kcell (c, k)) () = owe d l (kcell (c, k)) () + if d = pdev c p.1 then (if p.2 = k then amtK k else 0) else 0 := by
      show (owe d l + tallyAt (kcell (pdev d p.1, p.2)) () (amtK p.2)) (kcell (c, k)) () = _
      rw [Pi.add_apply, Finsupp.add_apply, tallyAt_apply]
      refine congrArg (owe d l (kcell (c, k)) () + ·) ?_
      by_cases hd : d = pdev c p.1
      · subst hd
        rw [pdev_pdev, if_pos rfl]
        by_cases hk : p.2 = k
        · rw [if_pos hk, hk, if_pos ⟨rfl, rfl⟩]
        · rw [if_neg hk, if_neg fun h => hk (congrArg Prod.snd (kcell_injective h.1)).symm]
      · rw [if_neg hd, if_neg fun h => hd (by
          have := congrArg Prod.fst (kcell_injective h.1)
          rw [show c = pdev d p.1 from this, pdev_pdev])]
    rw [Finset.sum_congr rfl fun d _ => h d, Finset.sum_add_distrib, ih, Finset.sum_ite_eq' Finset.univ (pdev c p.1) fun _ => if p.2 = k then amtK k else 0,
      if_pos (Finset.mem_univ _), List.countP_cons]
    by_cases hk : p.2 = k
    · simp only [hk, decide_true, if_true]; rw [Nat.add_mul, Nat.one_mul]
    · simp only [hk, decide_false, if_false]; simp

def O₀ (c : Dev nD) : CellTallies nD τ sig Unit := owe c oweAll

theorem launch_k (c : Dev nD) (k : CellK) :
    tallyOn (kcell (c, k)) (launchCredit (Pipeline.owing O₀) 0 (kcell (c, k)))
      = (tallyAt (kcell (c, k)) () ((oweAll.countP fun p => decide (p.2 = k)) * amtK k) : CellTallies nD τ sig Unit) := by
  unfold tallyAt; refine congrArg _ (Finsupp.ext fun u => ?_); cases u
  rw [Pipeline.launchCredit_owing, Finsupp.single_eq_same]
  exact owed_sum oweAll c k

set_option maxRecDepth 100000 in
theorem count_bar : (oweAll.countP fun p => decide (p.2 = kBar)) = 3 := by decide +kernel
set_option maxRecDepth 100000 in
theorem count_1 (ch : Fin 4) (r : Fin 3) : (oweAll.countP fun p => decide (p.2 = kX 1 ch r)) = 1 := by revert ch r; decide +kernel
set_option maxRecDepth 100000 in
theorem count_3 (ch : Fin 4) (r : Fin 3) : (oweAll.countP fun p => decide (p.2 = kX 3 ch r)) = 1 := by revert ch r; decide +kernel

/-- The credits device `c` has at launch. -/
def credAll (c : Dev nD) : sProp 𝕄 := iprop(cred (tallyAt (kcell (c, kBar)) () 3)
  ∗ bigSep Finset.univ fun r : Fin 3 => bigSep Finset.univ fun ch : Fin 4 =>
      iprop(cred (tallyAt (kcell (c, kX 1 ch r)) () NU) ∗ cred (tallyAt (kcell (c, kX 3 ch r)) () NL)))

theorem cred_pick (c : Dev nD) (ch : Fin 4) (r : Fin 3) :
    (bigSep Finset.univ fun a : Fin 4 => (cred (tallyAt (kcell (c, kX a ch r)) () ((oweAll.countP fun p => decide (p.2 = kX a ch r)) * amtK (kX a ch r))) : sProp 𝕄))
      ⊢ iprop(cred (tallyAt (kcell (c, kX 1 ch r)) () NU) ∗ cred (tallyAt (kcell (c, kX 3 ch r)) () NL)) := by
  rw [bigSep_fin4, count_1, count_3, Nat.one_mul, Nat.one_mul]
  iintro ⟨-, H1, -, H3⟩
  isplitl [H1]; · iexact H1
  iexact H3

theorem creds (c : Dev nD) : (Pipeline.launchCred O₀ c : sProp 𝕄) ⊢ credAll (F := F) c := by
  unfold Pipeline.launchCred
  refine BIBase.Entails.trans (BI.bigSep_subset (Finset.subset_univ (Finset.univ.map ⟨ksem, ksem_injective⟩))) ?_
  rw [BI.bigSep_map, cells_eq]
  unfold credAll
  refine BIBase.Entails.trans (Q := iprop(cred (tallyAt (kcell (c, kBar)) () ((oweAll.countP fun p => decide (p.2 = kBar)) * amtK kBar))
    ∗ bigSep Finset.univ fun r : Fin 3 => bigSep Finset.univ fun ch : Fin 4 => bigSep Finset.univ fun a : Fin 4 =>
      (cred (tallyAt (kcell (c, kX a ch r)) () ((oweAll.countP fun p => decide (p.2 = kX a ch r)) * amtK (kX a ch r))) : sProp 𝕄))) ?_ ?_
  · simp only [← launch_k]
    iintro ⟨H1, -, H3⟩
    isplitl [H1]; · iexact H1
    iexact H3
  · rw [count_bar]
    exact BIClass.sep_mono (BI.Entails.refl _) (bigSep_mono fun r _ => bigSep_mono fun ch _ => cred_pick c ch r)

end Cert.KernelIdeal.Hand

end
-- ==== Proof.KernelIdeal.Body.lean ====
module

public import proofs.«01_k».proof.Proof.KernelIdeal.Model
import Idealize.ShloMosaic.Lib.Pipeline.Regions

public section

set_option maxRecDepth 100000
set_option maxHeartbeats 4000000

noncomputable section

namespace Cert.KernelIdeal.Hand

open Idealize.ShloMosaic Idealize.SL.Sem
open Facts₀ Facts

variable {F : FTy → Type} [FloatOps F] [Named F]
variable [Facts]

theorem printed_eq (A : Args) : (printed A : P F) = .op .deviceId fun d => model A d := by
  chain_rfl

end Cert.KernelIdeal.Hand
end
-- ==== Proof.KernelIdeal.Launch.lean ====
/- The launch: the body's obligation at the pipeline's one point, and the run of the whole program from any memory with
   zero counters. -/
module

public import proofs.«01_k».proof.Proof.KernelIdeal.Ghost
public import proofs.«01_k».proof.Proof.KernelIdeal.Body
public import Idealize.ShloMosaic.Lib.Quiescent
public import Idealize.ShloMosaic.Lib.Pipeline.CollectiveSegs

@[expose] public section

noncomputable section

namespace Cert.KernelIdeal.Hand

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Into the body -/

/-- The scratch buffers, whole. -/
def scrBufs (c : Dev nD) : sProp 𝕄 :=
  iprop((∃ f, gPts (F := F) c 0 Finset.univ f) ∗ (∃ f, gPts (F := F) c 1 Finset.univ f)
    ∗ (∃ f, ePts (F := F) c 0 Finset.univ f) ∗ (∃ f, ePts (F := F) c 1 Finset.univ f) ∗ xBufs (F := F) c)

theorem resG_of (c : Dev nD) (r : Fin 3) : iprop(gTiles (F := F) c 0 r ∗ gTiles (F := F) c 1 r ∗ bigSep (Finset.range 352) fun t => dutyTok ER (kcell (c, kG r)) 0 t)
    ⊢ bigSep (Finset.Ico 0 352) fun i => resG (F := F) c r i := by
  unfold gTiles resG
  rw [← Finset.range_eq_Ico, bigSep_sep', bigSep_sep']
theorem resE_of (c : Dev nD) (s : Fin 2) : iprop(eTiles (F := F) c 0 s ∗ eTiles (F := F) c 1 s ∗ bigSep (Finset.range 32) fun t => dutyTok ER (kcell (c, kG (clsE s))) 0 (352 + t))
    ⊢ bigSep (Finset.Ico 0 32) fun i => resE (F := F) c s i := by
  unfold eTiles resE
  rw [← Finset.range_eq_Ico, bigSep_sep', bigSep_sep']

theorem toks_E (c : Dev nD) (s : Fin 2) : (bigSep (Finset.range (nG (clsE s))) fun t => dutyTok ER (kcell (c, kG (clsE s))) 0 t : sProp 𝕄)
    ⊢ iprop((bigSep (Finset.range 352) fun t => dutyTok ER (kcell (c, kG (clsE s))) 0 t)
      ∗ bigSep (Finset.range 32) fun t => dutyTok ER (kcell (c, kG (clsE s))) 0 (352 + t)) := by
  rw [clsE_nG, range_384, bigSep_union (by
    rw [Finset.disjoint_left]
    intro t h h'
    simp only [Finset.mem_range, Finset.mem_map, addLeftEmbedding_apply] at h h'
    obtain ⟨a, _, rfl⟩ := h'
    omega), BI.bigSep_map]
  exact BI.Entails.refl _

theorem toks_1 (c : Dev nD) : (bigSep (Finset.range (nG 1)) fun t => dutyTok ER (kcell (c, kG 1)) 0 t : sProp 𝕄)
    ⊢ iprop((bigSep (Finset.range 352) fun t => dutyTok ER (kcell (c, kG 1)) 0 t)
      ∗ bigSep (Finset.range 32) fun t => dutyTok ER (kcell (c, kG (clsE 1))) 0 (352 + t)) := toks_E c 1
theorem toks_2 (c : Dev nD) : (bigSep (Finset.range (nG 2)) fun t => dutyTok ER (kcell (c, kG 2)) 0 t : sProp 𝕄)
    ⊢ iprop((bigSep (Finset.range 352) fun t => dutyTok ER (kcell (c, kG 2)) 0 t)
      ∗ bigSep (Finset.range 32) fun t => dutyTok ER (kcell (c, kG (clsE 0))) 0 (352 + t)) := toks_E c 0

theorem cpRes_of (c : Dev nD) :
    iprop(srcs m c ∗ (∃ f, gPts (F := F) c 0 Finset.univ f) ∗ (∃ f, gPts (F := F) c 1 Finset.univ f)
      ∗ (∃ f, ePts (F := F) c 0 Finset.univ f) ∗ (∃ f, ePts (F := F) c 1 Finset.univ f)
      ∗ bigSep Finset.univ fun r : Fin 3 => bigSep (Finset.range (nG r)) fun t => dutyTok ER (kcell (c, kG r)) 0 t)
    ⊢ cpRes m c := by
  unfold cpRes
  rw [bigSep_fin3]
  iintro ⟨Hs, ⟨%f0, H0⟩, ⟨%f1, H1⟩, ⟨%f2, H2⟩, ⟨%f3, H3⟩, T0, T1, T2⟩
  ihave H0' := (gPts_tiles c 0 f0) $$ H0
  icases H0' with ⟨K0, K1, K2⟩
  ihave H1' := (gPts_tiles c 1 f1) $$ H1
  icases H1' with ⟨V0, V1, V2⟩
  ihave H2' := (ePts_tiles c 0 f2) $$ H2
  icases H2' with ⟨X0, X1⟩
  ihave H3' := (ePts_tiles c 1 f3) $$ H3
  icases H3' with ⟨Y0, Y1⟩
  ihave T1' := (toks_1 (F := F) c) $$ T1
  icases T1' with ⟨T1, E1⟩
  ihave T2' := (toks_2 (F := F) c) $$ T2
  icases T2' with ⟨T2, E2⟩
  isplitl [Hs]; · iexact Hs
  isplitl [K0 K1 K2 V0 V1 V2 T0 T1 T2]
  · isplitl [K0 V0 T0]
    · iapply (resG_of (F := F) c 0)
      isplitl [K0]; · iexact K0
      isplitl [V0]; · iexact V0
      iexact T0
    isplitl [K1 V1 T1]
    · iapply (resG_of (F := F) c 1)
      isplitl [K1]; · iexact K1
      isplitl [V1]; · iexact V1
      iexact T1
    · iapply (resG_of (F := F) c 2)
      isplitl [K2]; · iexact K2
      isplitl [V2]; · iexact V2
      iexact T2
  isplitl [X0 Y0 E2]
  · iapply (resE_of (F := F) c 0)
    isplitl [X0]; · iexact X0
    isplitl [Y0]; · iexact Y0
    iexact E2
  · iapply (resE_of (F := F) c 1)
    isplitl [X1]; · iexact X1
    isplitl [Y1]; · iexact Y1
    iexact E1

theorem sndAll_of (c : Dev nD) :
    iprop(slotsS (F := F) c ∗ bigSep Finset.univ fun r : Fin 3 => bigSep Finset.univ fun ch : Fin 4 =>
        iprop((dutyTok ER (kcell (c, kX 0 ch r)) 0 0 ∗ dutyTok ER (kcell (c, kX 2 ch r)) 0 0)
          ∗ (dutyTok ER (kcell (pdev c r, kX 1 ch r)) 0 0 ∗ dutyTok ER (kcell (pdev c r, kX 3 ch r)) 0 0)))
      ⊢ sndAll (F := F) c := by
  unfold slotsS sndAll sndRes
  rw [← bigSep_sep']
  refine bigSep_mono fun r _ => ?_
  rw [← bigSep_sep']
  exact BI.Entails.refl _

theorem rcAll_of (c : Dev nD) :
    iprop((bigSep Finset.univ fun r : Fin 3 => bigSep Finset.univ fun ch : Fin 4 =>
        iprop(cred (tallyAt (kcell (c, kX 1 ch r)) () NU) ∗ cred (tallyAt (kcell (c, kX 3 ch r)) () NL)))
      ∗ bigSep Finset.univ fun r : Fin 3 => bigSep Finset.univ fun ch : Fin 4 => bigSep Finset.univ fun a : Fin 4 => atPos ER (kcell (c, kX a ch r)) 0 ∅ 0)
      ⊢ rcAll (F := F) c := by
  unfold rcAll rcRes
  rw [← bigSep_sep']
  refine bigSep_mono fun r _ => ?_
  rw [← bigSep_sep']
  exact BI.Entails.refl _

/-- What the pipeline's point starts from, at some names of the cells. -/
def hand (c : Dev nD) : sProp 𝕄 :=
  iprop((bigSep Finset.univ fun k : CellK => atPos ER (kcell (c, k)) 0 ∅ 0) ∗ payToks (F := F) c ∗ credAll (F := F) c ∗ srcs m c ∗ scrBufs (F := F) c)

theorem bodyIn_of (c : Dev nD) :
    iprop(hand m c ∗ owesX (F := F) c oweAll ∗ (stX m c ∗ stWq m c ∗ stWo m c) ∗ outHas m c []) ⊢ bodyIn m c := by
  unfold hand payToks credAll scrBufs bodyIn barRes
  rw [cells_eq]
  iintro ⟨⟨⟨HaB, HaG, HaX⟩, ⟨TB, TG, TX⟩, ⟨CB, CX⟩, Hsrc, B0, B1, B2, B3, BX⟩, HO, Hst, Hout⟩
  ihave HS := (xBufs_cut (F := F) c) $$ BX
  icases HS with ⟨HS, HR⟩
  isplitl [HO]; · iexact HO
  isplitl [Hsrc B0 B1 B2 B3 TG]
  · iapply (cpRes_of m c)
    isplitl [Hsrc]; · iexact Hsrc
    isplitl [B0]; · iexact B0
    isplitl [B1]; · iexact B1
    isplitl [B2]; · iexact B2
    isplitl [B3]; · iexact B3
    iexact TG
  isplitl [TB HR CB HaB]
  · isplitl [TB]; · iexact TB
    isplitl [HR]; · unfold slotsR ownLand; iexact HR
    isplitl [CB]; · iexact CB
    iexact HaB
  isplitl [HS TX]
  · iapply (sndAll_of (F := F) c)
    isplitl [HS]; · iexact HS
    iexact TX
  isplitl [CX HaX]
  · iapply (rcAll_of (F := F) c)
    isplitl [CX]; · iexact CX
    iexact HaX
  isplitl [HaG]; · iexact HaG
  isplitl [Hst]; · iexact Hst
  iexact Hout

/-! ## Out of the body -/

theorem close_one (K : Dev nD × CellK → ℕ) (c : Dev nD) (k : CellK) :
    iprop(Ctx m K ∗ atPos ER (kcell (c, k)) 1 ∅ 0) ⊢ |={Set.univ}=> (semVal (kcell (c, k)) 0 : sProp 𝕄) := by
  iintro ⟨#HC, Hat⟩
  iapply (Rounds.cell_close ER (sched m) (Set.mem_univ (K (c, k))) (fun h => h) (R := 0 + 1) (duties_later m (kcell (c, k))))
  isplitr; · iapply (ctx_inv m K (c, k)); iexact HC
  iexact Hat

theorem close_all (K : Dev nD × CellK → ℕ) (c : Dev nD) :
    iprop(Ctx m K ∗ bigSep Finset.univ fun k : CellK => atPos ER (kcell (c, k)) 1 ∅ 0)
      ⊢ |={Set.univ}=> (bigSep Finset.univ fun k : CellK => semVal (kcell (c, k)) 0 : sProp 𝕄) :=
  BIBase.Entails.trans (with_persistent (R := Ctx m K) fun k _ => close_one m K c k) (bigSep_fupd _ _)

theorem done_split (c : Dev nD) : doneAll (F := F) c ⊢
    iprop((bigSep Finset.univ fun r : Fin 3 => bigSep Finset.univ fun ch : Fin 4 => bigSep Finset.univ fun a : Fin 4 => atPos ER (kcell (c, kX a ch r)) 1 ∅ 0)
      ∗ slotsS (F := F) c ∗ slotsR (F := F) c) := by
  unfold doneAll doneRes slotsS slotsR
  rw [← bigSep_sep', ← bigSep_sep']
  refine bigSep_mono fun r _ => ?_
  rw [← bigSep_sep', ← bigSep_sep']
  exact BI.Entails.refl _

/-- What the point leaves. -/
def PhiB (c : Dev nD) : sProp 𝕄 := iprop((bigSep Finset.univ fun k : CellK => semVal (kcell (c, k)) 0) ∗ scrBufs (F := F) c)

theorem bodyOut_to (K : Dev nD × CellK → ℕ) (c : Dev nD) :
    iprop(Ctx m K ∗ bodyOut m c) ⊢ |={Set.univ}=> iprop(PhiB (F := F) c ∗ owesX (F := F) c [] ∗ (stX m c ∗ stWq m c ∗ stWo m c)
      ∗ (((c : Thread nD τ).loc cc0_stg3_0) ↦{fullShare} (outC m c))) := by
  unfold bodyOut PhiB scrBufs
  rw [bigSep_sep']
  iintro ⟨#HC, HO, -, HaB, ⟨HaG, Hcls⟩, Hext, Hdone, Hst, Hout⟩
  ihave Hd := (done_split (F := F) c) $$ Hdone
  icases Hd with ⟨HaX, HS⟩
  ihave Hx := (xBufs_join (F := F) c) $$ HS
  ihave Hc := (cls_back m c) $$ Hcls
  icases Hc with ⟨H0, H1⟩
  ihave He := (ext_back m c) $$ Hext
  icases He with ⟨H2, H3⟩
  imod (close_all m K c) $$ [HaB HaG HaX] with Hz
  · isplitr; · iexact HC
    rw [cells_eq]
    isplitl [HaB]; · iexact HaB
    isplitl [HaG]; · iexact HaG
    iexact HaX
  imodintro
  isplitl [Hz H0 H1 H2 H3 Hx]
  · isplitl [Hz]; · iexact Hz
    isplitl [H0]; · iexists _; iexact H0
    isplitl [H1]; · iexists _; iexact H1
    isplitl [H2]; · iexists _; iexact H2
    isplitl [H3]; · iexists _; iexact H3
    iexact Hx
  isplitl [HO]; · iexact HO
  isplitl [Hst]; · iexact Hst
  iexact Hout

/-! ## The proof data -/

def opening (c : Dev nD) : sProp 𝕄 := iprop(G' m c ∗ credAll (F := F) c ∗ levAts L lv ∗ srcs m c)
def PhiA (c : Dev nD) : sProp 𝕄 := iprop(opening m c ∗ scrBufs (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m c
    | ⟨1, _⟩ => wqst m c
    | ⟨2, _⟩ => wost m c
    | ⟨3, _⟩ => outC m c
  Φ t := match t with
    | ⟨0, _⟩ => PhiA m c
    | ⟨_ + 1, _⟩ => PhiB (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(PhiA m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(PhiB (F := F) c ∗ (dats m ρ 0 c).owesAt () t0_0.succ
    ∗ stg c cc0_stg0_0 (xst m c) ∗ stg c cc0_stg1_0 (wqst m c) ∗ stg c cc0_stg2_0 (wost m c) ∗ stg c cc0_stg3_0 (outC m c))

theorem post_of (c : Dev nD) : iprop(PhiB (F := F) c ∗ owesX (F := F) c [] ∗ (stX m c ∗ stWq m c ∗ stWo m c)
      ∗ (((c : Thread nD τ).loc cc0_stg3_0) ↦{fullShare} (outC m c))) ⊢ bodyPost m ρ c := by
  unfold bodyPost owesX stX stWq stWo Dat.owesAt Pipeline.owesWithin
  rw [show (dats m ρ 0 c).owed t0_0.succ = 0 from rfl]
  iintro ⟨HP, ⟨%W, HO⟩, ⟨HX, HQ, HW⟩, Hout⟩
  isplitl [HP]; · iexact HP
  isplitl [HO]
  · iexists W
    isplitr; · ipureintro; exact fun _ _ => Or.inl trivial
    iexact HO
  isplitl [HX]
  · iexists _; isplitr; · (ipureintro; rfl)
    iexact HX
  isplitl [HQ]
  · iexists _; isplitr; · (ipureintro; rfl)
    iexact HQ
  isplitl [HW]
  · iexists _; isplitr; · (ipureintro; rfl)
    iexact HW
  iexists _; isplitr; · (ipureintro; rfl)
  iexact Hout

theorem pre_to (c : Dev nD) : bodyPre m ρ c ⊢
    iprop((∃ K, Ctx m K) ∗ levAts L lv ∗ bodyIn m c) := by
  unfold bodyPre PhiA opening G' Dat.owesAt Pipeline.owesWithin
  rw [show (dats m ρ 0 c).owed t0_0.castSucc = O₀ c from rfl]
  iintro ⟨⟨⟨⟨HK, Hat, Htok⟩, Hcr, Hlev, Hsrc⟩, Hscr⟩, ⟨%W, %hW, HO⟩, ⟨%d0, %g0, %hg0, HX⟩, ⟨%d1, %g1, %hg1, HQ⟩, ⟨%d2, %g2, %hg2, HW⟩, ⟨%d3, %g3, %hg3, Hout⟩⟩
  have hx : g0 = xst m c := by rw [hg0]; unfold Dat.before; rw [if_pos (fetch0_0 t0_0)]; rfl
  have hq : g1 = wqst m c := by rw [hg1]; unfold Dat.before; rw [if_pos (fetch0_1 t0_0)]; rfl
  have hw : g2 = wost m c := by rw [hg2]; unfold Dat.before; rw [if_pos (fetch0_2 t0_0)]; rfl
  subst hx hq hw
  isplitl [HK]; · iexact HK
  isplitl [Hlev]; · iexact Hlev
  iapply (bodyIn_of m c)
  unfold hand
  isplitl [Hat Htok Hcr Hsrc Hscr]
  · isplitl [Hat]; · iexact Hat
    isplitl [Htok]; · iexact Htok
    isplitl [Hcr]; · iexact Hcr
    isplitl [Hsrc]; · iexact Hsrc
    iexact Hscr
  isplitl [HO]; · unfold owesX; iexists W; iexact HO
  isplitl [HX HQ HW]
  · unfold stX stWq stWo
    isplitl [HX]; · iexact HX
    isplitl [HQ]; · iexact HQ
    iexact HW
  unfold outHas
  iexists g3
  isplitr; · ipureintro; intro ch h; exact absurd h (List.not_mem_nil)
  iexact Hout

theorem sound_body (c : Dev nD) : bodyPre m ρ c ⊢ WP c (printed A0) (fun _ => bodyPost m ρ c) := by
  rw [printed_eq]
  unfold WP
  rw [wp_deviceId]
  iintro H
  ihave H' := (pre_to m ρ c) $$ H
  icases H' with ⟨⟨%K, #HC⟩, #Hlev, Hin⟩
  iapply (walk m K c (fun _ => bodyPost m ρ c)) $$ [Hin]
  · isplitr
    · isplitr; · iexact HC
      iexact Hlev
    iexact Hin
  iintro Hout
  imod (bodyOut_to m K c) $$ [Hout] with Hp
  · isplitr; · iexact HC
    iexact Hout
  rw [wp_ret]
  imodintro
  iapply (post_of m ρ c)
  iexact Hp

theorem defs_at : defs₀ (F := F) Proc.tc 0 (t0_0, cfg0.slots t0_0) = bodyAt0 t0_0 := rfl

/-- The obligation for any program the table's row is, so that nothing looks inside the program. -/
theorem obligation_of (c : Dev nD) (p : P F) (h : bodyPre m ρ c ⊢ WP c p (fun _ => bodyPost m ρ c))
    (hd : defs₀ (F := F) Proc.tc 0 (t0_0, cfg0.slots t0_0) = p) :
    BodyObligation (dats (F := F) m ρ 0 c) (defs₀ (F := F)) 𝒱₀ () Set.univ := fun t => by
  rw [show t = t0_0 from fin_N0 t]
  rw [bigSep_W0, bigSep_W0]
  simp only [owns_whole_eq]
  rw [hd]
  refine BIBase.Entails.trans (Q := bodyPre m ρ c) (BI.Entails.refl _) ?_
  refine BIBase.Entails.trans h (Entails.of_eq ?_)
  unfold WP
  congr 1

theorem body_obligation (c : Dev nD) : BodyObligation (dats (F := F) m ρ 0 c) (defs₀ (F := F)) 𝒱₀ () Set.univ :=
  obligation_of m ρ c (printed A0) (sound_body m ρ c) (defs_at.trans bodyAt_eq)

/-! ## The launch -/

set_option maxRecDepth 100000 in
theorem ownSemFacts : Pipeline.OwnSemFacts cfg0.spec osem := by decide +kernel
theorem share_eq (c : Dev nD) (w : Fin cfg0.W) : (dats m ρ 0 c).share w = fullShare := by unfold Dat.share; split <;> rfl

/-- The halves of the keys and values the body does not take. -/
def Z (c : Dev nD) : sProp 𝕄 :=
  iprop((((c : Thread nD τ).loc main_arg2) ↦{fullShare.left} m ((c : Thread nD τ).loc main_arg2))
    ∗ (((c : Thread nD τ).loc main_arg3) ↦{fullShare.left} m ((c : Thread nD τ).loc main_arg3)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(opening m c ∗ Z m c) := by
  rw [Pipeline.unscopedRestP_none]
  iintro ⟨Hr, Hlev, Hcr, -, HG⟩
  ihave Hr' := (Entails.of_eq (unscopedRest0_eq c fun b => m ((c : Thread nD τ).loc b))) $$ Hr
  icases Hr' with ⟨H2, H3⟩
  ihave H2' := (pointsTo_share (PosShare.mem_left_op_right fullShare)).1 $$ H2
  icases H2' with ⟨H2, H2r⟩
  ihave H3' := (pointsTo_share (PosShare.mem_left_op_right fullShare)).1 $$ H3
  icases H3' with ⟨H3, H3r⟩
  ihave Hc := (creds (F := F) c) $$ Hcr
  imodintro
  unfold opening Z srcs src
  isplitl [HG Hc Hlev H2r H3r]
  · isplitl [HG]; · iexact HG
    isplitl [Hc]; · iexact Hc
    isplitl [Hlev]; · iexact Hlev
    isplitl [H2r]
    · iexists _; iexact H2r
    · iexists _; iexact H3r
  isplitl [H2]; · iexact H2
  iexact H3

theorem phi0_intro (c : Dev nD) :
    iprop(opening m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = PhiA m c from rfl]
  unfold PhiA
  iintro ⟨Hs, -, Hr⟩
  ihave Hr' := (Entails.of_eq (scopedRest0_eq c)) $$ Hr
  icases Hr' with ⟨H0, H1, H2, H3, HX⟩
  isplitl [Hs]; · iexact Hs
  unfold scrBufs xBufs gPts ePts
  isplitl [H0]; · iexact H0
  isplitl [H1]; · iexact H1
  isplitl [H2]; · iexact H2
  isplitl [H3]; · iexact H3
  iexact HX

theorem sems0_back (c : Dev nD) : (bigSep Finset.univ fun k : CellK => semVal (kcell (c, k)) 0 : sProp 𝕄) ⊢
    iprop(unscopedSems0 c ∗ Pipeline.ownSems0 (Ix := Unit) (Name := ℕ) (U := UU) (Lvl := ℕ) (Val := Elt F) (τ := τ) osem c) := by
  rw [bigSep_univ_sum, bigSep_univ_eq_bigSepL [()] (by decide) (by decide) (fun u : Unit => semVal (kcell (c, .inl u)) 0)]
  unfold Pipeline.ownSems0 unscopedSems0
  rw [bigSep_eq_bigSepL_of_eq [SemLoc.reg barS] (by decide) (by decide)]
  exact BI.Entails.refl _

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = PhiB (F := F) c from rfl]
  unfold PhiB
  iintro ⟨Hz, Hs⟩
  ihave Hz' := (sems0_back (F := F) c) $$ Hz
  icases Hz' with ⟨HB, HO⟩
  isplitl [HB]; · iexact HB
  isplitl [HO]; · iexact HO
  iapply (Entails.of_eq (scopedRest0_eq c).symm)
  unfold scrBufs xBufs gPts ePts
  icases Hs with ⟨H0, H1, H2, H3, HX⟩
  isplitl [H0]; · iexact H0
  isplitl [H1]; · iexact H1
  isplitl [H2]; · iexact H2
  isplitl [H3]; · iexact H3
  iexact HX

theorem oweAll_lv : ∀ p ∈ oweAll, 0 < lvK p.2 := by decide

set_option maxRecDepth 100000 in
theorem stage_lv (w : Fin cfg0.W) (s : Fin (cfg0.win w).nbuf) : decode (.dma ((cfg0.win w).sem s)) = none := by
  fin_cases w <;> fin_cases s <;> decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait c _ oweAll fun p hp => ?_
      show (match decode _ with | some k => lvK k | none => 0) < lvK p.2
      rw [show decode _ = none from stage_lv w s]
      exact oweAll_lv p hp
    · show (levAts L lv : sProp 𝕄) ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)
    ∧ r.2.mem ((c : Thread nD τ).loc main_arg3) = m ((c : Thread nD τ).loc main_arg3)

theorem exit_read (c : Dev nD) (s' : Phys nD τ sig (Elt F)) :
    iprop(unscopedSems0 c ∗ Z m c ∗ SI s') ⊢ |={Set.univ}=> iprop(⌜(∀ sm : SemLoc sig, sm.isScoped .tc = false → s'.mem.sem ((c.tc : Thread nD τ), sm) = 0)
      ∧ s'.mem.mem ((c : Thread nD τ).loc main_arg2) = m ((c : Thread nD τ).loc main_arg2)
      ∧ s'.mem.mem ((c : Thread nD τ).loc main_arg3) = m ((c : Thread nD τ).loc main_arg3)⌝ ∗ (SI s' : sProp 𝕄)) := by
  unfold Z
  iintro ⟨Hu, ⟨H2, H3⟩, HSI⟩
  icombine HSI H2 gives %h2
  icombine HSI H3 gives %h3
  imod (Pipeline.unscopedSems0_read (X := unscopedSems0 c) (c := c) fupd_intro s') $$ [Hu HSI] with ⟨%h, HSI⟩
  · isplitl [Hu] <;> iassumption
  imodintro
  isplitr
  · ipureintro
    exact ⟨h, Buf.eq_of_forall_mem_univ h2, Buf.eq_of_forall_mem_univ h3⟩
  iexact HSI

theorem block_pos (w : Fin cfg0.W) : 0 < (cfg0.spec w).block.numel := by
  fin_cases w <;> decide +kernel

theorem main_eq (c : Dev nD) : main (F := F) c = .op (.customCall (Pipeline.entry (0 : Fin 1)) ()) fun _ => .ret ⟨⟩ := rfl

set_option maxRecDepth 10000 in
/-- From any memory with zero counters every weakly fair execution of @main terminates, each window's array ends at the
    contents the proof data say, the keys and values are unchanged and every semaphore counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := main_eq)
    (hbody := fun c => (body_obligation m ρ c).loose)
    (hne := block_pos) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := opening m) (Y := fun c => unscopedSems0 c) (Z := Z m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := exit_read m)
    (hQ := fun _ h hs => ⟨fun c => ⟨fun w => (h c).1 w, (h c).2.2.2⟩, sem_eq_zero hs fun c => (h c).2.2.1⟩)

/-- The arguments' buffers on device `c` hold what they held. -/
def Kept (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

/-- The run's end: the result's array at what the one point's block leaves of it, the arguments kept, every counter zero. -/
theorem run_kept : θ_run defs (onTc (τ := τ) (main (F := F))) ⟨m, fun _ => 0, ρ⟩ (fun r =>
    (∀ c : Dev nD, r.2.mem ((c : Thread nD τ).loc main_v1) = finalA m ρ c (3 : Fin 4) ∧ Kept m r.2 c) ∧ r.2.sem = fun _ => 0) :=
  (θ_run defs _ _).mono (fun r h => ⟨fun c => ⟨(h.1 c).1 (3 : Fin 4),
      ((h.1 c).1 (0 : Fin 4)).trans ((dats m ρ 0 c).arrAt_in (0 : Fin 4) rfl _),
      ((h.1 c).1 (1 : Fin 4)).trans ((dats m ρ 0 c).arrAt_in (1 : Fin 4) rfl _),
      (h.1 c).2.1, (h.1 c).2.2,
      ((h.1 c).1 (2 : Fin 4)).trans ((dats m ρ 0 c).arrAt_in (2 : Fin 4) rfl _)⟩, h.2⟩) (run_main m ρ)

end Cert.KernelIdeal.Hand

end
-- ==== Proof.Value.Sums.lean ====
/- Which keys the kernel adds up. Each device reads, per class, 22 of its 64 blocks of keys, and device 0 two more for
   the two middle chunks of queries; together these are the blocks the mask keeps, each once. -/
module

public import Mathlib.Algebra.BigOperators.Fin
public import Mathlib.Tactic.IntervalCases
public import Idealize.ShloMosaic.Lib.Pointwise.Sums

@[expose] public section

namespace Cert.Value

open Idealize.ShloMosaic
open scoped BigOperators

/-- The mask: block `qb` of queries reads block `kb` of keys. -/
abbrev Kept (qb kb : ℕ) : Prop := qb = kb ∨ kb = 0 ∨ (qb + kb) % 3 = 0

/-- The class of chunk `ch`. -/
def clsOf (ch : Fin 4) : Fin 3 := ![0, 2, 1, 0] ch

/-- Block `j` of class `r` on device `c`: every third block from the first whose number, added to `64 * c`, is `r`
    modulo 3; the last is cut to the device's blocks. -/
def blkOf (c : Fin 8) (r : Fin 3) (j : Fin 22) : Fin 64 := ⟨min ((r.val + 3 - c.val % 3) % 3 + 3 * j.val) 63, by omega⟩

/-- Block `j` of class `r` counts on device `c`: the last does only if it was not cut. -/
abbrev Counts (c : Fin 8) (r : Fin 3) (j : ℕ) : Prop := r.val = c.val % 3 ∨ j < 21

/-- The further blocks of chunk `ch` on device `c`. -/
def further (c : Fin 8) (ch : Fin 4) : Finset (Fin 64) := if c = 0 ∧ (ch = 1 ∨ ch = 2) then {0, ch.castLE (by decide)} else ∅

set_option maxRecDepth 100000 in
theorem blkOf_inj (c : Fin 8) (r : Fin 3) (j j' : Fin 22) (h : Counts c r j.val) (h' : Counts c r j'.val)
    (e : blkOf c r j = blkOf c r j') : j = j' := by
  have e' := congrArg Fin.val e
  simp only [blkOf] at e'
  unfold Counts at h h'
  apply Fin.ext
  omega

set_option maxRecDepth 100000 in
theorem kept_blocks : ∀ (c : Fin 8) (ch : Fin 4), (Finset.univ.filter fun b : Fin 64 => Kept ch.val (64 * c.val + b.val))
    = ((Finset.univ.filter fun j : Fin 22 => Counts c (clsOf ch) j.val).image (blkOf c (clsOf ch))) ∪ further c ch := by
  decide +kernel

set_option maxRecDepth 100000 in
theorem kept_disjoint : ∀ (c : Fin 8) (ch : Fin 4),
    Disjoint ((Finset.univ.filter fun j : Fin 22 => Counts c (clsOf ch) j.val).image (blkOf c (clsOf ch))) (further c ch) := by
  decide +kernel

variable {M : Type*} [AddCommMonoid M]

/-- On one device, block by block: the blocks the mask keeps are the counted blocks of the class and the further ones. -/
theorem sum_blocks (c : Fin 8) (ch : Fin 4) (g : Fin 64 → M) :
    ∑ b : Fin 64, (if Kept ch.val (64 * c.val + b.val) then g b else 0)
      = (∑ j : Fin 22, if Counts c (clsOf ch) j.val then g (blkOf c (clsOf ch) j) else 0) + ∑ b ∈ further c ch, g b := by
  rw [← Finset.sum_filter, kept_blocks, Finset.sum_union (kept_disjoint c ch), Finset.sum_image, Finset.sum_filter]
  intro j hj j' hj' e
  exact blkOf_inj c _ j j' (Finset.mem_filter.1 hj).2 (Finset.mem_filter.1 hj').2 e

/-- The key that slot `n` of class `r` holds on device `c`. -/
def slotKey (c : Fin 8) (r : Fin 3) (n : Fin 1408) : Fin 4096 :=
  ⟨64 * (blkOf c r ⟨n.val / 64, by omega⟩).val + n.val % 64, by have := (blkOf c r ⟨n.val / 64, by omega⟩).isLt; omega⟩

/-- The key that place `n` of the extra slot `s` holds. -/
def extraKey (s : Fin 2) (n : Fin 128) : Fin 4096 :=
  ⟨64 * ((s.val + 1) * (n.val / 64)) + n.val % 64, by
    have h : (s.val + 1) * (n.val / 64) ≤ 2 * 1 := Nat.mul_le_mul (by omega) (by omega)
    omega⟩

/-- A sum over a device's keys, block by block. -/
theorem sum_keys (g : Fin 4096 → M) :
    ∑ k : Fin 4096, g k = ∑ b : Fin 64, ∑ t : Fin 64, g ⟨64 * b.val + t.val, by omega⟩ := by
  rw [Fin.sum_univ_tiles 64 64 rfl g]
  refine Finset.sum_congr rfl fun b _ => Finset.sum_congr rfl fun t _ => congrArg g (Fin.ext ?_)
  simp only; omega

/-- The kept keys of one device, as sums over blocks. -/
theorem sum_kept (c : Fin 8) (ch : Fin 4) (g : Fin 4096 → M) :
    ∑ k : Fin 4096, (if Kept ch.val (64 * c.val + k.val / 64) then g k else 0)
      = ∑ b : Fin 64, (if Kept ch.val (64 * c.val + b.val) then ∑ t : Fin 64, g ⟨64 * b.val + t.val, by omega⟩ else 0) := by
  rw [sum_keys]
  refine Finset.sum_congr rfl fun b _ => ?_
  have : ∀ t : Fin 64, (64 * b.val + t.val) / 64 = b.val := fun t => by omega
  simp only [this]
  split
  · rfl
  · exact Finset.sum_const_zero

/-- The counted slots of a class, as sums over blocks. -/
theorem sum_slots (c : Fin 8) (r : Fin 3) (g : Fin 4096 → M) :
    ∑ n : Fin 1408, (if r.val = c.val % 3 ∨ n.val < 1344 then g (slotKey c r n) else 0)
      = ∑ j : Fin 22, (if Counts c r j.val then ∑ t : Fin 64, g ⟨64 * (blkOf c r j).val + t.val, by omega⟩ else 0) := by
  rw [Fin.sum_univ_tiles 22 64 rfl]
  refine Finset.sum_congr rfl fun j _ => ?_
  have e1 : ∀ t : Fin 64, (j.val * 64 + t.val < 1344) = (j.val < 21) := fun t => by
    apply propext; omega
  have e2 : ∀ (t : Fin 64) (h : j.val * 64 + t.val < 1408), slotKey c r ⟨j.val * 64 + t.val, h⟩ = ⟨64 * (blkOf c r j).val + t.val, by omega⟩ := fun t h => by
    have hq : (⟨(j.val * 64 + t.val) / 64, by omega⟩ : Fin 22) = j := Fin.ext (by simp only; omega)
    apply Fin.ext
    simp only [slotKey, hq]
    omega
  simp only [e1, e2]
  by_cases h : Counts c r j.val
  · simp only [if_pos h]
  · simp only [if_neg h]; exact Finset.sum_const_zero

/-- The extra slot's places, as sums over its two blocks. -/
theorem sum_extra (s : Fin 2) (g : Fin 4096 → M) :
    ∑ n : Fin 128, g (extraKey s n)
      = (∑ t : Fin 64, g ⟨t.val, by omega⟩) + ∑ t : Fin 64, g ⟨64 * (s.val + 1) + t.val, by omega⟩ := by
  rw [Fin.sum_univ_two_halves 64 64 rfl]
  refine congrArg₂ (· + ·) (Finset.sum_congr rfl fun t _ => congrArg g (Fin.ext ?_))
    (Finset.sum_congr rfl fun t _ => congrArg g (Fin.ext ?_))
  · show 64 * ((s.val + 1) * (t.val / 64)) + t.val % 64 = t.val
    rw [show t.val / 64 = 0 by omega]; omega
  · show 64 * ((s.val + 1) * ((64 + t.val) / 64)) + (64 + t.val) % 64 = 64 * (s.val + 1) + t.val
    rw [show (64 + t.val) / 64 = 1 by omega]; omega

/-- Chunks 0 and 3: the counted slots of the class are the kept keys of the device. -/
theorem kept_outer (c : Fin 8) (ch : Fin 4) (hch : ch = 0 ∨ ch = 3) (g : Fin 4096 → M) :
    ∑ n : Fin 1408, (if (clsOf ch).val = c.val % 3 ∨ n.val < 1344 then g (slotKey c (clsOf ch) n) else 0)
      = ∑ k : Fin 4096, (if Kept ch.val (64 * c.val + k.val / 64) then g k else 0) := by
  rw [sum_kept, sum_blocks c ch fun b => ∑ t : Fin 64, g ⟨64 * b.val + t.val, by omega⟩, sum_slots]
  have : further c ch = ∅ := if_neg (by rcases hch with rfl | rfl <;> simp <;> decide)
  rw [this, Finset.sum_empty, add_zero]

/-- Chunks 1 and 2: the counted slots of the class and, on device 0, the extra slot are the kept keys of the device. -/
theorem kept_inner (c : Fin 8) (ch : Fin 4) (s : Fin 2) (hs : ch.val = s.val + 1) (g : Fin 4096 → M) :
    (∑ n : Fin 1408, (if (clsOf ch).val = c.val % 3 ∨ n.val < 1344 then g (slotKey c (clsOf ch) n) else 0))
        + ∑ n : Fin 128, (if c = 0 then g (extraKey s n) else 0)
      = ∑ k : Fin 4096, (if Kept ch.val (64 * c.val + k.val / 64) then g k else 0) := by
  rw [sum_kept, sum_blocks c ch fun b => ∑ t : Fin 64, g ⟨64 * b.val + t.val, by omega⟩, sum_slots]
  congr 1
  have hch : ch = 1 ∨ ch = 2 := by
    have := s.isLt
    rcases Nat.lt_or_ge s.val 1 with h | h
    · exact Or.inl (Fin.ext (by simp only [hs]; simp; omega))
    · exact Or.inr (Fin.ext (by simp only [hs]; simp; omega))
  by_cases hc : c = 0
  · have hne : (0 : Fin 64) ≠ ch.castLE (by decide) := fun h => by
      have := congrArg Fin.val h; simp at this; omega
    have hv : (ch.castLE (by decide : 4 ≤ 64)).val = s.val + 1 := hs
    rw [show further c ch = {0, ch.castLE (by decide)} from if_pos ⟨hc, hch⟩, Finset.sum_pair hne]
    simp only [if_pos hc]
    rw [sum_extra]
    refine congrArg₂ (· + ·) (Finset.sum_congr rfl fun t _ => congrArg g (Fin.ext ?_))
      (Finset.sum_congr rfl fun t _ => congrArg g (Fin.ext ?_))
    · simp
    · simp only [hv]
  · rw [show further c ch = ∅ from if_neg fun h => hc h.1, Finset.sum_empty]
    simp only [if_neg hc]
    exact Finset.sum_const_zero

/-- A sum over all keys, device by device. -/
theorem sum_devices (f : Fin 32768 → M) :
    ∑ j : Fin 32768, f j = ∑ c : Fin 8, ∑ k : Fin 4096, f ⟨4096 * c.val + k.val, by omega⟩ := by
  rw [Fin.sum_univ_tiles 8 4096 rfl f]
  refine Finset.sum_congr rfl fun c _ => Finset.sum_congr rfl fun k _ => congrArg f (Fin.ext ?_)
  simp only; omega

/-- The kept keys among all are, device by device, the kept keys of each. -/
theorem sum_all (ch : Fin 4) (f : Fin 32768 → M) :
    ∑ j : Fin 32768, (if Kept ch.val (j.val / 64) then f j else 0)
      = ∑ c : Fin 8, ∑ k : Fin 4096,
          (if Kept ch.val (64 * c.val + k.val / 64) then f ⟨4096 * c.val + k.val, by omega⟩ else 0) := by
  rw [sum_devices]
  refine Finset.sum_congr rfl fun c _ => Finset.sum_congr rfl fun k _ => ?_
  have : (4096 * c.val + k.val) / 64 = 64 * c.val + k.val / 64 := by omega
  simp only [this]

end Cert.Value
-- ==== Proof.KernelIdeal.ValueOps.lean ====
/- The pure operations of the kernel's body, read at an index over the extended reals. -/
module

public import proofs.«01_k».proof.Proof.KernelIdeal.Spec
public import proofs.«01_k».proof.Proof.Value.Sums
public import Idealize.ShloMosaic.Lib.Pointwise
public import Idealize.ShloMosaic.Lib.Pipeline.Value

@[expose] public section

noncomputable section

namespace Cert.KernelIdeal.Hand

open Cert.KernelIdeal.Gen
open Idealize.ShloMosaic Idealize.SL.Sem
open scoped BigOperators

/-- Lane `d` of head `h`. -/
def lane (h : Fin 8) (d : Fin 128) : Fin 1024 := ⟨128 * h.val + d.val, by omega⟩

/-- The scale of the queries, as the extended real that its name denotes. -/
def s2 : EReal := (((11863283 / 134217728) * (Real.log 2)⁻¹ : ℝ) : EReal)

theorem scaleC_eq : (scaleC : Ideal .f32) = s2 := rfl

theorem maskC_eq : (maskC : Ideal .f32) = ⊥ := rfl

/-- The queries: the projection, scaled. -/
theorem qAll_at (xv : Vec Ideal S1x256x1024 .f32) (wv : Vec Ideal S1024x1024 .f32) (i : Fin 256) (n : Fin 1024) :
    qAll xv wv (ix2 i n) = (∑ k : Fin 1024, xv (ix3 0 i k) * wv (ix2 k n)) * s2 := by
  pointwise [qAll]
  rfl

/-- The weights of 128 rows against a class's keys. -/
theorem w128_at (q : FVec Ideal S128x1024 .bf16) (b : FVec Ideal S1x1408 .bf16) (h : Fin 8) (kv : Vec Ideal S1x1408x128 .f32)
    (t : Fin 128) (n : Fin 1408) :
    w128 q b h kv (ix2 t n) = Ideal.exp2 ((∑ d : Fin 128, q (ix2 t (lane h d)) * kv (ix3 0 n d)) + b (ix2 0 n)) := by
  pointwise [w128, lane]
  rfl

/-- The weighted values of 128 rows. -/
theorem u128_at (w : FVec Ideal S128x1408 .bf16) (vv : Vec Ideal S1x1408x128 .f32) (t d : Fin 128) :
    u128 w vv (ix2 t d) = ∑ n : Fin 1408, w (ix2 t n) * vv (ix3 0 n d) := by
  pointwise [u128]

/-- The sums of the weights of 128 rows. -/
theorem l128_at (w : FVec Ideal S128x1408 .bf16) (t : Fin 128) : l128 w (ix2 t 0) = ∑ n : Fin 1408, w (ix2 t n) := by
  pointwise [l128]

/-- The weights of 64 rows against a class's keys. -/
theorem w64_at (q : FVec Ideal S64x1024 .bf16) (b : FVec Ideal S1x1408 .bf16) (h : Fin 8) (kv : Vec Ideal S1x1408x128 .f32)
    (t : Fin 64) (n : Fin 1408) :
    w64 q b h kv (ix2 t n) = Ideal.exp2 ((∑ d : Fin 128, q (ix2 t (lane h d)) * kv (ix3 0 n d)) + b (ix2 0 n)) := by
  pointwise [w64, lane]
  rfl

/-- The weights of 64 rows against the extra keys. -/
theorem wE_at (q : FVec Ideal S64x1024 .bf16) (b : Ideal .bf16) (h : Fin 8) (kv : Vec Ideal S1x128x128 .f32)
    (t : Fin 64) (n : Fin 128) :
    wE q b h kv (ix2 t n) = Ideal.exp2 ((∑ d : Fin 128, q (ix2 t (lane h d)) * kv (ix3 0 n d)) + b) := by
  pointwise [wE, lane]
  rfl

/-- The weighted values of 64 rows: the gathered ones and the extra ones. -/
theorem u64_at (w : FVec Ideal S64x1408 .bf16) (vv : Vec Ideal S1x1408x128 .f32) (e : FVec Ideal S64x128 .bf16)
    (ve : Vec Ideal S1x128x128 .f32) (t : Fin 64) (d : Fin 128) :
    u64 w vv e ve (ix2 t d)
      = (∑ n : Fin 1408, w (ix2 t n) * vv (ix3 0 n d)) + ∑ n : Fin 128, e (ix2 t n) * ve (ix3 0 n d) := by
  pointwise [u64]

/-- The sums of the weights of 64 rows. -/
theorem l64_at (w : FVec Ideal S64x1408 .bf16) (e : FVec Ideal S64x128 .bf16) (t : Fin 64) :
    l64 w e (ix2 t 0) = (∑ n : Fin 1408, w (ix2 t n)) + ∑ n : Fin 128, e (ix2 t n) := by
  pointwise [l64]

/-- The queries of chunks 0 and 3. -/
theorem q0_at (q : FVec Ideal S256x1024 .bf16) (t : Fin 128) (n : Fin 1024) :
    q0 q (ix2 t n) = q (ix2 (⟨if t.val < 64 then t.val else t.val + 128, by split <;> omega⟩ : Fin 256) n) := by
  pointwise [q0]
  split
  · rfl
  · exact congrArg (fun j => q (ix2 j n)) (Fin.ext (by simp only; omega))

/-- The queries of chunks 1 and 2. -/
theorem qX_at (q : FVec Ideal S256x1024 .bf16) (s : Fin 2) (t : Fin 64) (n : Fin 1024) :
    qX q s (ix2 t n) = q (ix2 (⟨64 * (s.val + 1) + t.val, by omega⟩ : Fin 256) n) := by
  match s with
  | 0 => pointwise [qX]
  | 1 => pointwise [qX]

/-- Eight heads side by side: lane `e` is lane `e % 128` of head `e / 128`. -/
theorem catU_at (u : Fin 8 → FVec Ideal S64x128 .f32) (t : Fin 64) (h : Fin 8) (d : Fin 128) :
    catU u (ix2 t (lane h d)) = u h (ix2 t d) := by
  refine concatenate_ofFn_apply (s₁ := S64x128) (1 : Fin S64x1024.rank) u _ rfl 128 rfl (ix2 t (lane h d)) h ?_ (ix2 t d) ?_ ?_
  · show (128 * h.val + d.val) / 128 = h.val; omega
  · show d.val = (128 * h.val + d.val) % 128; omega
  · intro b hb
    match b with
    | ⟨0, _⟩ => rfl
    | ⟨1, _⟩ => exact absurd rfl hb

theorem catL_at (l : Fin 8 → FVec Ideal S64x1 .f32) (t : Fin 64) (h : Fin 8) :
    catL l (ix2 t h) = l h (ix2 t 0) := by
  refine concatenate_ofFn_apply (s₁ := S64x1) (1 : Fin S64x8.rank) l _ rfl 1 rfl (ix2 t h) h ?_ (ix2 t 0) ?_ ?_
  · show h.val / 1 = h.val; omega
  · show 0 = h.val % 1; omega
  · intro b hb
    match b with
    | ⟨0, _⟩ => rfl
    | ⟨1, _⟩ => exact absurd rfl hb

/-- One head of the attention's result. -/
theorem ctxH_at (u : FVec Ideal S64x1024 .f32) (l : FVec Ideal S64x8 .f32) (h : Fin 8) (t : Fin 64) (d : Fin 128) :
    ctxH u l h (ix2 t d) = Ideal.div (u (ix2 t (lane h d))) (l (ix2 t h)) := by
  pointwise [ctxH, lane]

/-- The head and the lane within it of a lane. -/
def headOf (e : Fin 1024) : Fin 8 := ⟨e.val / 128, by omega⟩
def laneOf (e : Fin 1024) : Fin 128 := ⟨e.val % 128, Nat.mod_lt _ (by decide)⟩

theorem lane_of (e : Fin 1024) : lane (headOf e) (laneOf e) = e := Fin.ext (by simp only [lane, headOf, laneOf]; omega)

/-- The rows of the result: the heads side by side, times the output weights. -/
theorem outV_at (wov : Vec Ideal S1024x1024 .f32) (u : FVec Ideal S64x1024 .f32) (l : FVec Ideal S64x8 .f32) (t : Fin 64) (n : Fin 1024) :
    outV wov u l (ix2 t n)
      = ∑ e : Fin 1024, Ideal.div (u (ix2 t e)) (l (ix2 t (headOf e))) * wov (ix2 e n) := by
  have hc : ∀ e : Fin 1024, (concatenate S64x1024 1 [⟨S64x128, ctxH u l 0⟩, ⟨S64x128, ctxH u l 1⟩, ⟨S64x128, ctxH u l 2⟩, ⟨S64x128, ctxH u l 3⟩, ⟨S64x128, ctxH u l 4⟩, ⟨S64x128, ctxH u l 5⟩, ⟨S64x128, ctxH u l 6⟩, ⟨S64x128, ctxH u l 7⟩]
      concatenates_S64x128_S64x128_S64x128_S64x128_S64x128_S64x128_S64x128_S64x128_S64x1024_d1 : FVec Ideal S64x1024 .bf16) (ix2 t e)
      = Ideal.div (u (ix2 t e)) (l (ix2 t (headOf e))) := fun e => by
    have h1 := ctxH_at u l (headOf e) t (laneOf e)
    have h2 := catU_at (ctxH u l) t (headOf e) (laneOf e)
    rw [lane_of] at h1 h2
    exact h2.trans h1
  unfold outV
  generalize concatenate S64x1024 1 _ _ = cc at hc ⊢
  pointwise
  simp only [hc]

/-- The device's number modulo 3, as a word. -/
theorem my3_eq : ∀ c : Dev nD, my3 c = BitVec.ofNat 32 (c.val % 3) := by decide +kernel

/-- Where class `r`'s counted slots end on device `c`. -/
theorem bound_eq : ∀ (c : Dev nD) (r : Fin 3),
    (Scalar.select (Scalar.cmpi CmpIPredicate.eq (BitVec.ofNat 32 (c.val % 3)) (BitVec.ofNat 32 r.val)) 1408#32 1344#32 : BitVec 32)
      = if r.val = c.val % 3 then 1408#32 else 1344#32 := by decide +kernel

set_option maxRecDepth 100000 in
theorem below_all : ∀ n : Fin 1408, IntOp.cmpi CmpIPredicate.slt (BitVec.ofNat 32 n.val) 1408#32 = 1#1 := by decide +kernel

set_option maxRecDepth 100000 in
theorem below_last : ∀ n : Fin 1408,
    IntOp.cmpi CmpIPredicate.slt (BitVec.ofNat 32 n.val) 1344#32 = if n.val < 1344 then 1#1 else 0#1 := by decide +kernel

/-- The bias of class `r`'s slots. -/
theorem biasG_at (c : Dev nD) (r : Fin 3) (n : Fin 1408) :
    (biasG c (BitVec.ofNat 32 r.val) : FVec Ideal S1x1408 .bf16) (ix2 0 n)
      = if r.val = c.val % 3 ∨ n.val < 1344 then 0 else ⊥ := by
  pointwise [biasG, my3_eq, maskC_eq]
  rw [bound_eq]
  by_cases h : r.val = c.val % 3
  · rw [if_pos h, below_all, if_pos (Or.inl h)]; rfl
  · rw [if_neg h, below_last]
    by_cases hn : n.val < 1344
    · rw [if_pos hn, if_pos (Or.inr hn)]; rfl
    · rw [if_neg hn, if_neg (not_or.2 ⟨h, hn⟩)]; rfl

/-- The bias of the extra slots' places. -/
theorem biasE_eq (c : Dev nD) : (biasE c : Ideal .bf16) = if c = 0 then 0 else ⊥ := by
  pointwise [biasE, maskC_eq]
  have h : ∀ c : Dev nD, Scalar.cmpi CmpIPredicate.eq (my c) 0#32 = if c = 0 then 1#1 else 0#1 := by decide +kernel
  rw [h]
  split <;> rfl

end Cert.KernelIdeal.Hand

end
-- ==== Proof.KernelIdeal.ValuePart.lean ====
/- What each device adds up by itself: for each chunk of queries the weighted values and the weights of the device's
   own keys that the mask keeps. -/
module

public import proofs.«01_k».proof.Proof.KernelIdeal.ValueOps

@[expose] public section

noncomputable section

namespace Cert.KernelIdeal.Hand

open Cert.KernelIdeal.Gen Cert.Value
open Idealize.ShloMosaic Idealize.ShloMosaic.TcCoe Idealize.SL.Sem
open scoped BigOperators

variable (m : (ℓ : Loc nD τ sig) → Buf (Elt Ideal) ℓ)

/-- Key (0) or value (1) `k` of device `c`, at head `h` and lane `d`. -/
def kvAt (c : Dev nD) (kv : Fin 2) (k : Fin 4096) (h : Fin 8) (d : Fin 128) : EReal := kvC m c kv (ix4 0 k h d)

/-- The weight of query `i` against key `k` of device `c`, in head `h`. -/
def wtAt (c : Dev nD) (i : Fin 256) (h : Fin 8) (k : Fin 4096) : EReal :=
  Ideal.exp2 (∑ d : Fin 128, qs m c (ix2 i (lane h d)) * kvAt m c 0 k h d)

/-- Query `t` of chunk `ch`. -/
def rowOf (ch : Fin 4) (t : Fin 64) : Fin 256 := ⟨64 * ch.val + t.val, by omega⟩

set_option maxRecDepth 100000 in
theorem rowOff_blk : ∀ (c : Dev nD) (r : Fin 3) (j : Fin 22), rowOff c r j = 64 * (blkOf c r j).val := by decide +kernel

/-- Slot `n` of class `r` holds key `slotKey c r n`. -/
theorem slab_at (c : Dev nD) (kv : Fin 2) (r : Fin 3) (h : Fin 8) (n : Fin 1408) (d : Fin 128) :
    slab m c kv r h (ix3 0 n d) = kvAt m c kv (slotKey c r n) h d := by
  have e1 : (((Rect.unit (s := S3x1408x1024) ![r.val, 0, 128 * h.val] S1x1408x128.size (slabK_inb r h)).emb (ix3 0 n d)) 1).val = n.val := by
    show 0 + 1 * n.val = n.val
    omega
  have e2 : (((Rect.unit (s := S3x1408x1024) ![r.val, 0, 128 * h.val] S1x1408x128.size (slabK_inb r h)).emb (ix3 0 n d)) 2).val = 128 * h.val + d.val := by
    show 128 * h.val + 1 * d.val = _
    omega
  have e0 : ((Rect.unit (s := S3x1408x1024) ![r.val, 0, 128 * h.val] S1x1408x128.size (slabK_inb r h)).emb (ix3 0 n d)) 0 = r := by
    apply Fin.ext
    show r.val + 1 * 0 = r.val
    omega
  unfold slab GB kvAt
  refine congrArg (kvC m c kv) (funext fun a => ?_)
  match a with
  | ⟨0, _⟩ => rfl
  | ⟨1, _⟩ =>
    apply Fin.ext
    show rowOff c _ _ + _ = 64 * _ + _
    simp only [e0, e1, rowOff_blk]
  | ⟨2, _⟩ =>
    apply Fin.ext
    show _ / 128 = h.val
    rw [e2]; omega
  | ⟨3, _⟩ =>
    apply Fin.ext
    show _ % 128 = d.val
    rw [e2]; omega

/-- Place `n` of the extra slot `s` holds key `extraKey s n`. -/
theorem slabE_at (c : Dev nD) (kv s : Fin 2) (h : Fin 8) (n : Fin 128) (d : Fin 128) :
    slabE m c kv s h (ix3 0 n d) = kvAt m c kv (extraKey s n) h d := by
  have e1 : (((Rect.unit (s := S2x128x1024) ![s.val, 0, 128 * h.val] S1x128x128.size (slabE_inb s h)).emb (ix3 0 n d)) 1).val = n.val := by
    show 0 + 1 * n.val = n.val
    omega
  have e2 : (((Rect.unit (s := S2x128x1024) ![s.val, 0, 128 * h.val] S1x128x128.size (slabE_inb s h)).emb (ix3 0 n d)) 2).val = 128 * h.val + d.val := by
    show 128 * h.val + 1 * d.val = _
    omega
  have e0 : (((Rect.unit (s := S2x128x1024) ![s.val, 0, 128 * h.val] S1x128x128.size (slabE_inb s h)).emb (ix3 0 n d)) 0).val = s.val := by
    show s.val + 1 * 0 = s.val
    omega
  unfold slabE EB kvAt
  refine congrArg (kvC m c kv) (funext fun a => ?_)
  match a with
  | ⟨0, _⟩ => rfl
  | ⟨1, _⟩ =>
    apply Fin.ext
    show 64 * _ + _ = 64 * _ + _
    simp only [e0, e1]
  | ⟨2, _⟩ =>
    apply Fin.ext
    show _ / 128 = h.val
    rw [e2]; omega
  | ⟨3, _⟩ =>
    apply Fin.ext
    show _ % 128 = d.val
    rw [e2]; omega

/-- A weight under a bias of 0 or `⊥`. -/
theorem exp2_bias (x : EReal) (P : Prop) [Decidable P] :
    Ideal.exp2 (x + if P then 0 else ⊥) = if P then Ideal.exp2 x else 0 := by
  split
  · rw [add_zero]
  · rw [EReal.add_bot, Ideal.exp2_bot]

/-- A factor under a condition. -/
theorem ite_mul_zero' (x y : EReal) (P : Prop) [Decidable P] : (if P then x else 0) * y = if P then x * y else 0 := by
  split
  · rfl
  · rw [zero_mul]

/-- The weights of chunks 0 and 3 at slot `n`: row `t` of the 128. -/
theorem w0_at (c : Dev nD) (h : Fin 8) (t : Fin 128) (n : Fin 1408) :
    w128 (q0 (qs m c)) (biasG c 0#32) h (slab m c 0 0 h) (ix2 t n)
      = if (0 : Fin 3).val = c.val % 3 ∨ n.val < 1344 then
          wtAt m c (⟨if t.val < 64 then t.val else t.val + 128, by split <;> omega⟩ : Fin 256) h (slotKey c 0 n) else 0 := by
  rw [w128_at, show (0#32 : BitVec 32) = BitVec.ofNat 32 (0 : Fin 3).val from rfl, biasG_at, exp2_bias]
  simp only [q0_at, slab_at, wtAt]

/-- The weights of the other two chunks at slot `n`. -/
theorem wX_at (c : Dev nD) (s : Fin 2) (h : Fin 8) (t : Fin 64) (n : Fin 1408) :
    w64 (qX (qs m c) s) (biasG c (BitVec.ofNat 32 (clsE s).val)) h (slab m c 0 (clsE s) h) (ix2 t n)
      = if (clsE s).val = c.val % 3 ∨ n.val < 1344 then
          wtAt m c (⟨64 * (s.val + 1) + t.val, by omega⟩ : Fin 256) h (slotKey c (clsE s) n) else 0 := by
  rw [w64_at, biasG_at, exp2_bias]
  simp only [qX_at, slab_at, wtAt]

/-- The weights of those chunks at place `n` of the extra slot. -/
theorem wEX_at (c : Dev nD) (s : Fin 2) (h : Fin 8) (t : Fin 64) (n : Fin 128) :
    wE (qX (qs m c) s) (biasE c) h (slabE m c 0 s h) (ix2 t n)
      = if c = 0 then wtAt m c (⟨64 * (s.val + 1) + t.val, by omega⟩ : Fin 256) h (extraKey s n) else 0 := by
  rw [wE_at, biasE_eq, exp2_bias]
  simp only [qX_at, slabE_at, wtAt]

/-- The weighted values of row `t` of the 128, over the slots. -/
theorem e0_u (c : Dev nD) (h : Fin 8) (t d : Fin 128) :
    (e0 m c h).1 (ix2 t d) = ∑ n : Fin 1408, if (0 : Fin 3).val = c.val % 3 ∨ n.val < 1344 then
        wtAt m c (⟨if t.val < 64 then t.val else t.val + 128, by split <;> omega⟩ : Fin 256) h (slotKey c 0 n)
          * kvAt m c 1 (slotKey c 0 n) h d else 0 := by
  unfold e0
  dsimp only
  rw [u128_at]
  simp only [w0_at, slab_at, ite_mul_zero']

/-- The weights of row `t` of the 128, over the slots. -/
theorem e0_l (c : Dev nD) (h : Fin 8) (t : Fin 128) :
    (e0 m c h).2 (ix2 t 0) = ∑ n : Fin 1408, if (0 : Fin 3).val = c.val % 3 ∨ n.val < 1344 then
        wtAt m c (⟨if t.val < 64 then t.val else t.val + 128, by split <;> omega⟩ : Fin 256) h (slotKey c 0 n) else 0 := by
  unfold e0
  dsimp only
  rw [l128_at]
  simp only [w0_at]

/-- The weighted values of row `t` of slot `s`'s chunk. -/
theorem eX_u (c : Dev nD) (s : Fin 2) (h : Fin 8) (t : Fin 64) (d : Fin 128) :
    (eX m c s h).1 (ix2 t d) = (∑ n : Fin 1408, if (clsE s).val = c.val % 3 ∨ n.val < 1344 then
        wtAt m c (⟨64 * (s.val + 1) + t.val, by omega⟩ : Fin 256) h (slotKey c (clsE s) n) * kvAt m c 1 (slotKey c (clsE s) n) h d else 0)
      + ∑ n : Fin 128, if c = 0 then
        wtAt m c (⟨64 * (s.val + 1) + t.val, by omega⟩ : Fin 256) h (extraKey s n) * kvAt m c 1 (extraKey s n) h d else 0 := by
  unfold eX
  dsimp only
  rw [u64_at]
  simp only [wX_at, wEX_at, slab_at, slabE_at, ite_mul_zero']

/-- The weights of row `t` of slot `s`'s chunk. -/
theorem eX_l (c : Dev nD) (s : Fin 2) (h : Fin 8) (t : Fin 64) :
    (eX m c s h).2 (ix2 t 0) = (∑ n : Fin 1408, if (clsE s).val = c.val % 3 ∨ n.val < 1344 then
        wtAt m c (⟨64 * (s.val + 1) + t.val, by omega⟩ : Fin 256) h (slotKey c (clsE s) n) else 0)
      + ∑ n : Fin 128, if c = 0 then
        wtAt m c (⟨64 * (s.val + 1) + t.val, by omega⟩ : Fin 256) h (extraKey s n) else 0 := by
  unfold eX
  dsimp only
  rw [l64_at]
  simp only [wX_at, wEX_at]

theorem part0 (c : Dev nD) : part m c 0 = (u0at (e0 m c), l0at (e0 m c)) := rfl
theorem part1 (c : Dev nD) : part m c 1 = (catU fun h => (eX m c 0 h).1, catL fun h => (eX m c 0 h).2) := rfl
theorem part2 (c : Dev nD) : part m c 2 = (catU fun h => (eX m c 1 h).1, catL fun h => (eX m c 1 h).2) := rfl
theorem part3 (c : Dev nD) : part m c 3 = (u3at (e0 m c), l3at (e0 m c)) := rfl

/-- Device `c`'s own weighted values of chunk `ch`: over its keys that the mask keeps. -/
theorem part_u (c : Dev nD) (ch : Fin 4) (t : Fin 64) (h : Fin 8) (d : Fin 128) :
    (part m c ch).1 (ix2 t (lane h d))
      = ∑ k : Fin 4096, if Kept ch.val (64 * c.val + k.val / 64) then wtAt m c (rowOf ch t) h k * kvAt m c 1 k h d else 0 := by
  match ch with
  | 0 =>
    rw [← kept_outer c 0 (Or.inl rfl)]
    simp only [part0, u0at]
    rw [catU_at]
    refine Eq.trans (?_ : _ = (e0 m c h).1 (ix2 (t.castLE (by decide) : Fin 128) d)) ((e0_u m c h _ d).trans ?_)
    · pointwise
      rfl
    · have : (⟨if (t.castLE (by decide) : Fin 128).val < 64 then (t.castLE (by decide) : Fin 128).val else (t.castLE (by decide) : Fin 128).val + 128, by split <;> omega⟩ : Fin 256) = rowOf 0 t :=
        Fin.ext (by simp [rowOf])
      rw [this]
      rfl
  | 3 =>
    rw [← kept_outer c 3 (Or.inr rfl)]
    simp only [part3, u3at]
    rw [catU_at]
    refine Eq.trans (?_ : _ = (e0 m c h).1 (ix2 (⟨64 + t.val, by omega⟩ : Fin 128) d)) ((e0_u m c h _ d).trans ?_)
    · pointwise
    · have : (⟨if (⟨64 + t.val, by omega⟩ : Fin 128).val < 64 then (⟨64 + t.val, by omega⟩ : Fin 128).val else (⟨64 + t.val, by omega⟩ : Fin 128).val + 128, by split <;> omega⟩ : Fin 256) = rowOf 3 t :=
        Fin.ext (by simp [rowOf]; omega)
      rw [this]
      rfl
  | 1 =>
    rw [← kept_inner c 1 0 rfl]
    simp only [part1]
    rw [catU_at]
    exact eX_u m c 0 h t d
  | 2 =>
    rw [← kept_inner c 2 1 rfl]
    simp only [part2]
    rw [catU_at]
    exact eX_u m c 1 h t d

/-- Device `c`'s own weights of chunk `ch`: over its keys that the mask keeps. -/
theorem part_l (c : Dev nD) (ch : Fin 4) (t : Fin 64) (h : Fin 8) :
    (part m c ch).2 (ix2 t h)
      = ∑ k : Fin 4096, if Kept ch.val (64 * c.val + k.val / 64) then wtAt m c (rowOf ch t) h k else 0 := by
  match ch with
  | 0 =>
    rw [← kept_outer c 0 (Or.inl rfl)]
    simp only [part0, l0at]
    rw [catL_at]
    refine Eq.trans (?_ : _ = (e0 m c h).2 (ix2 (t.castLE (by decide) : Fin 128) 0)) ((e0_l m c h _).trans ?_)
    · pointwise
      rfl
    · have : (⟨if (t.castLE (by decide) : Fin 128).val < 64 then (t.castLE (by decide) : Fin 128).val else (t.castLE (by decide) : Fin 128).val + 128, by split <;> omega⟩ : Fin 256) = rowOf 0 t :=
        Fin.ext (by simp [rowOf])
      rw [this]
      rfl
  | 3 =>
    rw [← kept_outer c 3 (Or.inr rfl)]
    simp only [part3, l3at]
    rw [catL_at]
    refine Eq.trans (?_ : _ = (e0 m c h).2 (ix2 (⟨64 + t.val, by omega⟩ : Fin 128) 0)) ((e0_l m c h _).trans ?_)
    · pointwise
    · have : (⟨if (⟨64 + t.val, by omega⟩ : Fin 128).val < 64 then (⟨64 + t.val, by omega⟩ : Fin 128).val else (⟨64 + t.val, by omega⟩ : Fin 128).val + 128, by split <;> omega⟩ : Fin 256) = rowOf 3 t :=
        Fin.ext (by simp [rowOf]; omega)
      rw [this]
      rfl
  | 1 =>
    rw [← kept_inner c 1 0 rfl]
    simp only [part1]
    rw [catL_at]
    exact eX_l m c 0 h t
  | 2 =>
    rw [← kept_inner c 2 1 rfl]
    simp only [part2]
    rw [catL_at]
    exact eX_l m c 1 h t

end Cert.KernelIdeal.Hand

end
-- ==== Proof.KernelIdeal.ValueOut.lean ====
/- The kernel's result at an index: the exchange adds every device's own sums, so each device holds the same totals. -/
module

public import proofs.«01_k».proof.Proof.KernelIdeal.ValuePart

@[expose] public section

noncomputable section

namespace Cert.KernelIdeal.Hand

open Cert.KernelIdeal.Gen Cert.Value
open Idealize.ShloMosaic Idealize.ShloMosaic.TcCoe Idealize.SL.Sem
open scoped BigOperators

variable (m : (ℓ : Loc nD τ sig) → Buf (Elt Ideal) ℓ)

/-! ## The staged operands are the arguments -/

/-- The queries' input, the query weights and the output weights of device `c`. -/
def xAt (c : Dev nD) (i : Fin 256) (k : Fin 1024) : EReal := (m ((c : Thread nD τ).loc main_arg0) : S1x256x1024.Idx → EReal) (ix3 0 i k)
def wqAt (c : Dev nD) (k n : Fin 1024) : EReal := (m ((c : Thread nD τ).loc main_arg1) : S1024x1024.Idx → EReal) (ix2 k n)
def woAt (c : Dev nD) (e n : Fin 1024) : EReal := (m ((c : Thread nD τ).loc main_arg4) : S1024x1024.Idx → EReal) (ix2 e n)

theorem xst_at (c : Dev nD) (i : Fin 256) (k : Fin 1024) : xst m c (ix3 0 i k) = xAt m c i k := by
  unfold xst xAt
  refine congrArg (m ((c : Thread nD τ).loc main_arg0) : S1x256x1024.Idx → EReal) (funext fun a => ?_)
  match a with
  | ⟨0, _⟩ => exact Fin.ext (by show 0 + 1 * 0 = 0; rfl)
  | ⟨1, _⟩ => exact Fin.ext (by show 0 + 1 * i.val = i.val; omega)
  | ⟨2, _⟩ => exact Fin.ext (by show 0 + 1 * k.val = k.val; omega)

theorem wqst_at (c : Dev nD) (k n : Fin 1024) : wqst m c (ix2 k n) = wqAt m c k n := by
  unfold wqst wqAt
  refine congrArg (m ((c : Thread nD τ).loc main_arg1) : S1024x1024.Idx → EReal) (funext fun a => ?_)
  match a with
  | ⟨0, _⟩ => exact Fin.ext (by show 0 + 1 * k.val = k.val; omega)
  | ⟨1, _⟩ => exact Fin.ext (by show 0 + 1 * n.val = n.val; omega)

theorem wost_at (c : Dev nD) (e n : Fin 1024) : wost m c (ix2 e n) = woAt m c e n := by
  unfold wost woAt
  refine congrArg (m ((c : Thread nD τ).loc main_arg4) : S1024x1024.Idx → EReal) (funext fun a => ?_)
  match a with
  | ⟨0, _⟩ => exact Fin.ext (by show 0 + 1 * e.val = e.val; omega)
  | ⟨1, _⟩ => exact Fin.ext (by show 0 + 1 * n.val = n.val; omega)

/-- A query: the projection, scaled. -/
theorem qs_at (c : Dev nD) (i : Fin 256) (n : Fin 1024) :
    qs m c (ix2 i n) = (∑ k : Fin 1024, xAt m c i k * wqAt m c k n) * s2 := by
  unfold qs
  rw [qAll_at]
  simp only [xst_at, wqst_at]

/-! ## The exchange -/

theorem pdev0 : ∀ c : Dev nD, pdev c 0 = (![1, 0, 3, 2, 5, 4, 7, 6] : Fin 8 → Fin 8) c := by decide +kernel
theorem pdev1 : ∀ c : Dev nD, pdev c 1 = (![2, 3, 0, 1, 6, 7, 4, 5] : Fin 8 → Fin 8) c := by decide +kernel
theorem pdev2 : ∀ c : Dev nD, pdev c 2 = (![4, 5, 6, 7, 0, 1, 2, 3] : Fin 8 → Fin 8) c := by decide +kernel

/-- Three rounds of adding the partner's sum add all eight devices'. -/
theorem rounds (f : Dev nD → EReal) (c : Dev nD) :
    ((f c + f (pdev c 0)) + (f (pdev c 1) + f (pdev (pdev c 1) 0)))
        + ((f (pdev c 2) + f (pdev (pdev c 2) 0)) + (f (pdev (pdev c 2) 1) + f (pdev (pdev (pdev c 2) 1) 0)))
      = ∑ c' : Fin 8, f c' := by
  simp only [pdev0, pdev1, pdev2]
  rw [Fin.sum_univ_eight]
  match c with
  | 0 => show ((f 0 + f 1) + (f 2 + f 3)) + ((f 4 + f 5) + (f 6 + f 7)) = _; abel
  | 1 => show ((f 1 + f 0) + (f 3 + f 2)) + ((f 5 + f 4) + (f 7 + f 6)) = _; abel
  | 2 => show ((f 2 + f 3) + (f 0 + f 1)) + ((f 6 + f 7) + (f 4 + f 5)) = _; abel
  | 3 => show ((f 3 + f 2) + (f 1 + f 0)) + ((f 7 + f 6) + (f 5 + f 4)) = _; abel
  | 4 => show ((f 4 + f 5) + (f 6 + f 7)) + ((f 0 + f 1) + (f 2 + f 3)) = _; abel
  | 5 => show ((f 5 + f 4) + (f 7 + f 6)) + ((f 1 + f 0) + (f 3 + f 2)) = _; abel
  | 6 => show ((f 6 + f 7) + (f 4 + f 5)) + ((f 2 + f 3) + (f 0 + f 1)) = _; abel
  | 7 => show ((f 7 + f 6) + (f 5 + f 4)) + ((f 3 + f 2) + (f 1 + f 0)) = _; abel

theorem UL_u (ch : Fin 4) (n : ℕ) (c : Dev nD) (j : S64x1024.Idx) :
    (UL m ch (n + 1) c).1 j = (UL m ch n c).1 j + (UL m ch n (pdev c (Fin.ofNat 3 n))).1 j := rfl

theorem UL_l (ch : Fin 4) (n : ℕ) (c : Dev nD) (j : S64x8.Idx) :
    (UL m ch (n + 1) c).2 j = (UL m ch n c).2 j + (UL m ch n (pdev c (Fin.ofNat 3 n))).2 j := rfl

/-- After the exchange every device holds the sum of all devices' weighted values … -/
theorem total_u (ch : Fin 4) (c : Dev nD) (j : S64x1024.Idx) : (UL m ch 3 c).1 j = ∑ c' : Fin 8, (part m c' ch).1 j := by
  simp only [UL_u]
  exact rounds (fun c' => (part m c' ch).1 j) c

/-- … and of all devices' weights. -/
theorem total_l (ch : Fin 4) (c : Dev nD) (j : S64x8.Idx) : (UL m ch 3 c).2 j = ∑ c' : Fin 8, (part m c' ch).2 j := by
  simp only [UL_l]
  exact rounds (fun c' => (part m c' ch).2 j) c

/-- The chunk of a query. -/
def chOf (i : Fin 256) : Fin 4 := ⟨i.val / 64, by omega⟩

/-- The weighted values of query `i`, at lane `d` of head `h`, over all devices' kept keys. -/
def uSum (i : Fin 256) (h : Fin 8) (d : Fin 128) : EReal :=
  ∑ c : Fin 8, ∑ k : Fin 4096, if Kept (i.val / 64) (64 * c.val + k.val / 64) then wtAt m c i h k * kvAt m c 1 k h d else 0

/-- The weights of query `i` in head `h`, over all devices' kept keys. -/
def lSum (i : Fin 256) (h : Fin 8) : EReal :=
  ∑ c : Fin 8, ∑ k : Fin 4096, if Kept (i.val / 64) (64 * c.val + k.val / 64) then wtAt m c i h k else 0

/-- Device `c`'s result at query `i`, column `n`. -/
theorem outC_at (c : Dev nD) (i : Fin 256) (n : Fin 1024) :
    outC m c (ix3 0 i n)
      = ∑ e : Fin 1024, Ideal.div (uSum m i (headOf e) (laneOf e)) (lSum m i (headOf e)) * woAt m c e n := by
  have hi : rowOf (chOf i) (⟨i.val % 64, Nat.mod_lt _ (by decide)⟩ : Fin 64) = i := Fin.ext (by simp only [rowOf, chOf]; omega)
  have e1 : outC m c (ix3 0 i n)
      = outV (wost m c) (UL m (chOf i) 3 c).1 (UL m (chOf i) 3 c).2 (ix2 (⟨i.val % 64, Nat.mod_lt _ (by decide)⟩ : Fin 64) n) := by
    unfold outC rowsOut
    refine congrArg (outV (wost m c) (UL m (chOf i) 3 c).1 (UL m (chOf i) 3 c).2) (funext fun a => ?_)
    match a with
    | ⟨0, _⟩ => rfl
    | ⟨1, _⟩ => rfl
  rw [e1, outV_at]
  refine Finset.sum_congr rfl fun e _ => ?_
  rw [wost_at, total_u, total_l]
  have hu : ∀ c' : Dev nD, (part m c' (chOf i)).1 (ix2 (⟨i.val % 64, Nat.mod_lt _ (by decide)⟩ : Fin 64) e)
      = ∑ k : Fin 4096, if Kept (i.val / 64) (64 * c'.val + k.val / 64) then
          wtAt m c' i (headOf e) k * kvAt m c' 1 k (headOf e) (laneOf e) else 0 := fun c' => by
    have h := part_u m c' (chOf i) (⟨i.val % 64, Nat.mod_lt _ (by decide)⟩ : Fin 64) (headOf e) (laneOf e)
    rw [lane_of, hi] at h
    exact h
  have hl : ∀ c' : Dev nD, (part m c' (chOf i)).2 (ix2 (⟨i.val % 64, Nat.mod_lt _ (by decide)⟩ : Fin 64) (headOf e))
      = ∑ k : Fin 4096, if Kept (i.val / 64) (64 * c'.val + k.val / 64) then wtAt m c' i (headOf e) k else 0 := fun c' => by
    have h := part_l m c' (chOf i) (⟨i.val % 64, Nat.mod_lt _ (by decide)⟩ : Fin 64) (headOf e)
    rw [hi] at h
    exact h
  unfold uSum lSum
  refine congrArg (· * woAt m c e n) (congrArg₂ Ideal.div ?_ ?_)
  · exact Finset.sum_congr rfl fun c' _ => hu c'
  · exact Finset.sum_congr rfl fun c' _ => hl c'

end Cert.KernelIdeal.Hand

end
-- ==== Proof.KernelIdeal.ValueFinal.lean ====
/- The kernel's result buffer at the end of a run is the result the body leaves. -/
module

public import proofs.«01_k».proof.Proof.KernelIdeal.ValueOut
public import proofs.«01_k».proof.Proof.KernelIdeal.Launch
public import Idealize.ShloMosaic.Lib.Pipeline.ValueKit

@[expose] public section

noncomputable section

namespace Cert.KernelIdeal.Hand

open Cert.KernelIdeal.Gen Cert.Value
open Idealize.ShloMosaic Idealize.ShloMosaic.TcCoe Idealize.SL.Sem Idealize.ShloMosaic.Pipeline

variable (m : (ℓ : Loc nD τ sig) → Buf (Elt Ideal) ℓ) (ρ)

theorem final_out (c : Dev nD) : finalA m ρ c (3 : Fin 4) = outC m c := by
  unfold finalA
  refine (dats m ρ 0 c).arrAt_eq_of_covers 3 (outC m c) (by decide +kernel) fun t hf y => ?_
  obtain rfl : t = t0_0 := (by decide +kernel : ∀ t : Fin cfg0.grid.N, t = t0_0) t
  show outC m c y = outC m c _
  refine congrArg (outC m c) (funext fun a => Fin.ext ?_)
  match a with
  | ⟨0, _⟩ => show (y 0).val = 0 + 1 * (y 0).val; omega
  | ⟨1, _⟩ => show (y 1).val = 0 + 1 * (y 1).val; omega
  | ⟨2, _⟩ => show (y 2).val = 0 + 1 * (y 2).val; omega

/-- Every run ends with the result of `outC` on every device, the arguments unchanged. -/
theorem run_out : θ_run defs (onTc main) ⟨m, fun _ => 0, ρ⟩ (fun r =>
    (∀ c : Dev nD, r.2.mem ((c : Thread nD τ).loc main_v1) = outC m c ∧ Kept m r.2 c) ∧ r.2.sem = fun _ => 0) :=
  (run_kept m ρ).mono fun _ h => ⟨fun c => ⟨((h.1 c).1).trans (final_out m ρ c), (h.1 c).2⟩, h.2⟩

end Cert.KernelIdeal.Hand

end
-- ==== Proof.ReferenceIdeal.Run.lean ====
/- The reference's run: it ends, its arguments are kept, and the machine has no semaphores to leave raised. -/
module

public import proofs.«01_k».proof.Proof.Gen.ReferenceIdeal
public import Idealize.ShloMosaic.Lib.Claim
public import Idealize.ShloMosaic.Lib.Quiescent

@[expose] public section

noncomputable section

namespace Cert.ReferenceIdeal.Hand

open Idealize.ShloMosaic Idealize.ShloMosaic.TcCoe Idealize.ShloMosaic.StableHlo Idealize.SL.Sem
open Cert.ReferenceIdeal Cert.ReferenceIdeal.Gen

variable {F : FTy → Type} [FloatOps F]

/-- The reference ends with its five arguments as they were. -/
theorem kept (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run

/-- The reference's signature has no semaphores. -/
theorem no_sems : sig.nSem + sig.nDmaSem = 0 := rfl

end Cert.ReferenceIdeal.Hand

end
-- ==== Proof.Value.Math.lean ====
/- The arithmetic behind the value claim, apart from any program: a sum of products divided by a sum of weights is
   the softmax-weighted sum, whatever maximum is subtracted first; and the scaled base-two exponential of the kernel is
   the reference's exponential. -/
module

public import Idealize.ShloMosaic.PureOps.Ideal

@[expose] public section

noncomputable section

namespace Cert.Value

open Idealize.ShloMosaic
open scoped BigOperators

/-- A finite sum of reals, read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes inside a sum, whatever the terms are. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- Division by a nonzero real is multiplication by its inverse. -/
theorem div_real (x : EReal) (r : ℝ) (hr : r ≠ 0) : Ideal.div x (r : EReal) = x * ((r⁻¹ : ℝ) : EReal) := by
  unfold Ideal.div
  rw [if_neg (by exact_mod_cast hr), EReal.coe_inv]

/-- The maximum of finitely many extended reals below `⊤`, not all `⊥`, is a real. -/
theorem fold_max_real {ι : Type*} [Fintype ι] (f : ι → EReal) (ht : ∀ i, f i ≠ ⊤) (i₀ : ι) (h₀ : f i₀ ≠ ⊥) :
    ∃ r : ℝ, (Finset.univ : Finset ι).fold max (⊥ : EReal) f = (r : EReal) := by
  have h1 : (Finset.univ : Finset ι).fold max (⊥ : EReal) f ≠ ⊤ :=
    ne_of_lt ((Finset.fold_max_lt _).2 ⟨bot_lt_top, fun i _ => lt_top_iff_ne_top.2 (ht i)⟩)
  have h2 : (Finset.univ : Finset ι).fold max (⊥ : EReal) f ≠ ⊥ :=
    ne_of_gt ((Finset.lt_fold_max _).2 (Or.inr ⟨i₀, Finset.mem_univ _, bot_lt_iff_ne_bot.2 h₀⟩))
  exact ⟨_, (EReal.coe_toReal h1 h2).symm⟩

/-- The weighted sum over the sum of the weights is the softmax-weighted sum: the weights are the exponentials of real
    scores where `P` holds and 0 elsewhere; on the other side a score where `P` fails is `⊥`, and the maximum is
    subtracted from each score. The values may be infinite. -/
theorem attend {J : Type*} [Fintype J] (P : J → Prop) [DecidablePred P] (hP : ∃ j, P j) (s : J → ℝ) (V : J → EReal)
    (M : EReal) (hM : M = (Finset.univ : Finset J).fold max (⊥ : EReal) fun j => if P j then (s j : EReal) else ⊥) :
    Ideal.div (∑ j, (if P j then Ideal.exp (s j : EReal) else 0) * V j) (∑ j, if P j then Ideal.exp (s j : EReal) else 0)
      = ∑ j, V j * Ideal.div (Ideal.exp ((if P j then (s j : EReal) else ⊥) - M))
          (∑ j', Ideal.exp ((if P j' then (s j' : EReal) else ⊥) - M)) := by
  obtain ⟨j₀, hj₀⟩ := hP
  obtain ⟨r, hr⟩ := fold_max_real (fun j => if P j then (s j : EReal) else ⊥)
    (fun j => by split <;> simp) j₀ (by simp [hj₀])
  rw [hr] at hM
  subst hM
  have hE : ∀ j, (if P j then Ideal.exp (s j : EReal) else 0) = ((if P j then Real.exp (s j) else 0 : ℝ) : EReal) := fun j => by
    split <;> simp
  have hW : ∀ j, Ideal.exp ((if P j then (s j : EReal) else ⊥) - (r : EReal))
      = (((if P j then Real.exp (s j) else 0) * Real.exp (-r) : ℝ) : EReal) := fun j => by
    split
    · rw [← EReal.coe_sub, Ideal.exp_coe, sub_eq_add_neg, Real.exp_add]
    · rw [EReal.bot_sub, Ideal.exp_bot, zero_mul, EReal.coe_zero]
  simp only [hE, hW, ← coe_sum]
  set T : ℝ := ∑ j, (if P j then Real.exp (s j) else 0) with hT
  have hpos : 0 < T := Finset.sum_pos' (fun j _ => by split <;> positivity) ⟨j₀, Finset.mem_univ _, by rw [if_pos hj₀]; positivity⟩
  have hTr : ∑ j, (if P j then Real.exp (s j) else 0) * Real.exp (-r) = T * Real.exp (-r) := (Finset.sum_mul _ _ _).symm
  rw [hTr, div_real _ T hpos.ne', sum_mul_real _ _ _ (inv_nonneg.2 hpos.le)]
  refine Finset.sum_congr rfl fun j _ => ?_
  rw [div_real _ _ (mul_pos hpos (Real.exp_pos _)).ne', mul_comm _ (V j), mul_assoc, ← EReal.coe_mul, ← EReal.coe_mul]
  congr 2
  have := (Real.exp_pos (-r)).ne'
  field_simp

/-- The kernel's weight of one key: the queries are scaled by `s / log 2` and the exponential has base two. -/
theorem score_exp {D : Type*} [Fintype D] (Q K : D → ℝ) (s : ℝ) :
    Ideal.exp2 (∑ d, ((Q d : EReal) * ((s * (Real.log 2)⁻¹ : ℝ) : EReal)) * (K d : EReal))
      = Ideal.exp ((((∑ d, Q d * K d) * s : ℝ)) : EReal) := by
  simp only [← EReal.coe_mul, ← coe_sum]
  rw [Ideal.exp2_coe, Ideal.exp_coe]
  congr 1
  refine (Real.rpow_def_of_pos (by norm_num) _).trans ?_
  congr 1
  have h2 : Real.log 2 ≠ 0 := (Real.log_pos (by norm_num)).ne'
  rw [Finset.sum_mul, Finset.mul_sum]
  refine Finset.sum_congr rfl fun d _ => ?_
  field_simp

end Cert.Value

end
-- ==== Proof.ReferenceIdeal.Value.lean ====
/- The reference's result, in named stages: the mask, the scores, the weights, the attended values, the output. -/
module

public import proofs.«01_k».proof.Proof.Gen.ReferenceIdeal.Run
public import proofs.«01_k».proof.Proof.Value.Sums
public import Idealize.ShloMosaic.Lib.Pointwise
public import Idealize.ShloMosaic.Lib.Routing.Words

@[expose] public section

noncomputable section

namespace Cert.ReferenceIdeal.Hand

open Idealize.ShloMosaic Idealize.ShloMosaic.TcCoe Idealize.SL.Sem
open Cert.ReferenceIdeal Cert.ReferenceIdeal.Gen Cert.Value
open scoped BigOperators

/-! ## The stages -/

section Stages
variable {F : FTy → Type} [FloatOps F]

/-- The block of a query, and of a key. -/
def qbV : IVec S256 32 := Routing.pyDiv bcast_S_S256 (iotaInDim S256 32 0) (id (constantI S_ 32 64#32))
def kbV : IVec S32768 32 := Routing.pyDiv bcast_S_S32768 (iotaInDim S32768 32 0) (id (constantI S_ 32 64#32))
def qcV : IVec S256x1 32 := broadcastInDim S256x1 ![0] bcast_S256_S256x1_0 qbV
def krV : IVec S1x32768 32 := broadcastInDim S1x32768 ![1] bcast_S32768_S1x32768_1 kbV
def qmV : IVec S256x32768 32 := broadcastInDim S256x32768 ![0, 1] bcast_S256x1_S256x32768_0_1 qcV
def kmV : IVec S256x32768 32 := broadcastInDim S256x32768 ![0, 1] bcast_S1x32768_S256x32768_0_1 krV
/-- Both blocks' sum, modulo three. -/
def remV : IVec S256x32768 32 := Routing.pyRem bcast_S_S256x32768 (addi qmV kmV) (id (constantI S_ 32 3#32))

/-- Which key a query sees. -/
def maskV : IVec S256x32768 1 :=
  ori (ori (cmpi .eq qmV kmV)
      (broadcastInDim S256x32768 ![0, 1] bcast_S1x32768_S256x32768_0_1 (cmpi .eq krV (broadcastInDim S1x32768 ![] bcast_S_S1x32768 (constantI S_ 32 0#32)))))
    (cmpi .eq remV (broadcastInDim S256x32768 ![] bcast_S_S256x32768 (constantI S_ 32 0#32)))

/-- Whether a query sees any key. -/
def keepV : IVec S256 1 := Host.reduce IntOp.ori maskV (constantI S_ 1 0#1) reducesTo_S256x32768_S256_d1 h_S_

variable (x : FVec F S1x256x1024 .f32) (wq : FVec F S1024x1024 .f32) (k v : FVec F S1x32768x8x128 .f32) (wo : FVec F S1024x1024 .f32)

/-- The queries. -/
def qV : FVec F S1x256x8x128 .f32 :=
  shapeCast _ (Host.dotGeneral dot_S1x256x1024_S1024x1024_S1x256x1024_2_0_01_1_n_n none x wq) shapeCasts_S1x256x1024_S1x256x8x128

/-- The masked scores, the greatest of a row, the weights before they are divided, their sum. -/
def scV (q : FVec F S1x256x8x128 .f32) : FVec F S1x8x256x32768 .f32 :=
  select (broadcastInDim S1x8x256x32768 ![0, 1, 2, 3] bcast_S1x1x256x32768_S1x8x256x32768_0_1_2_3 (broadcastInDim S1x1x256x32768 ![2, 3] bcast_S256x32768_S1x1x256x32768_2_3 maskV))
    (mulf (Host.dotGeneral dot_S1x256x8x128_S1x32768x8x128_S1x8x256x32768_3_3_1_1_02_02 none q k)
      (broadcastInDim S1x8x256x32768 ![] bcast_S_S1x8x256x32768 (constant S_ .f32 0x3DB504F3#32)))
    (broadcastInDim S1x8x256x32768 ![] bcast_S_S1x8x256x32768 (id (constant S_ .f32 0xFF800000#32)))

def mxV (sc : FVec F S1x8x256x32768 .f32) : FVec F S1x8x256 .f32 :=
  Host.reduce FloatOps.maximumf sc (constant S_ .f32 0xFF800000#32) reducesTo_S1x8x256x32768_S1x8x256_d3 h_S_

def exV (sc : FVec F S1x8x256x32768 .f32) (mx : FVec F S1x8x256 .f32) : FVec F S1x8x256x32768 .f32 :=
  Host.exp (subf sc (broadcastInDim S1x8x256x32768 ![0, 1, 2, 3] bcast_S1x8x256x1_S1x8x256x32768_0_1_2_3 (broadcastInDim S1x8x256x1 ![0, 1, 2] bcast_S1x8x256_S1x8x256x1_0_1_2 mx)))

def smV (ex : FVec F S1x8x256x32768 .f32) : FVec F S1x8x256x1 .f32 :=
  select (broadcastInDim S1x8x256x1 ![0, 1, 2, 3] bcast_S1x1x256x1_S1x8x256x1_0_1_2_3 (broadcastInDim S1x1x256x1 ![2] bcast_S256_S1x1x256x1_2 keepV))
    (broadcastInDim S1x8x256x1 ![0, 1, 2] bcast_S1x8x256_S1x8x256x1_0_1_2 (Host.reduceAdd ex (constant S_ .f32 0x00000000#32) reducesTo_S1x8x256x32768_S1x8x256_d3 h_S_))
    (broadcastInDim S1x8x256x1 ![] bcast_S_S1x8x256x1 (id (constant S_ .f32 0x3F800000#32)))

/-- The weights. -/
def wtV (ex : FVec F S1x8x256x32768 .f32) (sm : FVec F S1x8x256x1 .f32) : FVec F S1x8x256x32768 .f32 :=
  select (broadcastInDim S1x8x256x32768 ![0, 1, 2, 3] bcast_S1x1x256x1_S1x8x256x32768_0_1_2_3 (broadcastInDim S1x1x256x1 ![2] bcast_S256_S1x1x256x1_2 keepV))
    (Host.divf ex (broadcastInDim S1x8x256x32768 ![0, 1, 2, 3] bcast_S1x8x256x1_S1x8x256x32768_0_1_2_3 sm))
    (broadcastInDim S1x8x256x32768 ![] bcast_S_S1x8x256x32768 (id (constant S_ .f32 0x00000000#32)))

/-- The attended values, head beside head. -/
def ctxV (wt : FVec F S1x8x256x32768 .f32) : FVec F S1x256x1024 .f32 :=
  shapeCast _ (transpose S1x256x8x128 [0, 3, 1, 2]
    (Host.dotGeneral dot_S1x32768x8x128_S1x8x256x32768_S1x8x128x256_1_3_3_2_02_01 none v wt) transposes_S1x8x128x256_S1x256x8x128_0_3_1_2)
    shapeCasts_S1x256x8x128_S1x256x1024

def outV (ctx : FVec F S1x256x1024 .f32) : FVec F S1x256x1024 .f32 :=
  Host.dotGeneral dot_S1x256x1024_S1024x1024_S1x256x1024_2_0_01_1_n_n none ctx wo

/-- The result of the five arguments. -/
def resV : FVec F S1x256x1024 .f32 :=
  let sc := scV k (qV x wq)
  let ex := exV sc (mxV sc)
  outV wo (ctxV v (wtV ex (smV ex)))

end Stages

theorem res_eq (m : (ℓ : Loc nD τ sig) → Buf (Elt Ideal) ℓ) (c : Dev nD) :
    (Value.res_main_v44 m c : FVec Ideal S1x256x1024 .f32) = resV (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v44
  rfl

end Cert.ReferenceIdeal.Hand

end
-- ==== Proof.ReferenceIdeal.Mask.lean ====
/- The reference's mask at an index: query `i` sees key `j` where block `i / 64` sees block `j / 64`. -/
module

public import proofs.«01_k».proof.Proof.ReferenceIdeal.Value
public import Idealize.ShloMosaic.Lib.StableHlo.Predicate

@[expose] public section

noncomputable section

namespace Cert.ReferenceIdeal.Hand

open Idealize.ShloMosaic Idealize.SL.Sem
open Cert.ReferenceIdeal Cert.ReferenceIdeal.Gen Cert.Value

theorem qbV_at (i : Fin 256) : qbV (ix1 i) = BitVec.ofNat 32 (i.val / 64) :=
  Routing.pyDiv_ap bcast_S_S256 (iotaInDim S256 32 0) (id (constantI S_ 32 64#32)) (ix1 i) (a := i.val) (b := 64) rfl rfl
    (by have := i.isLt; omega) (by decide) (by decide)

theorem kbV_at (j : Fin 32768) : kbV (ix1 j) = BitVec.ofNat 32 (j.val / 64) :=
  Routing.pyDiv_ap bcast_S_S32768 (iotaInDim S32768 32 0) (id (constantI S_ 32 64#32)) (ix1 j) (a := j.val) (b := 64) rfl rfl
    (by have := j.isLt; omega) (by decide) (by decide)

theorem krV_at (j : Fin 32768) : krV (ix2 0 j) = BitVec.ofNat 32 (j.val / 64) := by
  rw [← kbV_at]; unfold krV; pointwise

theorem qmV_at (i : Fin 256) (j : Fin 32768) : qmV (ix2 i j) = BitVec.ofNat 32 (i.val / 64) := by
  rw [← qbV_at]; unfold qmV qcV; pointwise

theorem kmV_at (i : Fin 256) (j : Fin 32768) : kmV (ix2 i j) = BitVec.ofNat 32 (j.val / 64) := by
  rw [← kbV_at]; unfold kmV krV; pointwise

theorem remV_at (i : Fin 256) (j : Fin 32768) : remV (ix2 i j) = BitVec.ofNat 32 ((i.val / 64 + j.val / 64) % 3) :=
  Routing.pyRem_ap bcast_S_S256x32768 (addi qmV kmV) (id (constantI S_ 32 3#32)) (ix2 i j) (a := i.val / 64 + j.val / 64) (b := 3)
    (by rw [Routing.addi_ap, qmV_at, kmV_at, BitVec.ofNat_add]) rfl (by have := i.isLt; have := j.isLt; omega) (by decide) (by decide)

theorem word_eq (a b : ℕ) (ha : a < 2 ^ 32) (hb : b < 2 ^ 32) :
    IntOp.cmpi .eq (BitVec.ofNat 32 a) (BitVec.ofNat 32 b) = 1#1 ↔ a = b := by
  rw [Idealize.ShloMosaic.StableHlo.Predicate.cmpi_eq_iff]
  constructor
  · intro h
    have := congrArg BitVec.toNat h
    rwa [BitVec.toNat_ofNat, BitVec.toNat_ofNat, Nat.mod_eq_of_lt ha, Nat.mod_eq_of_lt hb] at this
  · rintro rfl; rfl

theorem bit_or : ∀ a b : BitVec 1, IntOp.ori a b = 1#1 ↔ a = 1#1 ∨ b = 1#1 := by decide

theorem maskV_at (i : Fin 256) (j : Fin 32768) : maskV (ix2 i j) = 1#1 ↔ Kept (i.val / 64) (j.val / 64) := by
  have hi := i.isLt
  have hj := j.isLt
  have e : maskV (ix2 i j) = IntOp.ori (IntOp.ori (IntOp.cmpi .eq (qmV (ix2 i j)) (kmV (ix2 i j))) (IntOp.cmpi .eq (krV (ix2 0 j)) 0#32))
      (IntOp.cmpi .eq (remV (ix2 i j)) 0#32) := by
    unfold maskV; pointwise
  rw [e, bit_or, bit_or, qmV_at, kmV_at, krV_at, remV_at, word_eq _ _ (by omega) (by omega), word_eq _ 0 (by omega) (by decide),
    word_eq _ 0 (by omega) (by decide), or_assoc]

/-- A fold by `or` that meets a one is one. -/
theorem foldl_or {ι : Type} (f : ι → BitVec 1) :
    ∀ (l : List ι) (init : BitVec 1), (init = 1#1 ∨ ∃ n ∈ l, f n = 1#1) → l.foldl (fun r n => IntOp.ori r (f n)) init = 1#1
  | [], init, h => h.elim id fun ⟨_, hn, _⟩ => nomatch hn
  | a :: l, init, h => foldl_or f l _ (by
      rcases h with h | ⟨n, hn, e⟩
      · exact Or.inl ((bit_or _ _).2 (Or.inl h))
      · rcases List.mem_cons.1 hn with rfl | hn
        · exact Or.inl ((bit_or _ _).2 (Or.inr e))
        · exact Or.inr ⟨n, hn, e⟩)

/-- Every query sees the first key. -/
theorem keepV_at (i : Fin 256) : keepV (ix1 i) = 1#1 := by
  unfold keepV
  rw [Host.reduce_eq_foldl]
  refine foldl_or _ _ _ (Or.inr ⟨ix2 i 0, ?_, (maskV_at i 0).2 (Or.inr (Or.inl rfl))⟩)
  rw [List.mem_filter]
  refine ⟨List.mem_map.2 ⟨S256x32768.rowMajor (ix2 i 0), List.mem_finRange _, Equiv.symm_apply_apply _ _⟩, ?_⟩
  simp only [decide_eq_true_eq]
  funext a
  match a with
  | ⟨0, _⟩ => rfl

end Cert.ReferenceIdeal.Hand

end
-- ==== Proof.ReferenceIdeal.ValueAt.lean ====
/- The reference's stages at an index, over the extended reals. -/
module

public import proofs.«01_k».proof.Proof.ReferenceIdeal.Mask
public import proofs.«01_k».proof.Proof.KernelIdeal.ValueOps

@[expose] public section

noncomputable section

namespace Cert.ReferenceIdeal.Hand

open Idealize.ShloMosaic Idealize.SL.Sem
open Cert.ReferenceIdeal Cert.ReferenceIdeal.Gen Cert.Value
open Cert.KernelIdeal.Hand (lane headOf laneOf lane_of)
open scoped BigOperators

variable (x : FVec Ideal S1x256x1024 .f32) (wq : FVec Ideal S1024x1024 .f32) (k v : FVec Ideal S1x32768x8x128 .f32)
  (wo : FVec Ideal S1024x1024 .f32)

theorem bit_select {α : Type} (b : BitVec 1) (P : Prop) [Decidable P] (h : b = 1#1 ↔ P) (u w : α) :
    Scalar.select b u w = if P then u else w := by
  by_cases hp : P
  · rw [if_pos hp, h.2 hp]; rfl
  · rw [if_neg hp]
    have : ∀ c : BitVec 1, c ≠ 1#1 → c = 0#1 := by decide
    rw [this b fun e => hp (h.1 e)]; rfl

theorem qV_at (i : Fin 256) (h : Fin 8) (d : Fin 128) :
    qV x wq (ix4 0 i h d) = ∑ n : Fin 1024, x (ix3 0 i n) * wq (ix2 n (lane h d)) := by
  unfold qV
  pointwise
  refine Finset.sum_congr rfl fun n _ => congrArg (fun a : Fin 1024 => x (ix3 0 i n) * wq (ix2 n a)) (Fin.ext ?_)
  show h.val * 128 + d.val = 128 * h.val + d.val
  omega

/-- The reference's scale, and its mask value. -/
theorem scale_lit : Ideal.ofBits .f32 0x3DB504F3#32 = ((11863283 / 134217728 : ℝ) : EReal) := by
  simp [Ideal.ofBits, Ideal.ieee, FTy.bits, -EReal.coe_mul]
  norm_num

theorem mask_lit : Ideal.ofBits .f32 0xFF800000#32 = ⊥ := by
  simp [Ideal.ofBits, Ideal.ieee, FTy.bits]

theorem scV_at (q : FVec Ideal S1x256x8x128 .f32) (h : Fin 8) (i : Fin 256) (j : Fin 32768) :
    scV k q (ix4 0 h i j) = if Kept (i.val / 64) (j.val / 64) then
      (∑ d : Fin 128, q (ix4 0 i h d) * k (ix4 0 j h d)) * ((11863283 / 134217728 : ℝ) : EReal) else ⊥ := by
  have e : scV k q (ix4 0 h i j) = Scalar.select (maskV (ix2 i j))
      ((∑ d : Fin 128, q (ix4 0 i h d) * k (ix4 0 j h d)) * (FloatOps.ofBits (F := Ideal) .f32 0x3DB504F3#32)) (FloatOps.ofBits (F := Ideal) .f32 0xFF800000#32) := by
    unfold scV
    pointwise
    rfl
  rw [e, bit_select _ _ (maskV_at i j)]
  show (if _ then _ * Ideal.ofBits .f32 0x3DB504F3#32 else Ideal.ofBits .f32 0xFF800000#32) = _
  rw [scale_lit, mask_lit]

theorem mxV_at (sc : FVec Ideal S1x8x256x32768 .f32) (h : Fin 8) (i : Fin 256) :
    mxV sc (ix3 0 h i) = Finset.univ.fold max ⊥ fun j : Fin 32768 => sc (ix4 0 h i j) := by
  unfold mxV
  pointwise
  rw [mask_lit]

theorem exV_at (sc : FVec Ideal S1x8x256x32768 .f32) (mx : FVec Ideal S1x8x256 .f32) (h : Fin 8) (i : Fin 256) (j : Fin 32768) :
    exV sc mx (ix4 0 h i j) = Ideal.exp (sc (ix4 0 h i j) - mx (ix3 0 h i)) := by
  unfold exV
  pointwise

theorem smV_at (ex : FVec Ideal S1x8x256x32768 .f32) (h : Fin 8) (i : Fin 256) :
    smV ex (ix4 0 h i 0) = ∑ j : Fin 32768, ex (ix4 0 h i j) := by
  have e : smV ex (ix4 0 h i 0) = Scalar.select (keepV (ix1 i)) (∑ j : Fin 32768, ex (ix4 0 h i j)) (FloatOps.ofBits (F := Ideal) .f32 0x3F800000#32) := by
    unfold smV
    pointwise
    exact congrArg (Scalar.select _ _) (by first | rfl | (show Ideal.ofBits .f32 0x3F800000#32 = 1; simp [Ideal.ofBits, Ideal.ieee, FTy.bits, -EReal.coe_mul]; norm_num) | (show Ideal.ofBits .f32 0#32 = 0; exact Ideal.ofBits_zero_f32))
  rw [e, keepV_at]; rfl

theorem wtV_at (ex : FVec Ideal S1x8x256x32768 .f32) (sm : FVec Ideal S1x8x256x1 .f32) (h : Fin 8) (i : Fin 256) (j : Fin 32768) :
    wtV ex sm (ix4 0 h i j) = Ideal.div (ex (ix4 0 h i j)) (sm (ix4 0 h i 0)) := by
  have e : wtV ex sm (ix4 0 h i j) = Scalar.select (keepV (ix1 i)) (Ideal.div (ex (ix4 0 h i j)) (sm (ix4 0 h i 0))) (FloatOps.ofBits (F := Ideal) .f32 0x00000000#32) := by
    unfold wtV
    pointwise
    exact congrArg (Scalar.select _ _) (by first | rfl | (show Ideal.ofBits .f32 0x3F800000#32 = 1; simp [Ideal.ofBits, Ideal.ieee, FTy.bits, -EReal.coe_mul]; norm_num) | (show Ideal.ofBits .f32 0#32 = 0; exact Ideal.ofBits_zero_f32))
  rw [e, keepV_at]; rfl

theorem ctxV_at (wt : FVec Ideal S1x8x256x32768 .f32) (i : Fin 256) (h : Fin 8) (d : Fin 128) :
    ctxV v wt (ix3 0 i (lane h d)) = ∑ j : Fin 32768, v (ix4 0 j h d) * wt (ix4 0 h i j) := by
  unfold ctxV
  pointwise
  have hh : (⟨(lane h d).val / 128, by have := (lane h d).isLt; omega⟩ : Fin 8) = h := Fin.ext (by simp only [lane]; omega)
  have hd : (⟨(lane h d).val % 128, Nat.mod_lt _ (by decide)⟩ : Fin 128) = d := Fin.ext (by simp only [lane]; omega)
  refine Finset.sum_congr rfl fun j _ => ?_
  exact congrArg₂ (fun (h' : Fin 8) (d' : Fin 128) => v (ix4 0 j h' d') * wt (ix4 0 h' i j)) hh hd

theorem outV_at (ctx : FVec Ideal S1x256x1024 .f32) (i : Fin 256) (n : Fin 1024) :
    outV wo ctx (ix3 0 i n) = ∑ e : Fin 1024, ctx (ix3 0 i e) * wo (ix2 e n) := by
  unfold outV
  pointwise

end Cert.ReferenceIdeal.Hand

end
-- ==== Proof.Value.Join.lean ====
/- The kernel's result and the reference's are the same extended reals where the queries' inputs, their weights and the
   keys are finite. -/
module

public import proofs.«01_k».proof.Proof.Value.Math
public import proofs.«01_k».proof.Proof.KernelIdeal.ValueOut
public import proofs.«01_k».proof.Proof.ReferenceIdeal.ValueAt

@[expose] public section

noncomputable section

namespace Cert.Value

open Idealize.ShloMosaic Idealize.ShloMosaic.TcCoe Idealize.SL.Sem
open Cert.KernelIdeal.Hand (lane headOf laneOf lane_of xAt wqAt woAt kvAt wtAt qs qs_at s2 uSum lSum outC outC_at chOf)
open Cert.ReferenceIdeal.Hand (resV qV scV mxV exV smV wtV ctxV qV_at scV_at mxV_at exV_at smV_at wtV_at ctxV_at outV_at)
open scoped BigOperators

/-- Key `k` of device `c`, among all keys. -/
def keyOf (c : Fin 8) (k : Fin 4096) : Fin 32768 := ⟨4096 * c.val + k.val, by omega⟩

/-- A sum of products of reals. -/
theorem coe_dot {ι : Type*} [Fintype ι] (a b : ι → ℝ) : ∑ k, (a k : EReal) * (b k : EReal) = ((∑ k, a k * b k : ℝ) : EReal) := by
  rw [coe_sum]; exact Finset.sum_congr rfl fun k _ => (EReal.coe_mul _ _).symm

theorem join (m : (ℓ : Loc Cert.KernelIdeal.nD Cert.KernelIdeal.τ Cert.KernelIdeal.sig) → Buf (Elt Ideal) ℓ)
    (x : FVec Ideal Cert.ReferenceIdeal.S1x256x1024 .f32) (wq : FVec Ideal Cert.ReferenceIdeal.S1024x1024 .f32)
    (k v : FVec Ideal Cert.ReferenceIdeal.S1x32768x8x128 .f32) (wo : FVec Ideal Cert.ReferenceIdeal.S1024x1024 .f32)
    (hx : ∀ c i n, xAt m c i n = x (ix3 0 i n)) (hwq : ∀ c a n, wqAt m c a n = wq (ix2 a n)) (hwo : ∀ c e n, woAt m c e n = wo (ix2 e n))
    (hk : ∀ (c : Fin 8) (a : Fin 4096) (h : Fin 8) (d : Fin 128), kvAt m c 0 a h d = k (ix4 0 (keyOf c a) h d))
    (hv : ∀ (c : Fin 8) (a : Fin 4096) (h : Fin 8) (d : Fin 128), kvAt m c 1 a h d = v (ix4 0 (keyOf c a) h d))
    (rx : ∀ (i : Fin 256) (n : Fin 1024), ∃ r : ℝ, x (ix3 0 i n) = (r : EReal))
    (rw' : ∀ (a n : Fin 1024), ∃ r : ℝ, wq (ix2 a n) = (r : EReal))
    (rk : ∀ (j : Fin 32768) (h : Fin 8) (d : Fin 128), ∃ r : ℝ, k (ix4 0 j h d) = (r : EReal))
    (c : Fin 8) (i : Fin 256) (n : Fin 1024) :
    outC m c (ix3 0 i n) = resV x wq k v wo (ix3 0 i n) := by
  choose X hX using rx
  choose W hW using rw'
  choose K hK using rk
  -- the queries
  have hQ : ∀ e : Fin 1024, (∑ a : Fin 1024, x (ix3 0 i a) * wq (ix2 a e)) = ((∑ a : Fin 1024, X i a * W a e : ℝ) : EReal) := fun e => by
    simp only [hX, hW]; exact coe_dot _ _
  -- the scores
  let s : Fin 8 → Fin 32768 → ℝ := fun h j => (∑ d : Fin 128, (∑ a : Fin 1024, X i a * W a (lane h d)) * K j h d) * (11863283 / 134217728)
  have hwt : ∀ (c' : Fin 8) (h : Fin 8) (a : Fin 4096), wtAt m c' i h a = Ideal.exp (s h (keyOf c' a) : EReal) := fun c' h a => by
    unfold wtAt
    simp only [qs_at, hx, hwq, hk, hQ, hK]
    exact score_exp (fun d => ∑ a : Fin 1024, X i a * W a (lane h d)) (fun d => K (keyOf c' a) h d) (11863283 / 134217728)
  have hu : ∀ (h : Fin 8) (d : Fin 128), uSum m i h d
      = ∑ j : Fin 32768, (if Kept (i.val / 64) (j.val / 64) then Ideal.exp (s h j : EReal) else 0) * v (ix4 0 j h d) := fun h d => by
    unfold uSum
    simp only [hwt, hv, ite_mul, zero_mul]
    exact (sum_all (chOf i) fun j => Ideal.exp (s h j : EReal) * v (ix4 0 j h d)).symm
  have hl : ∀ h : Fin 8, lSum m i h
      = ∑ j : Fin 32768, if Kept (i.val / 64) (j.val / 64) then Ideal.exp (s h j : EReal) else 0 := fun h => by
    unfold lSum
    simp only [hwt]
    exact (sum_all (chOf i) fun j => Ideal.exp (s h j : EReal)).symm
  have hs : ∀ (h : Fin 8) (j : Fin 32768), scV k (qV x wq) (ix4 0 h i j)
      = if Kept (i.val / 64) (j.val / 64) then (s h j : EReal) else ⊥ := fun h j => by
    rw [scV_at]
    simp only [qV_at, hQ, hK]
    rw [coe_dot, ← EReal.coe_mul]
  rw [outC_at]
  unfold resV
  rw [outV_at]
  refine Finset.sum_congr rfl fun e _ => ?_
  rw [hwo]
  refine congrArg (· * wo (ix2 e n)) ?_
  rw [hu, hl, attend (fun j : Fin 32768 => Kept (i.val / 64) (j.val / 64)) ⟨0, Or.inr (Or.inl rfl)⟩ (s (headOf e)) (fun j => v (ix4 0 j (headOf e) (laneOf e))) _ rfl]
  have hc := ctxV_at v (wtV (exV (scV k (qV x wq)) (mxV (scV k (qV x wq)))) (smV (exV (scV k (qV x wq)) (mxV (scV k (qV x wq)))))) i (headOf e) (laneOf e)
  rw [lane_of] at hc
  rw [hc]
  simp only [wtV_at, smV_at, exV_at, mxV_at, hs]

end Cert.Value

end
-- ==== Proof.Value.Finite.lean ====
/- What the precondition says: the queries' inputs, their weights and the keys are real numbers. -/
module

public import proofs.«01_k».proof.Defs
public import proofs.«01_k».proof.Proof.Gen.Pre_finite_scores_KernelIdeal
public import Idealize.ShloMosaic.Lib.ReduceAll
public import Idealize.ShloMosaic.Lib.Pointwise

@[expose] public section

noncomputable section

namespace Cert.Value

open Idealize.ShloMosaic Idealize.SL.Sem
open Cert.Pre_finite_scores_KernelIdeal Cert.Pre_finite_scores_KernelIdeal.Gen

theorem bit_and : ∀ a b : BitVec 1, IntOp.andi a b = 1#1 ↔ a = 1#1 ∧ b = 1#1 := by decide

/-- Strictly between the two infinities means real. -/
theorem real_of_between (y : EReal)
    (h : IntOp.andi (FloatOps.cmpf (F := Ideal) (φ := .f32) .ogt y (FloatOps.ofBits (F := Ideal) .f32 0xFF800000#32))
      (FloatOps.cmpf (F := Ideal) (φ := .f32) .olt y (FloatOps.ofBits (F := Ideal) .f32 0x7F800000#32)) = 1#1) : ∃ r : ℝ, y = (r : EReal) := by
  obtain ⟨h1, h2⟩ := (bit_and _ _).1 h
  have b1 : Ideal.ofBits .f32 0xFF800000#32 = ⊥ := by simp [Ideal.ofBits, Ideal.ieee, FTy.bits]
  have b2 : Ideal.ofBits .f32 0x7F800000#32 = ⊤ := by simp [Ideal.ofBits, Ideal.ieee, FTy.bits]
  have l1 : y ≠ ⊥ := by
    rintro rfl
    have : (FloatOps.cmpf (F := Ideal) (φ := .f32) .ogt (⊥ : EReal) (Ideal.ofBits .f32 0xFF800000#32)) = 1#1 := h1
    rw [b1] at this
    simp [FloatOps.cmpf, Ideal.cmp] at this
  have l2 : y ≠ ⊤ := by
    rintro rfl
    have : (FloatOps.cmpf (F := Ideal) (φ := .f32) .olt (⊤ : EReal) (Ideal.ofBits .f32 0x7F800000#32)) = 1#1 := h2
    rw [b2] at this
    simp [FloatOps.cmpf, Ideal.cmp] at this
  exact ⟨y.toReal, (EReal.coe_toReal l2 l1).symm⟩

theorem pre_real (x : FVec Ideal S1x256x1024 .f32) (wq : FVec Ideal S1024x1024 .f32) (k v : FVec Ideal S1x4096x8x128 .f32)
    (wo : FVec Ideal S1024x1024 .f32) (h : fn (F := Ideal) x wq k v wo = fun _ => 1#1) :
    (∀ i, ∃ r : ℝ, x i = (r : EReal)) ∧ (∀ i, ∃ r : ℝ, wq i = (r : EReal)) ∧ (∀ i, ∃ r : ℝ, k i = (r : EReal)) := by
  have h0 := congrFun h (Shape.Idx.first h_S_)
  obtain ⟨h12, h3⟩ := (bit_and _ _).1 h0
  obtain ⟨h1, h2⟩ := (bit_and _ _).1 h12
  haveI : Subsingleton S_.Idx := ⟨fun a b => funext fun j => j.elim0⟩
  exact ⟨fun i => real_of_between _ (Host.reduce_andi_all _ _ _ _ _ h1 i), fun i => real_of_between _ (Host.reduce_andi_all _ _ _ _ _ h2 i),
    fun i => real_of_between _ (Host.reduce_andi_all _ _ _ _ _ h3 i)⟩

end Cert.Value

end
-- ==== Proof.Value.Agree.lean ====
/- The value claim's equation: each device's result is the reference's whole result, from memories that hold the same
   arrays, the keys and values cut in eight. -/
module

public import proofs.«01_k».proof.Proof.Value.Join
public import proofs.«01_k».proof.Proof.Value.Finite
public import Idealize.ShloMosaic.Lib.Layout

@[expose] public section

noncomputable section

namespace Cert.Value

open Idealize.ShloMosaic Idealize.ShloMosaic.TcCoe Idealize.SL.Sem
open Cert.KernelIdeal.Hand (xAt wqAt woAt kvAt outC)
open Cert.ReferenceIdeal.Hand (resV)

abbrev KMem : Type := (ℓ : Loc Cert.KernelIdeal.nD Cert.KernelIdeal.τ Cert.KernelIdeal.sig) → Buf (Elt Ideal) ℓ

/-- Where key `a` of device `c` lies in the whole array. -/
theorem block_key (c : Fin 8) (f : (⟨4, ![1, 32768, 8, 128]⟩ : Shape).Idx → EReal) (a : Fin 4096) (h : Fin 8) (d : Fin 128) :
    Layout.block ⟨4, ![1, 4096, 8, 128]⟩ ⟨4, ![1, 32768, 8, 128]⟩ 1 8 c f (by decide) (ix4 0 a h d) = f (ix4 0 (keyOf c a) h d) := by
  rw [Layout.block_apply]
  refine congrArg f (funext fun j => Fin.ext ?_)
  rw [Layout.Tiles.idx_val]
  match j with
  | ⟨0, _⟩ => rfl
  | ⟨1, _⟩ => show c.val * 4096 + a.val = 4096 * c.val + a.val; omega
  | ⟨2, _⟩ => rfl
  | ⟨3, _⟩ => rfl

/-- Every key lies on a device. -/
theorem key_split (j : Fin 32768) : ∃ (c : Fin 8) (a : Fin 4096), j = keyOf c a :=
  ⟨⟨j.val / 4096, by have := j.isLt; omega⟩, ⟨j.val % 4096, Nat.mod_lt _ (by decide)⟩, Fin.ext (by simp only [keyOf]; omega)⟩

theorem agree (m : KMem)
    (x : FVec Ideal Cert.ReferenceIdeal.S1x256x1024 .f32) (wq : FVec Ideal Cert.ReferenceIdeal.S1024x1024 .f32)
    (k v : FVec Ideal Cert.ReferenceIdeal.S1x32768x8x128 .f32) (wo : FVec Ideal Cert.ReferenceIdeal.S1024x1024 .f32)
    (hpre : Cert.Pre_KernelIdeal_finite_scores_KernelIdeal m)
    (h : ∀ c : Dev Cert.KernelIdeal.nD,
      m ((c.tc : Thread Cert.KernelIdeal.nD Cert.KernelIdeal.τ).loc Cert.KernelIdeal.main_arg0) = x
      ∧ m ((c.tc : Thread Cert.KernelIdeal.nD Cert.KernelIdeal.τ).loc Cert.KernelIdeal.main_arg1) = wq
      ∧ m ((c.tc : Thread Cert.KernelIdeal.nD Cert.KernelIdeal.τ).loc Cert.KernelIdeal.main_arg2) = Layout.block ⟨4, ![1, 4096, 8, 128]⟩ ⟨4, ![1, 32768, 8, 128]⟩ 1 8 c k
      ∧ m ((c.tc : Thread Cert.KernelIdeal.nD Cert.KernelIdeal.τ).loc Cert.KernelIdeal.main_arg3) = Layout.block ⟨4, ![1, 4096, 8, 128]⟩ ⟨4, ![1, 32768, 8, 128]⟩ 1 8 c v
      ∧ m ((c.tc : Thread Cert.KernelIdeal.nD Cert.KernelIdeal.τ).loc Cert.KernelIdeal.main_arg4) = wo)
    (c : Dev Cert.KernelIdeal.nD) : outC m c = resV x wq k v wo := by
  have hk : ∀ (c : Fin 8) (a : Fin 4096) (h' : Fin 8) (d : Fin 128), kvAt m c 0 a h' d = k (ix4 0 (keyOf c a) h' d) :=
    fun c a h' d => (congrFun (h c).2.2.1 (ix4 0 a h' d)).trans (block_key c k a h' d)
  have hv : ∀ (c : Fin 8) (a : Fin 4096) (h' : Fin 8) (d : Fin 128), kvAt m c 1 a h' d = v (ix4 0 (keyOf c a) h' d) :=
    fun c a h' d => (congrFun (h c).2.2.2.1 (ix4 0 a h' d)).trans (block_key c v a h' d)
  have hx : ∀ c i n, xAt m c i n = x (ix3 0 i n) := fun c i n => congrFun (h c).1 (ix3 0 i n)
  have hw : ∀ c a n, wqAt m c a n = wq (ix2 a n) := fun c a n => congrFun (h c).2.1 (ix2 a n)
  have hp := fun c : Dev Cert.KernelIdeal.nD => pre_real _ _ _ _ _ (hpre c)
  funext j
  have hj : j = ix3 0 (j 1) (j 2) := by
    funext a
    match a with
    | ⟨0, _⟩ => exact Subsingleton.elim (α := Fin 1) _ _
    | ⟨1, _⟩ => rfl
    | ⟨2, _⟩ => rfl
  rw [hj]
  refine join m x wq k v wo hx hw (fun c e n => congrFun (h c).2.2.2.2 (ix2 e n)) hk hv (fun i n => ?_) (fun a n => ?_) (fun j h' d => ?_) c (j 1) (j 2)
  · obtain ⟨r, hr⟩ := (hp 0).1 (ix3 0 i n); exact ⟨r, (hx 0 i n).symm.trans hr⟩
  · obtain ⟨r, hr⟩ := (hp 0).2.1 (ix2 a n); exact ⟨r, (hw 0 a n).symm.trans hr⟩
  · obtain ⟨c', a, rfl⟩ := key_split j
    obtain ⟨r, hr⟩ := (hp c').2.2 (ix4 0 a h' d)
    exact ⟨r, (hk c' a h' d).symm.trans hr⟩

end Cert.Value

end
-- ==== Proof.lean ====
/- The claims, assembled: each program's frame from its run, the named constants, and the value. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Kernel.Launch
public import proofs.«01_k».proof.Proof.KernelIdeal.Launch
public import proofs.«01_k».proof.Proof.KernelIdeal.ValueFinal
public import proofs.«01_k».proof.Proof.ReferenceIdeal.Run
public import proofs.«01_k».proof.Proof.Value.Agree
public import Idealize.ShloMosaic.Adequacy
public import Idealize.ShloMosaic.Init

@[expose] public section

noncomputable section

namespace Cert.Proof

open Idealize.ShloMosaic Idealize.SL.Sem

/-- The kernel ends with its arguments kept and every counter at zero. -/
theorem kernel_frame : letI := Cert.Kernel.Gen.facts; Cert.quiescent_Kernel := fun m g _ =>
  (θ_run _ _ _).mono (fun _ h => ⟨fun c => (h.1 c).2, h.2⟩) (Cert.Kernel.Hand.run_kept m g)

/-- So does the kernel over the extended reals. -/
theorem ideal_frame : letI := Cert.KernelIdeal.Gen.facts; Cert.quiescent_KernelIdeal := fun m g _ =>
  (θ_run _ _ _).mono (fun _ h => ⟨fun c => (h.1 c).2, h.2⟩) (Cert.KernelIdeal.Hand.run_kept m g)

/-- So does the reference, which has no counters. -/
theorem reference_frame : letI := Cert.ReferenceIdeal.Gen.facts; Cert.quiescent_ReferenceIdeal := fun m g _ =>
  (θ_run _ _ _).mono (fun r h => ⟨h, sem_eq_zero_of_no_sems Cert.ReferenceIdeal.Hand.no_sems r.2⟩) (Cert.ReferenceIdeal.Hand.kept m g)

/-- The two named constants. -/
theorem named : Cert.preserves_Kernel_KernelIdeal :=
  ⟨IdealRules.named_const.statement _ _ _ _ _ rfl, IdealRules.named_const.statement _ _ _ _ _ rfl⟩

/-- The kernel's result, on every device, is the reference's. -/
theorem value : letI := Cert.KernelIdeal.Gen.facts; letI := Cert.ReferenceIdeal.Gen.facts; letI := Cert.Pre_finite_scores_KernelIdeal.Gen.facts
    Cert.algebraic_KernelIdeal_ReferenceIdeal_pre_finite_scores_KernelIdeal := fun m g m' g' hpre hargs =>
  ⟨Cert.ReferenceIdeal.Value.res_main_v44 m' 0,
    (θ_run _ _ _).mono (fun _ h c => ⟨((h.1 c).1).trans ((Cert.Value.agree m _ _ _ _ _ hpre hargs c).trans
      (Cert.ReferenceIdeal.Hand.res_eq m' 0).symm), (h.1 c).2⟩) (Cert.KernelIdeal.Hand.run_out m g),
    (θ_run _ _ _).mono (fun _ h => h 0) (Cert.ReferenceIdeal.Value.run m' g')⟩

theorem claim : Cert.Claim :=
  ⟨Cert.Kernel.Gen.facts, Cert.KernelIdeal.Gen.facts, Cert.ReferenceIdeal.Gen.facts, Cert.Pre_finite_scores_KernelIdeal.Gen.facts,
    Cert.Pre_finite_scores_ReferenceIdeal.Gen.facts, kernel_frame, ideal_frame, fun m g _ => ideal_frame m g trivial, reference_frame,
    fun m g _ => reference_frame m g trivial, named, value⟩

end Cert.Proof

end
